-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampledIdeal (m : (ℓ : Loc Cert.SampledIdeal.nD Cert.SampledIdeal.τ Cert.SampledIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2)
      ∧ r.2.mem ((c.tc : Thread Cert.ProjectedIdeal.nD Cert.ProjectedIdeal.τ).loc Cert.ProjectedIdeal.main_arg3) = m ((c.tc : Thread Cert.ProjectedIdeal.nD Cert.ProjectedIdeal.τ).loc Cert.ProjectedIdeal.main_arg3)
      ∧ r.2.mem ((c.tc : Thread Cert.ProjectedIdeal.nD Cert.ProjectedIdeal.τ).loc Cert.ProjectedIdeal.main_arg4) = m ((c.tc : Thread Cert.ProjectedIdeal.nD Cert.ProjectedIdeal.τ).loc Cert.ProjectedIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampledIdeal [hSampledIdeal : Cert.SampledIdeal.Facts] : Prop :=
  ∀ (m : (ℓ : Loc Cert.SampledIdeal.nD Cert.SampledIdeal.τ Cert.SampledIdeal.sig) → Buf (Elt Ideal) ℓ) (g : Dev Cert.SampledIdeal.nD → PrngReg), Pre_SampledIdeal m →
    θ_run (Cert.SampledIdeal.defs (F := Ideal)) (onTc (τ := Cert.SampledIdeal.τ) (Cert.SampledIdeal.main (F := Ideal))) ⟨m, fun _ => 0, g⟩ (fun r => (∀ c : Dev Cert.SampledIdeal.nD,
      r.2.mem ((c.tc : Thread Cert.SampledIdeal.nD Cert.SampledIdeal.τ).loc Cert.SampledIdeal.main_arg0) = m ((c.tc : Thread Cert.SampledIdeal.nD Cert.SampledIdeal.τ).loc Cert.SampledIdeal.main_arg0)
      ∧ r.2.mem ((c.tc : Thread Cert.SampledIdeal.nD Cert.SampledIdeal.τ).loc Cert.SampledIdeal.main_arg1) = m ((c.tc : Thread Cert.SampledIdeal.nD Cert.SampledIdeal.τ).loc Cert.SampledIdeal.main_arg1)
      ∧ r.2.mem ((c.tc : Thread Cert.SampledIdeal.nD Cert.SampledIdeal.τ).loc Cert.SampledIdeal.main_arg2) = m ((c.tc : Thread Cert.SampledIdeal.nD Cert.SampledIdeal.τ).loc Cert.SampledIdeal.main_arg2)
      ∧ r.2.mem ((c.tc : Thread Cert.SampledIdeal.nD Cert.SampledIdeal.τ).loc Cert.SampledIdeal.main_arg3) = m ((c.tc : Thread Cert.SampledIdeal.nD Cert.SampledIdeal.τ).loc Cert.SampledIdeal.main_arg3)
      ∧ r.2.mem ((c.tc : Thread Cert.SampledIdeal.nD Cert.SampledIdeal.τ).loc Cert.SampledIdeal.main_arg4) = m ((c.tc : Thread Cert.SampledIdeal.nD Cert.SampledIdeal.τ).loc Cert.SampledIdeal.main_arg4))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Projection_ProjectionIdeal : Prop :=
  True

def algebraic_ProjectionIdeal_ProjectedIdeal [hProjectionIdeal : Cert.ProjectionIdeal.Facts] [hProjectedIdeal : Cert.ProjectedIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectionIdeal m →
    (∀ c : Dev Cert.ProjectionIdeal.nD,
      m' ((c.tc : Thread Cert.ProjectedIdeal.nD Cert.ProjectedIdeal.τ).loc Cert.ProjectedIdeal.main_arg0) = m ((c.tc : Thread Cert.ProjectionIdeal.nD Cert.ProjectionIdeal.τ).loc Cert.ProjectionIdeal.main_arg0)
      ∧ m' ((c.tc : Thread Cert.ProjectedIdeal.nD Cert.ProjectedIdeal.τ).loc Cert.ProjectedIdeal.main_arg1) = m ((c.tc : Thread Cert.ProjectionIdeal.nD Cert.ProjectionIdeal.τ).loc Cert.ProjectionIdeal.main_arg1)
      ∧ m' ((c.tc : Thread Cert.ProjectedIdeal.nD Cert.ProjectedIdeal.τ).loc Cert.ProjectedIdeal.main_arg2) = m ((c.tc : Thread Cert.ProjectionIdeal.nD Cert.ProjectionIdeal.τ).loc Cert.ProjectionIdeal.main_arg2)
      ∧ m' ((c.tc : Thread Cert.ProjectedIdeal.nD Cert.ProjectedIdeal.τ).loc Cert.ProjectedIdeal.main_arg3) = m ((c.tc : Thread Cert.ProjectionIdeal.nD Cert.ProjectionIdeal.τ).loc Cert.ProjectionIdeal.main_arg3)
      ∧ m' ((c.tc : Thread Cert.ProjectedIdeal.nD Cert.ProjectedIdeal.τ).loc Cert.ProjectedIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v32_0)) (v1 : (c : Dev Cert.ProjectionIdeal.nD) → Buf (Elt Ideal) ((c.tc : Thread Cert.ProjectionIdeal.nD Cert.ProjectionIdeal.τ).loc Cert.ProjectionIdeal.main_v32_1)) (v2 : (c : Dev Cert.ProjectionIdeal.nD) → Buf (Elt Ideal) ((c.tc : Thread Cert.ProjectionIdeal.nD Cert.ProjectionIdeal.τ).loc Cert.ProjectionIdeal.main_v32_2)) (v3 : (c : Dev Cert.ProjectionIdeal.nD) → Buf (Elt Ideal) ((c.tc : Thread Cert.ProjectionIdeal.nD Cert.ProjectionIdeal.τ).loc Cert.ProjectionIdeal.main_v32_3)) (v4 : (c : Dev Cert.ProjectionIdeal.nD) → Buf (Elt Ideal) ((c.tc : Thread Cert.ProjectionIdeal.nD Cert.ProjectionIdeal.τ).loc Cert.ProjectionIdeal.main_v32_4)) (v5 : (c : Dev Cert.ProjectionIdeal.nD) → Buf (Elt Ideal) ((c.tc : Thread Cert.ProjectionIdeal.nD Cert.ProjectionIdeal.τ).loc Cert.ProjectionIdeal.main_v32_5)) (v6 : (c : Dev Cert.ProjectionIdeal.nD) → Buf (Elt Ideal) ((c.tc : Thread Cert.ProjectionIdeal.nD Cert.ProjectionIdeal.τ).loc Cert.ProjectionIdeal.main_v32_6)) (v7 : (c : Dev Cert.ProjectionIdeal.nD) → Buf (Elt Ideal) ((c.tc : Thread Cert.ProjectionIdeal.nD Cert.ProjectionIdeal.τ).loc Cert.ProjectionIdeal.main_v32_7)) (v8 : (c : Dev Cert.ProjectionIdeal.nD) → Buf (Elt Ideal) ((c.tc : Thread Cert.ProjectionIdeal.nD Cert.ProjectionIdeal.τ).loc Cert.ProjectionIdeal.main_v32_8)) (v9 : (c : Dev Cert.ProjectionIdeal.nD) → Buf (Elt Ideal) ((c.tc : Thread Cert.ProjectionIdeal.nD Cert.ProjectionIdeal.τ).loc Cert.ProjectionIdeal.main_v32_9)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v32_0) = v0 c
          ∧ r.2.mem ((c.tc : Thread Cert.ProjectionIdeal.nD Cert.ProjectionIdeal.τ).loc Cert.ProjectionIdeal.main_v32_1) = v1 c
          ∧ r.2.mem ((c.tc : Thread Cert.ProjectionIdeal.nD Cert.ProjectionIdeal.τ).loc Cert.ProjectionIdeal.main_v32_2) = v2 c
          ∧ r.2.mem ((c.tc : Thread Cert.ProjectionIdeal.nD Cert.ProjectionIdeal.τ).loc Cert.ProjectionIdeal.main_v32_3) = v3 c
          ∧ r.2.mem ((c.tc : Thread Cert.ProjectionIdeal.nD Cert.ProjectionIdeal.τ).loc Cert.ProjectionIdeal.main_v32_4) = v4 c
          ∧ r.2.mem ((c.tc : Thread Cert.ProjectionIdeal.nD Cert.ProjectionIdeal.τ).loc Cert.ProjectionIdeal.main_v32_5) = v5 c
          ∧ r.2.mem ((c.tc : Thread Cert.ProjectionIdeal.nD Cert.ProjectionIdeal.τ).loc Cert.ProjectionIdeal.main_v32_6) = v6 c
          ∧ r.2.mem ((c.tc : Thread Cert.ProjectionIdeal.nD Cert.ProjectionIdeal.τ).loc Cert.ProjectionIdeal.main_v32_7) = v7 c
          ∧ r.2.mem ((c.tc : Thread Cert.ProjectionIdeal.nD Cert.ProjectionIdeal.τ).loc Cert.ProjectionIdeal.main_v32_8) = v8 c
          ∧ r.2.mem ((c.tc : Thread Cert.ProjectionIdeal.nD Cert.ProjectionIdeal.τ).loc Cert.ProjectionIdeal.main_v32_9) = v9 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v34) = v0 c
          ∧ r.2.mem ((c.tc : Thread Cert.ProjectedIdeal.nD Cert.ProjectedIdeal.τ).loc Cert.ProjectedIdeal.main_v35) = v1 c
          ∧ r.2.mem ((c.tc : Thread Cert.ProjectedIdeal.nD Cert.ProjectedIdeal.τ).loc Cert.ProjectedIdeal.main_v38) = v2 c
          ∧ r.2.mem ((c.tc : Thread Cert.ProjectedIdeal.nD Cert.ProjectedIdeal.τ).loc Cert.ProjectedIdeal.main_v39) = v3 c
          ∧ r.2.mem ((c.tc : Thread Cert.ProjectedIdeal.nD Cert.ProjectedIdeal.τ).loc Cert.ProjectedIdeal.main_v42) = v4 c
          ∧ r.2.mem ((c.tc : Thread Cert.ProjectedIdeal.nD Cert.ProjectedIdeal.τ).loc Cert.ProjectedIdeal.main_v51) = v5 c
          ∧ r.2.mem ((c.tc : Thread Cert.ProjectedIdeal.nD Cert.ProjectedIdeal.τ).loc Cert.ProjectedIdeal.main_v59) = v6 c
          ∧ r.2.mem ((c.tc : Thread Cert.ProjectedIdeal.nD Cert.ProjectedIdeal.τ).loc Cert.ProjectedIdeal.main_v68) = v7 c
          ∧ r.2.mem ((c.tc : Thread Cert.ProjectedIdeal.nD Cert.ProjectedIdeal.τ).loc Cert.ProjectedIdeal.main_v76) = v8 c
          ∧ r.2.mem ((c.tc : Thread Cert.ProjectedIdeal.nD Cert.ProjectedIdeal.τ).loc Cert.ProjectedIdeal.main_v84) = v9 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2)
          ∧ r.2.mem ((c.tc : Thread Cert.ProjectedIdeal.nD Cert.ProjectedIdeal.τ).loc Cert.ProjectedIdeal.main_arg3) = m' ((c.tc : Thread Cert.ProjectedIdeal.nD Cert.ProjectedIdeal.τ).loc Cert.ProjectedIdeal.main_arg3)
          ∧ r.2.mem ((c.tc : Thread Cert.ProjectedIdeal.nD Cert.ProjectedIdeal.τ).loc Cert.ProjectedIdeal.main_arg4) = m' ((c.tc : Thread Cert.ProjectedIdeal.nD Cert.ProjectedIdeal.τ).loc Cert.ProjectedIdeal.main_arg4))

def preserves_Sample_SampleIdeal : Prop :=
  True

def algebraic_SampleIdeal_SampledIdeal [hSampleIdeal : Cert.SampleIdeal.Facts] [hSampledIdeal : Cert.SampledIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampledIdeal.nD Cert.SampledIdeal.τ Cert.SampledIdeal.sig) → Buf (Elt Ideal) ℓ) (g' : Dev Cert.SampledIdeal.nD → PrngReg), Pre_SampleIdeal m →
    (∀ c : Dev Cert.SampleIdeal.nD,
      m' ((c.tc : Thread Cert.SampledIdeal.nD Cert.SampledIdeal.τ).loc Cert.SampledIdeal.main_arg0) = m ((c.tc : Thread Cert.SampleIdeal.nD Cert.SampleIdeal.τ).loc Cert.SampleIdeal.main_arg0)
      ∧ m' ((c.tc : Thread Cert.SampledIdeal.nD Cert.SampledIdeal.τ).loc Cert.SampledIdeal.main_arg1) = m ((c.tc : Thread Cert.SampleIdeal.nD Cert.SampleIdeal.τ).loc Cert.SampleIdeal.main_arg1)
      ∧ m' ((c.tc : Thread Cert.SampledIdeal.nD Cert.SampledIdeal.τ).loc Cert.SampledIdeal.main_arg2) = m ((c.tc : Thread Cert.SampleIdeal.nD Cert.SampleIdeal.τ).loc Cert.SampleIdeal.main_arg2)
      ∧ m' ((c.tc : Thread Cert.SampledIdeal.nD Cert.SampledIdeal.τ).loc Cert.SampledIdeal.main_arg3) = m ((c.tc : Thread Cert.SampleIdeal.nD Cert.SampleIdeal.τ).loc Cert.SampleIdeal.main_arg3)
      ∧ m' ((c.tc : Thread Cert.SampledIdeal.nD Cert.SampledIdeal.τ).loc Cert.SampledIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v39_0)) (v1 : (c : Dev Cert.SampleIdeal.nD) → Buf (Elt Ideal) ((c.tc : Thread Cert.SampleIdeal.nD Cert.SampleIdeal.τ).loc Cert.SampleIdeal.main_v39_1)) (v2 : (c : Dev Cert.SampleIdeal.nD) → Buf (Elt Ideal) ((c.tc : Thread Cert.SampleIdeal.nD Cert.SampleIdeal.τ).loc Cert.SampleIdeal.main_v39_2)) (v3 : (c : Dev Cert.SampleIdeal.nD) → Buf (Elt Ideal) ((c.tc : Thread Cert.SampleIdeal.nD Cert.SampleIdeal.τ).loc Cert.SampleIdeal.main_v39_3)) (v4 : (c : Dev Cert.SampleIdeal.nD) → Buf (Elt Ideal) ((c.tc : Thread Cert.SampleIdeal.nD Cert.SampleIdeal.τ).loc Cert.SampleIdeal.main_v39_4)) (v5 : (c : Dev Cert.SampleIdeal.nD) → Buf (Elt Ideal) ((c.tc : Thread Cert.SampleIdeal.nD Cert.SampleIdeal.τ).loc Cert.SampleIdeal.main_v39_5)) (v6 : (c : Dev Cert.SampleIdeal.nD) → Buf (Elt Ideal) ((c.tc : Thread Cert.SampleIdeal.nD Cert.SampleIdeal.τ).loc Cert.SampleIdeal.main_v39_6)) (v7 : (c : Dev Cert.SampleIdeal.nD) → Buf (Elt Ideal) ((c.tc : Thread Cert.SampleIdeal.nD Cert.SampleIdeal.τ).loc Cert.SampleIdeal.main_v39_7)) (v8 : (c : Dev Cert.SampleIdeal.nD) → Buf (Elt Ideal) ((c.tc : Thread Cert.SampleIdeal.nD Cert.SampleIdeal.τ).loc Cert.SampleIdeal.main_v39_8)) (v9 : (c : Dev Cert.SampleIdeal.nD) → Buf (Elt Ideal) ((c.tc : Thread Cert.SampleIdeal.nD Cert.SampleIdeal.τ).loc Cert.SampleIdeal.main_v39_9)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v39_0) = v0 c
          ∧ r.2.mem ((c.tc : Thread Cert.SampleIdeal.nD Cert.SampleIdeal.τ).loc Cert.SampleIdeal.main_v39_1) = v1 c
          ∧ r.2.mem ((c.tc : Thread Cert.SampleIdeal.nD Cert.SampleIdeal.τ).loc Cert.SampleIdeal.main_v39_2) = v2 c
          ∧ r.2.mem ((c.tc : Thread Cert.SampleIdeal.nD Cert.SampleIdeal.τ).loc Cert.SampleIdeal.main_v39_3) = v3 c
          ∧ r.2.mem ((c.tc : Thread Cert.SampleIdeal.nD Cert.SampleIdeal.τ).loc Cert.SampleIdeal.main_v39_4) = v4 c
          ∧ r.2.mem ((c.tc : Thread Cert.SampleIdeal.nD Cert.SampleIdeal.τ).loc Cert.SampleIdeal.main_v39_5) = v5 c
          ∧ r.2.mem ((c.tc : Thread Cert.SampleIdeal.nD Cert.SampleIdeal.τ).loc Cert.SampleIdeal.main_v39_6) = v6 c
          ∧ r.2.mem ((c.tc : Thread Cert.SampleIdeal.nD Cert.SampleIdeal.τ).loc Cert.SampleIdeal.main_v39_7) = v7 c
          ∧ r.2.mem ((c.tc : Thread Cert.SampleIdeal.nD Cert.SampleIdeal.τ).loc Cert.SampleIdeal.main_v39_8) = v8 c
          ∧ r.2.mem ((c.tc : Thread Cert.SampleIdeal.nD Cert.SampleIdeal.τ).loc Cert.SampleIdeal.main_v39_9) = v9 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampledIdeal.defs (F := Ideal)) (onTc (τ := Cert.SampledIdeal.τ) (Cert.SampledIdeal.main (F := Ideal))) ⟨m', fun _ => 0, g'⟩ (fun r => ∀ c : Dev Cert.SampledIdeal.nD,
          r.2.mem ((c.tc : Thread Cert.SampledIdeal.nD Cert.SampledIdeal.τ).loc Cert.SampledIdeal.main_v35) = v0 c
          ∧ r.2.mem ((c.tc : Thread Cert.SampledIdeal.nD Cert.SampledIdeal.τ).loc Cert.SampledIdeal.main_v37) = v1 c
          ∧ r.2.mem ((c.tc : Thread Cert.SampledIdeal.nD Cert.SampledIdeal.τ).loc Cert.SampledIdeal.main_v42) = v2 c
          ∧ r.2.mem ((c.tc : Thread Cert.SampledIdeal.nD Cert.SampledIdeal.τ).loc Cert.SampledIdeal.main_v44) = v3 c
          ∧ r.2.mem ((c.tc : Thread Cert.SampledIdeal.nD Cert.SampledIdeal.τ).loc Cert.SampledIdeal.main_v49) = v4 c
          ∧ r.2.mem ((c.tc : Thread Cert.SampledIdeal.nD Cert.SampledIdeal.τ).loc Cert.SampledIdeal.main_v59) = v5 c
          ∧ r.2.mem ((c.tc : Thread Cert.SampledIdeal.nD Cert.SampledIdeal.τ).loc Cert.SampledIdeal.main_v68) = v6 c
          ∧ r.2.mem ((c.tc : Thread Cert.SampledIdeal.nD Cert.SampledIdeal.τ).loc Cert.SampledIdeal.main_v78) = v7 c
          ∧ r.2.mem ((c.tc : Thread Cert.SampledIdeal.nD Cert.SampledIdeal.τ).loc Cert.SampledIdeal.main_v87) = v8 c
          ∧ r.2.mem ((c.tc : Thread Cert.SampledIdeal.nD Cert.SampledIdeal.τ).loc Cert.SampledIdeal.main_v96) = v9 c
          ∧ r.2.mem ((c.tc : Thread Cert.SampledIdeal.nD Cert.SampledIdeal.τ).loc Cert.SampledIdeal.main_arg0) = m' ((c.tc : Thread Cert.SampledIdeal.nD Cert.SampledIdeal.τ).loc Cert.SampledIdeal.main_arg0)
          ∧ r.2.mem ((c.tc : Thread Cert.SampledIdeal.nD Cert.SampledIdeal.τ).loc Cert.SampledIdeal.main_arg1) = m' ((c.tc : Thread Cert.SampledIdeal.nD Cert.SampledIdeal.τ).loc Cert.SampledIdeal.main_arg1)
          ∧ r.2.mem ((c.tc : Thread Cert.SampledIdeal.nD Cert.SampledIdeal.τ).loc Cert.SampledIdeal.main_arg2) = m' ((c.tc : Thread Cert.SampledIdeal.nD Cert.SampledIdeal.τ).loc Cert.SampledIdeal.main_arg2)
          ∧ r.2.mem ((c.tc : Thread Cert.SampledIdeal.nD Cert.SampledIdeal.τ).loc Cert.SampledIdeal.main_arg3) = m' ((c.tc : Thread Cert.SampledIdeal.nD Cert.SampledIdeal.τ).loc Cert.SampledIdeal.main_arg3)
          ∧ r.2.mem ((c.tc : Thread Cert.SampledIdeal.nD Cert.SampledIdeal.τ).loc Cert.SampledIdeal.main_arg4) = m' ((c.tc : Thread Cert.SampledIdeal.nD Cert.SampledIdeal.τ).loc Cert.SampledIdeal.main_arg4))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectedIdeal : Cert.ProjectedIdeal.Facts) (hSample : Cert.Sample.Facts) (hSampleIdeal : Cert.SampleIdeal.Facts) (hSampledIdeal : Cert.SampledIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Projection (hProjection := hProjection)
    ∧ quiescent_ProjectionIdeal (hProjectionIdeal := hProjectionIdeal)
    ∧ quiescent_ProjectedIdeal (hProjectedIdeal := hProjectedIdeal)
    ∧ quiescent_Sample (hSample := hSample)
    ∧ quiescent_SampleIdeal (hSampleIdeal := hSampleIdeal)
    ∧ quiescent_SampledIdeal (hSampledIdeal := hSampledIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Projection_ProjectionIdeal
    ∧ algebraic_ProjectionIdeal_ProjectedIdeal (hProjectionIdeal := hProjectionIdeal) (hProjectedIdeal := hProjectedIdeal)
    ∧ preserves_Sample_SampleIdeal
    ∧ algebraic_SampleIdeal_SampledIdeal (hSampleIdeal := hSampleIdeal) (hSampledIdeal := hSampledIdeal)
-- ==== Pre_finite.lean ====
abbrev S8x8192x16x64 : Shape := ⟨4, ![8, 8192, 16, 64]⟩
abbrev S16 : Shape := ⟨1, ![16]⟩
abbrev S_ : Shape := ⟨0, ![]⟩
abbrev S1x1x16x1 : Shape := ⟨4, ![1, 1, 16, 1]⟩

class Facts : Prop where
  bcast_S_S8x8192x16x64 : S_.BroadcastsInDim S8x8192x16x64 (![] : Fin 0 → Fin S8x8192x16x64.rank)
  bcast_S16_S1x1x16x1_2 : S16.BroadcastsInDim S1x1x16x1 (![2] : Fin 1 → Fin S1x1x16x1.rank)
  bcast_S_S1x1x16x1 : S_.BroadcastsInDim S1x1x16x1 (![] : Fin 0 → Fin S1x1x16x1.rank)
  bcast_S1x1x16x1_S8x8192x16x64_0_1_2_3 : S1x1x16x1.BroadcastsInDim S8x8192x16x64 (![0, 1, 2, 3] : Fin 4 → Fin S8x8192x16x64.rank)

variable [Facts]

def fn {F : FTy → Type} [FloatOps F] (main_arg0 : FVec F S8x8192x16x64 .f32) (main_arg1 : FVec F S8x8192x16x64 .f32) (main_arg2 : FVec F S8x8192x16x64 .f32) (main_arg3 : FVec F S16 .f32) : IVec S8x8192x16x64 1 :=
  let main_v0 : FVec F S8x8192x16x64 .f32 := Host.absf main_arg0
  let main_cst : FVec F S_ .f32 := constant S_ .f32 0x7F800000#32
  let main_v1 : FVec F S8x8192x16x64 .f32 := broadcastInDim S8x8192x16x64 ![] bcast_S_S8x8192x16x64 main_cst
  let main_v2 : IVec S8x8192x16x64 1 := cmpf .olt main_v0 main_v1
  let main_v3 : FVec F S8x8192x16x64 .f32 := Host.absf main_arg1
  let main_cst_0 : FVec F S_ .f32 := constant S_ .f32 0x7F800000#32
  let main_v4 : FVec F S8x8192x16x64 .f32 := broadcastInDim S8x8192x16x64 ![] bcast_S_S8x8192x16x64 main_cst_0
  let main_v5 : IVec S8x8192x16x64 1 := cmpf .olt main_v3 main_v4
  let main_v6 : IVec S8x8192x16x64 1 := andi main_v2 main_v5
  let main_v7 : FVec F S16 .f32 := Host.absf main_arg3
  let main_v8 : FVec F S1x1x16x1 .f32 := broadcastInDim S1x1x16x1 ![2] bcast_S16_S1x1x16x1_2 main_v7
  let main_cst_1 : FVec F S_ .f32 := constant S_ .f32 0x7F800000#32
  let main_v9 : FVec F S1x1x16x1 .f32 := broadcastInDim S1x1x16x1 ![] bcast_S_S1x1x16x1 main_cst_1
  let main_v10 : IVec S1x1x16x1 1 := cmpf .olt main_v8 main_v9
  let main_v11 : IVec S8x8192x16x64 1 := broadcastInDim S8x8192x16x64 ![0, 1, 2, 3] bcast_S1x1x16x1_S8x8192x16x64_0_1_2_3 main_v10
  let main_v12 : IVec S8x8192x16x64 1 := andi main_v6 main_v11
  main_v12
-- ==== Kernel.lean ====
abbrev S8x8192x16x64 : Shape := ⟨4, ![8, 8192, 16, 64]⟩
abbrev S16 : Shape := ⟨1, ![16]⟩
abbrev S65536x1024 : Shape := ⟨2, ![65536, 1024]⟩
abbrev S_ : Shape := ⟨0, ![]⟩
abbrev S8x32x256x1024 : Shape := ⟨4, ![8, 32, 256, 1024]⟩
abbrev S8x32x1024x256 : Shape := ⟨4, ![8, 32, 1024, 256]⟩
abbrev S256x512 : Shape := ⟨2, ![256, 512]⟩
abbrev S1x32x512x256 : Shape := ⟨4, ![1, 32, 512, 256]⟩
abbrev S4x512x128 : Shape := ⟨3, ![4, 512, 128]⟩
abbrev S128x256 : Shape := ⟨2, ![128, 256]⟩
abbrev S256x128 : Shape := ⟨2, ![256, 128]⟩
abbrev S256x256 : Shape := ⟨2, ![256, 256]⟩
abbrev S512x256 : Shape := ⟨2, ![512, 256]⟩
abbrev S512x128 : Shape := ⟨2, ![512, 128]⟩
abbrev S1 : Shape := ⟨1, ![1]⟩
abbrev S1x1x128x256 : Shape := ⟨4, ![1, 1, 128, 256]⟩
abbrev S2048x256 : Shape := ⟨2, ![2048, 256]⟩
abbrev S1x512x128 : Shape := ⟨3, ![1, 512, 128]⟩
abbrev S512x1 : Shape := ⟨2, ![512, 1]⟩

abbrev nBuf : Space → Nat
  | .hbm => 16
  | .vmem => 11
  | .smem => 1
  | _ => 0

abbrev bufTy : (tb : Table) → Fin (tcTables nBuf tb) → BufTy
  | .hbm, ⟨0, _⟩ => ⟨S8x8192x16x64, .f32⟩
  | .hbm, ⟨1, _⟩ => ⟨S8x8192x16x64, .f32⟩
  | .hbm, ⟨2, _⟩ => ⟨S8x8192x16x64, .f32⟩
  | .hbm, ⟨3, _⟩ => ⟨S16, .f32⟩
  | .hbm, ⟨4, _⟩ => ⟨S65536x1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S65536x1024, .bf16⟩
  | .hbm, ⟨9, _⟩ => ⟨S8x32x256x1024, .f32⟩
  | .hbm, ⟨10, _⟩ => ⟨S8x32x1024x256, .f32⟩
  | .hbm, ⟨11, _⟩ => ⟨S8x32x1024x256, .bf16⟩
  | .hbm, ⟨12, _⟩ => ⟨S8x32x256x1024, .f32⟩
  | .hbm, ⟨13, _⟩ => ⟨S8x32x1024x256, .f32⟩
  | .hbm, ⟨14, _⟩ => ⟨S8x32x1024x256, .bf16⟩
  | .hbm, ⟨15, _⟩ => ⟨S65536x1024, .bf16⟩
  | .local _ .vmem, ⟨0, _⟩ => ⟨S256x512, .bf16⟩
  | .local _ .vmem, ⟨1, _⟩ => ⟨S256x512, .bf16⟩
  | .local _ .vmem, ⟨2, _⟩ => ⟨S1x32x512x256, .bf16⟩
  | .local _ .vmem, ⟨3, _⟩ => ⟨S1x32x512x256, .bf16⟩
  | .local _ .vmem, ⟨4, _⟩ => ⟨S1x32x512x256, .bf16⟩
  | .local _ .vmem, ⟨5, _⟩ => ⟨S1x32x512x256, .bf16⟩
  | .local _ .vmem, ⟨6, _⟩ => ⟨S256x512, .bf16⟩
  | .local _ .vmem, ⟨7, _⟩ => ⟨S256x512, .bf16⟩
  | .local _ .vmem, ⟨8, _⟩ => ⟨S4x512x128, .f32⟩
  | .local _ .vmem, ⟨9, _⟩ => ⟨S4x512x128, .f32⟩
  | .local _ .vmem, ⟨10, _⟩ => ⟨S128x256, .bf16⟩
  | .local _ .smem, ⟨0, _⟩ => ⟨S16, .f32⟩
  | _, _ => ⟨S8x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 32], ![false, false, false]⟩

def k0_off1 (i : grid0.Coords) (c0_i32_12 : BitVec 32) : Fin 1 → Nat :=
  let arg1 : BitVec 32 := BitVec.ofNat 32 (i 1).val
  let c4_i32 : BitVec 32 := 4#32
  let v51 : BitVec 32 := Scalar.muli arg1 c4_i32
  let v52 : BitVec 32 := Scalar.addi v51 c0_i32_12
  let c2_i32 : BitVec 32 := 2#32
  let v53 : BitVec 32 := Scalar.muli v52 c2_i32
  let v56 : Index := Scalar.indexCast v53
  ![v56.toNat]
def k0_off2 (i : grid0.Coords) (c0_i32_12 : BitVec 32) : Fin 1 → Nat :=
  let arg1 : BitVec 32 := BitVec.ofNat 32 (i 1).val
  let c4_i32 : BitVec 32 := 4#32
  let v51 : BitVec 32 := Scalar.muli arg1 c4_i32
  let v52 : BitVec 32 := Scalar.addi v51 c0_i32_12
  let c2_i32 : BitVec 32 := 2#32
  let v53 : BitVec 32 := Scalar.muli v52 c2_i32
  let c1_i32_14 : BitVec 32 := 1#32
  let v58 : BitVec 32 := Scalar.addi v53 c1_i32_14
  let v59 : Index := Scalar.indexCast v58
  ![v59.toNat]
def k0_off3 (i : grid0.Coords) : Fin 4 → Nat :=
  let c0_69 : Index := 0#32
  let arg2 : BitVec 32 := BitVec.ofNat 32 (i 2).val
  let v231 : Index := Scalar.indexCast arg2
  let c0_70 : Index := 0#32
  let c0_71 : Index := 0#32
  ![0, v231.toNat, 0, 0]
def k0_off4 (i : grid0.Coords) : Fin 4 → Nat :=
  let c0_79 : Index := 0#32
  let arg2 : BitVec 32 := BitVec.ofNat 32 (i 2).val
  let v250 : Index := Scalar.indexCast arg2
  let c128_80 : Index := 128#32
  let c0_81 : Index := 0#32
  ![0, v250.toNat, 128, 0]
def k0_off5 (i : grid0.Coords) : Fin 4 → Nat :=
  let c0_89 : Index := 0#32
  let arg2 : BitVec 32 := BitVec.ofNat 32 (i 2).val
  let v269 : Index := Scalar.indexCast arg2
  let c256_90 : Index := 256#32
  let c0_91 : Index := 0#32
  ![0, v269.toNat, 256, 0]
def k0_off6 (i : grid0.Coords) : Fin 4 → Nat :=
  let c0_99 : Index := 0#32
  let arg2 : BitVec 32 := BitVec.ofNat 32 (i 2).val
  let v288 : Index := Scalar.indexCast arg2
  let c384_100 : Index := 384#32
  let c0_101 : Index := 0#32
  ![0, v288.toNat, 384, 0]
@[reducible] def k0_t1_loop (i : grid0.Coords) : Scf.Loop 32 :=
  let c0_i32_183 : BitVec 32 := 0#32
  let arg2 : BitVec 32 := BitVec.ofNat 32 (i 2).val
  let c0_i32_176 : BitVec 32 := 0#32
  let v414 : BitVec 1 := Scalar.cmpi .sgt arg2 c0_i32_176
  let v415 : BitVec 32 := Scalar.extui v414
  let c0_i32_177 : BitVec 32 := 0#32
  let v416 : BitVec 1 := Scalar.cmpi .slt arg2 c0_i32_177
  let v417 : BitVec 32 := Scalar.extui v416
  let v418 : BitVec 32 := Scalar.subi v415 v417
  let c4_i32_175 : BitVec 32 := 4#32
  let c0_i32_178 : BitVec 32 := 0#32
  let v419 : BitVec 1 := Scalar.cmpi .sgt c4_i32_175 c0_i32_178
  let v420 : BitVec 32 := Scalar.extui v419
  let c0_i32_179 : BitVec 32 := 0#32
  let v421 : BitVec 1 := Scalar.cmpi .slt c4_i32_175 c0_i32_179
  let v422 : BitVec 32 := Scalar.extui v421
  let v423 : BitVec 32 := Scalar.subi v420 v422
  let v424 : BitVec 1 := Scalar.cmpi .ne v418 v423
  let v425 : BitVec 32 := Scalar.remsi arg2 c4_i32_175
  let c0_i32_180 : BitVec 32 := 0#32
  let v426 : BitVec 1 := Scalar.cmpi .ne v425 c0_i32_180
  let v427 : BitVec 1 := Scalar.andi v424 v426
  let v413 : BitVec 32 := Scalar.divsi arg2 c4_i32_175
  let c1_i32_181 : BitVec 32 := 1#32
  let v428 : BitVec 32 := Scalar.subi v413 c1_i32_181
  let v429 : BitVec 32 := Scalar.select v427 v428 v413
  let v430 : BitVec 32 := Scalar.subi v429 c0_i32_183
  let c1_i32_184 : BitVec 32 := 1#32
  let v432 : BitVec 32 := Scalar.divsi v430 c1_i32_184
  let v433 : BitVec 32 := Scalar.muli v432 c1_i32_184
  let v434 : BitVec 32 := Scalar.addi c0_i32_183 v433
  let c1_i32_185 : BitVec 32 := 1#32
  ⟨c0_i32_183, v434, c1_i32_185⟩
def k0_off7 (i : grid0.Coords) (k0_t1 : Fin (k0_t1_loop i).trips) (c0_i32_224 : BitVec 32) : Fin 4 → Nat :=
  let c0_225 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c1_i32_185 : BitVec 32 := 1#32
  let arg11 : BitVec 32 := Scf.iv c0_i32_183 c1_i32_185 k0_t1
  let v487 : BitVec 32 := Scalar.muli c4_i32_223 arg11
  let v488 : BitVec 32 := Scalar.subi v486 v487
  let v489 : BitVec 32 := Scalar.subi v488 c0_i32_224
  let v491 : Index := Scalar.indexCast v489
  let c0_226 : Index := 0#32
  let c0_227 : Index := 0#32
  ![0, v491.toNat, 0, 0]
def k0_off8 (i : grid0.Coords) (k0_t1 : Fin (k0_t1_loop i).trips) (c0_i32_224 : BitVec 32) : Fin 4 → Nat :=
  let c0_234 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c1_i32_185 : BitVec 32 := 1#32
  let arg11 : BitVec 32 := Scf.iv c0_i32_183 c1_i32_185 k0_t1
  let v487 : BitVec 32 := Scalar.muli c4_i32_223 arg11
  let v488 : BitVec 32 := Scalar.subi v486 v487
  let v489 : BitVec 32 := Scalar.subi v488 c0_i32_224
  let v508 : Index := Scalar.indexCast v489
  let c128_235 : Index := 128#32
  let c0_236 : Index := 0#32
  ![0, v508.toNat, 128, 0]
def k0_off9 (i : grid0.Coords) (k0_t1 : Fin (k0_t1_loop i).trips) (c0_i32_224 : BitVec 32) : Fin 4 → Nat :=
  let c0_243 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c1_i32_185 : BitVec 32 := 1#32
  let arg11 : BitVec 32 := Scf.iv c0_i32_183 c1_i32_185 k0_t1
  let v487 : BitVec 32 := Scalar.muli c4_i32_223 arg11
  let v488 : BitVec 32 := Scalar.subi v486 v487
  let v489 : BitVec 32 := Scalar.subi v488 c0_i32_224
  let v525 : Index := Scalar.indexCast v489
  let c256_244 : Index := 256#32
  let c0_245 : Index := 0#32
  ![0, v525.toNat, 256, 0]
def k0_off10 (i : grid0.Coords) (k0_t1 : Fin (k0_t1_loop i).trips) (c0_i32_224 : BitVec 32) : Fin 4 → Nat :=
  let c0_252 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c1_i32_185 : BitVec 32 := 1#32
  let arg11 : BitVec 32 := Scf.iv c0_i32_183 c1_i32_185 k0_t1
  let v487 : BitVec 32 := Scalar.muli c4_i32_223 arg11
  let v488 : BitVec 32 := Scalar.subi v486 v487
  let v489 : BitVec 32 := Scalar.subi v488 c0_i32_224
  let v542 : Index := Scalar.indexCast v489
  let c384_253 : Index := 384#32
  let c0_254 : Index := 0#32
  ![0, v542.toNat, 384, 0]
@[reducible] def k0_t2_loop (i : grid0.Coords) : Scf.Loop 32 :=
  let c0_i32_183 : BitVec 32 := 0#32
  let arg2 : BitVec 32 := BitVec.ofNat 32 (i 2).val
  let c0_i32_176 : BitVec 32 := 0#32
  let v414 : BitVec 1 := Scalar.cmpi .sgt arg2 c0_i32_176
  let v415 : BitVec 32 := Scalar.extui v414
  let c0_i32_177 : BitVec 32 := 0#32
  let v416 : BitVec 1 := Scalar.cmpi .slt arg2 c0_i32_177
  let v417 : BitVec 32 := Scalar.extui v416
  let v418 : BitVec 32 := Scalar.subi v415 v417
  let c4_i32_175 : BitVec 32 := 4#32
  let c0_i32_178 : BitVec 32 := 0#32
  let v419 : BitVec 1 := Scalar.cmpi .sgt c4_i32_175 c0_i32_178
  let v420 : BitVec 32 := Scalar.extui v419
  let c0_i32_179 : BitVec 32 := 0#32
  let v421 : BitVec 1 := Scalar.cmpi .slt c4_i32_175 c0_i32_179
  let v422 : BitVec 32 := Scalar.extui v421
  let v423 : BitVec 32 := Scalar.subi v420 v422
  let v424 : BitVec 1 := Scalar.cmpi .ne v418 v423
  let v425 : BitVec 32 := Scalar.remsi arg2 c4_i32_175
  let c0_i32_180 : BitVec 32 := 0#32
  let v426 : BitVec 1 := Scalar.cmpi .ne v425 c0_i32_180
  let v427 : BitVec 1 := Scalar.andi v424 v426
  let v413 : BitVec 32 := Scalar.divsi arg2 c4_i32_175
  let c1_i32_181 : BitVec 32 := 1#32
  let v428 : BitVec 32 := Scalar.subi v413 c1_i32_181
  let v429 : BitVec 32 := Scalar.select v427 v428 v413
  let v430 : BitVec 32 := Scalar.subi v429 c0_i32_183
  let c1_i32_184 : BitVec 32 := 1#32
  let v432 : BitVec 32 := Scalar.divsi v430 c1_i32_184
  let v433 : BitVec 32 := Scalar.muli v432 c1_i32_184
  let v434 : BitVec 32 := Scalar.addi c0_i32_183 v433
  let v431 : BitVec 32 := Scalar.addi c0_i32_183 v430
  let c1_i32_186 : BitVec 32 := 1#32
  ⟨v434, v431, c1_i32_186⟩
def k0_off11 (i : grid0.Coords) (k0_t2 : Fin (k0_t2_loop i).trips) (c0_i32_224 : BitVec 32) : Fin 4 → Nat :=
  let c0_225 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c0_i32_176 : BitVec 32 := 0#32
  let v414 : BitVec 1 := Scalar.cmpi .sgt arg2 c0_i32_176
  let v415 : BitVec 32 := Scalar.extui v414
  let c0_i32_177 : BitVec 32 := 0#32
  let v416 : BitVec 1 := Scalar.cmpi .slt arg2 c0_i32_177
  let v417 : BitVec 32 := Scalar.extui v416
  let v418 : BitVec 32 := Scalar.subi v415 v417
  let c4_i32_175 : BitVec 32 := 4#32
  let c0_i32_178 : BitVec 32 := 0#32
  let v419 : BitVec 1 := Scalar.cmpi .sgt c4_i32_175 c0_i32_178
  let v420 : BitVec 32 := Scalar.extui v419
  let c0_i32_179 : BitVec 32 := 0#32
  let v421 : BitVec 1 := Scalar.cmpi .slt c4_i32_175 c0_i32_179
  let v422 : BitVec 32 := Scalar.extui v421
  let v423 : BitVec 32 := Scalar.subi v420 v422
  let v424 : BitVec 1 := Scalar.cmpi .ne v418 v423
  let v425 : BitVec 32 := Scalar.remsi arg2 c4_i32_175
  let c0_i32_180 : BitVec 32 := 0#32
  let v426 : BitVec 1 := Scalar.cmpi .ne v425 c0_i32_180
  let v427 : BitVec 1 := Scalar.andi v424 v426
  let v413 : BitVec 32 := Scalar.divsi arg2 c4_i32_175
  let c1_i32_181 : BitVec 32 := 1#32
  let v428 : BitVec 32 := Scalar.subi v413 c1_i32_181
  let v429 : BitVec 32 := Scalar.select v427 v428 v413
  let v430 : BitVec 32 := Scalar.subi v429 c0_i32_183
  let c1_i32_184 : BitVec 32 := 1#32
  let v432 : BitVec 32 := Scalar.divsi v430 c1_i32_184
  let v433 : BitVec 32 := Scalar.muli v432 c1_i32_184
  let v434 : BitVec 32 := Scalar.addi c0_i32_183 v433
  let c1_i32_186 : BitVec 32 := 1#32
  let arg11 : BitVec 32 := Scf.iv v434 c1_i32_186 k0_t2
  let v487 : BitVec 32 := Scalar.muli c4_i32_223 arg11
  let v488 : BitVec 32 := Scalar.subi v486 v487
  let v489 : BitVec 32 := Scalar.subi v488 c0_i32_224
  let v491 : Index := Scalar.indexCast v489
  let c0_226 : Index := 0#32
  let c0_227 : Index := 0#32
  ![0, v491.toNat, 0, 0]
def k0_off12 (i : grid0.Coords) (k0_t2 : Fin (k0_t2_loop i).trips) (c0_i32_224 : BitVec 32) : Fin 4 → Nat :=
  let c0_234 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c0_i32_176 : BitVec 32 := 0#32
  let v414 : BitVec 1 := Scalar.cmpi .sgt arg2 c0_i32_176
  let v415 : BitVec 32 := Scalar.extui v414
  let c0_i32_177 : BitVec 32 := 0#32
  let v416 : BitVec 1 := Scalar.cmpi .slt arg2 c0_i32_177
  let v417 : BitVec 32 := Scalar.extui v416
  let v418 : BitVec 32 := Scalar.subi v415 v417
  let c4_i32_175 : BitVec 32 := 4#32
  let c0_i32_178 : BitVec 32 := 0#32
  let v419 : BitVec 1 := Scalar.cmpi .sgt c4_i32_175 c0_i32_178
  let v420 : BitVec 32 := Scalar.extui v419
  let c0_i32_179 : BitVec 32 := 0#32
  let v421 : BitVec 1 := Scalar.cmpi .slt c4_i32_175 c0_i32_179
  let v422 : BitVec 32 := Scalar.extui v421
  let v423 : BitVec 32 := Scalar.subi v420 v422
  let v424 : BitVec 1 := Scalar.cmpi .ne v418 v423
  let v425 : BitVec 32 := Scalar.remsi arg2 c4_i32_175
  let c0_i32_180 : BitVec 32 := 0#32
  let v426 : BitVec 1 := Scalar.cmpi .ne v425 c0_i32_180
  let v427 : BitVec 1 := Scalar.andi v424 v426
  let v413 : BitVec 32 := Scalar.divsi arg2 c4_i32_175
  let c1_i32_181 : BitVec 32 := 1#32
  let v428 : BitVec 32 := Scalar.subi v413 c1_i32_181
  let v429 : BitVec 32 := Scalar.select v427 v428 v413
  let v430 : BitVec 32 := Scalar.subi v429 c0_i32_183
  let c1_i32_184 : BitVec 32 := 1#32
  let v432 : BitVec 32 := Scalar.divsi v430 c1_i32_184
  let v433 : BitVec 32 := Scalar.muli v432 c1_i32_184
  let v434 : BitVec 32 := Scalar.addi c0_i32_183 v433
  let c1_i32_186 : BitVec 32 := 1#32
  let arg11 : BitVec 32 := Scf.iv v434 c1_i32_186 k0_t2
  let v487 : BitVec 32 := Scalar.muli c4_i32_223 arg11
  let v488 : BitVec 32 := Scalar.subi v486 v487
  let v489 : BitVec 32 := Scalar.subi v488 c0_i32_224
  let v508 : Index := Scalar.indexCast v489
  let c128_235 : Index := 128#32
  let c0_236 : Index := 0#32
  ![0, v508.toNat, 128, 0]
def k0_off13 (i : grid0.Coords) (k0_t2 : Fin (k0_t2_loop i).trips) (c0_i32_224 : BitVec 32) : Fin 4 → Nat :=
  let c0_243 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c0_i32_176 : BitVec 32 := 0#32
  let v414 : BitVec 1 := Scalar.cmpi .sgt arg2 c0_i32_176
  let v415 : BitVec 32 := Scalar.extui v414
  let c0_i32_177 : BitVec 32 := 0#32
  let v416 : BitVec 1 := Scalar.cmpi .slt arg2 c0_i32_177
  let v417 : BitVec 32 := Scalar.extui v416
  let v418 : BitVec 32 := Scalar.subi v415 v417
  let c4_i32_175 : BitVec 32 := 4#32
  let c0_i32_178 : BitVec 32 := 0#32
  let v419 : BitVec 1 := Scalar.cmpi .sgt c4_i32_175 c0_i32_178
  let v420 : BitVec 32 := Scalar.extui v419
  let c0_i32_179 : BitVec 32 := 0#32
  let v421 : BitVec 1 := Scalar.cmpi .slt c4_i32_175 c0_i32_179
  let v422 : BitVec 32 := Scalar.extui v421
  let v423 : BitVec 32 := Scalar.subi v420 v422
  let v424 : BitVec 1 := Scalar.cmpi .ne v418 v423
  let v425 : BitVec 32 := Scalar.remsi arg2 c4_i32_175
  let c0_i32_180 : BitVec 32 := 0#32
  let v426 : BitVec 1 := Scalar.cmpi .ne v425 c0_i32_180
  let v427 : BitVec 1 := Scalar.andi v424 v426
  let v413 : BitVec 32 := Scalar.divsi arg2 c4_i32_175
  let c1_i32_181 : BitVec 32 := 1#32
  let v428 : BitVec 32 := Scalar.subi v413 c1_i32_181
  let v429 : BitVec 32 := Scalar.select v427 v428 v413
  let v430 : BitVec 32 := Scalar.subi v429 c0_i32_183
  let c1_i32_184 : BitVec 32 := 1#32
  let v432 : BitVec 32 := Scalar.divsi v430 c1_i32_184
  let v433 : BitVec 32 := Scalar.muli v432 c1_i32_184
  let v434 : BitVec 32 := Scalar.addi c0_i32_183 v433
  let c1_i32_186 : BitVec 32 := 1#32
  let arg11 : BitVec 32 := Scf.iv v434 c1_i32_186 k0_t2
  let v487 : BitVec 32 := Scalar.muli c4_i32_223 arg11
  let v488 : BitVec 32 := Scalar.subi v486 v487
  let v489 : BitVec 32 := Scalar.subi v488 c0_i32_224
  let v525 : Index := Scalar.indexCast v489
  let c256_244 : Index := 256#32
  let c0_245 : Index := 0#32
  ![0, v525.toNat, 256, 0]
def k0_off14 (i : grid0.Coords) (k0_t2 : Fin (k0_t2_loop i).trips) (c0_i32_224 : BitVec 32) : Fin 4 → Nat :=
  let c0_252 : Index := 0#32
  let arg2 : BitVec 32 := BitVec.ofNat 32 (i 2).val
  let c1_i32_222 : BitVec 32 := 1#32
  let v486 : BitVec 32 := Scalar.subi arg2 c1_i32_222
  let c4_i32_223 : BitVec 32 := 4#32
  let c0_i32_183 : BitVec 32 := 0#32
  let c0_i32_176 : BitVec 32 := 0#32
  let v414 : BitVec 1 := Scalar.cmpi .sgt arg2 c0_i32_176
  let v415 : BitVec 32 := Scalar.extui v414
  let c0_i32_177 : BitVec 32 := 0#32
  let v416 : BitVec 1 := Scalar.cmpi .slt arg2 c0_i32_177
  let v417 : BitVec 32 := Scalar.extui v416
  let v418 : BitVec 32 := Scalar.subi v415 v417
  let c4_i32_175 : BitVec 32 := 4#32
  let c0_i32_178 : BitVec 32 := 0#32
  let v419 : BitVec 1 := Scalar.cmpi .sgt c4_i32_175 c0_i32_178
  let v420 : BitVec 32 := Scalar.extui v419
  let c0_i32_179 : BitVec 32 := 0#32
  let v421 : BitVec 1 := Scalar.cmpi .slt c4_i32_175 c0_i32_179
  let v422 : BitVec 32 := Scalar.extui v421
  let v423 : BitVec 32 := Scalar.subi v420 v422
  let v424 : BitVec 1 := Scalar.cmpi .ne v418 v423
  let v425 : BitVec 32 := Scalar.remsi arg2 c4_i32_175
  let c0_i32_180 : BitVec 32 := 0#32
  let v426 : BitVec 1 := Scalar.cmpi .ne v425 c0_i32_180
  let v427 : BitVec 1 := Scalar.andi v424 v426
  let v413 : BitVec 32 := Scalar.divsi arg2 c4_i32_175
  let c1_i32_181 : BitVec 32 := 1#32
  let v428 : BitVec 32 := Scalar.subi v413 c1_i32_181
  let v429 : BitVec 32 := Scalar.select v427 v428 v413
  let v430 : BitVec 32 := Scalar.subi v429 c0_i32_183
  let c1_i32_184 : BitVec 32 := 1#32
  let v432 : BitVec 32 := Scalar.divsi v430 c1_i32_184
  let v433 : BitVec 32 := Scalar.muli v432 c1_i32_184
  let v434 : BitVec 32 := Scalar.addi c0_i32_183 v433
  let c1_i32_186 : BitVec 32 := 1#32
  let arg11 : BitVec 32 := Scf.iv v434 c1_i32_186 k0_t2
  let v487 : BitVec 32 := Scalar.muli c4_i32_223 arg11
  let v488 : BitVec 32 := Scalar.subi v486 v487
  let v489 : BitVec 32 := Scalar.subi v488 c0_i32_224
  let v542 : Index := Scalar.indexCast v489
  let c384_253 : Index := 384#32
  let c0_254 : Index := 0#32
  ![0, v542.toNat, 384, 0]
@[reducible] def k0_t3_loop (i : grid0.Coords) : Scf.Loop 32 :=
  let c0_i32_194 : BitVec 32 := 0#32
  let arg2 : BitVec 32 := BitVec.ofNat 32 (i 2).val
  let c4_i32_187 : BitVec 32 := 4#32
  let c0_i32_188 : BitVec 32 := 0#32
  let v435 : BitVec 1 := Scalar.cmpi .eq c4_i32_187 c0_i32_188
  let c1_i32_189 : BitVec 32 := 1#32
  let v436 : BitVec 32 := Scalar.select v435 c1_i32_189 c4_i32_187
  let v437 : BitVec 32 := Scalar.remsi arg2 v436
  let c0_i32_191 : BitVec 32 := 0#32
  let v439 : BitVec 1 := Scalar.cmpi .slt v437 c0_i32_191
  let c0_i32_192 : BitVec 32 := 0#32
  let v440 : BitVec 1 := Scalar.cmpi .slt v436 c0_i32_192
  let v441 : BitVec 1 := Scalar.xori v439 v440
  let c0_i32_190 : BitVec 32 := 0#32
  let v438 : BitVec 1 := Scalar.cmpi .ne v437 c0_i32_190
  let v442 : BitVec 1 := Scalar.andi v441 v438
  let v443 : BitVec 32 := Scalar.addi v437 v436
  let v444 : BitVec 32 := Scalar.select v442 v443 v437
  let v445 : BitVec 32 := Scalar.subi v444 c0_i32_194
  let c1_i32_195 : BitVec 32 := 1#32
  let v447 : BitVec 32 := Scalar.divsi v445 c1_i32_195
  let v448 : BitVec 32 := Scalar.muli v447 c1_i32_195
  let v449 : BitVec 32 := Scalar.addi c0_i32_194 v448
  let c1_i32_196 : BitVec 32 := 1#32
  ⟨c0_i32_194, v449, c1_i32_196⟩
def k0_off15 (i : grid0.Coords) (k0_t3 : Fin (k0_t3_loop i).trips) : Fin 4 → Nat :=
  let c0_229 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c1_i32_196 : BitVec 32 := 1#32
  let arg11 : BitVec 32 := Scf.iv c0_i32_194 c1_i32_196 k0_t3
  let v497 : BitVec 32 := Scalar.subi v496 arg11
  let v499 : Index := Scalar.indexCast v497
  let c0_230 : Index := 0#32
  let c0_231 : Index := 0#32
  ![0, v499.toNat, 0, 0]
def k0_off16 (i : grid0.Coords) (k0_t3 : Fin (k0_t3_loop i).trips) : Fin 4 → Nat :=
  let c0_238 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c1_i32_196 : BitVec 32 := 1#32
  let arg11 : BitVec 32 := Scf.iv c0_i32_194 c1_i32_196 k0_t3
  let v497 : BitVec 32 := Scalar.subi v496 arg11
  let v516 : Index := Scalar.indexCast v497
  let c128_239 : Index := 128#32
  let c0_240 : Index := 0#32
  ![0, v516.toNat, 128, 0]
def k0_off17 (i : grid0.Coords) (k0_t3 : Fin (k0_t3_loop i).trips) : Fin 4 → Nat :=
  let c0_247 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c1_i32_196 : BitVec 32 := 1#32
  let arg11 : BitVec 32 := Scf.iv c0_i32_194 c1_i32_196 k0_t3
  let v497 : BitVec 32 := Scalar.subi v496 arg11
  let v533 : Index := Scalar.indexCast v497
  let c256_248 : Index := 256#32
  let c0_249 : Index := 0#32
  ![0, v533.toNat, 256, 0]
def k0_off18 (i : grid0.Coords) (k0_t3 : Fin (k0_t3_loop i).trips) : Fin 4 → Nat :=
  let c0_256 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c1_i32_196 : BitVec 32 := 1#32
  let arg11 : BitVec 32 := Scf.iv c0_i32_194 c1_i32_196 k0_t3
  let v497 : BitVec 32 := Scalar.subi v496 arg11
  let v550 : Index := Scalar.indexCast v497
  let c384_257 : Index := 384#32
  let c0_258 : Index := 0#32
  ![0, v550.toNat, 384, 0]
@[reducible] def k0_t4_loop (i : grid0.Coords) : Scf.Loop 32 :=
  let c0_i32_194 : BitVec 32 := 0#32
  let arg2 : BitVec 32 := BitVec.ofNat 32 (i 2).val
  let c4_i32_187 : BitVec 32 := 4#32
  let c0_i32_188 : BitVec 32 := 0#32
  let v435 : BitVec 1 := Scalar.cmpi .eq c4_i32_187 c0_i32_188
  let c1_i32_189 : BitVec 32 := 1#32
  let v436 : BitVec 32 := Scalar.select v435 c1_i32_189 c4_i32_187
  let v437 : BitVec 32 := Scalar.remsi arg2 v436
  let c0_i32_191 : BitVec 32 := 0#32
  let v439 : BitVec 1 := Scalar.cmpi .slt v437 c0_i32_191
  let c0_i32_192 : BitVec 32 := 0#32
  let v440 : BitVec 1 := Scalar.cmpi .slt v436 c0_i32_192
  let v441 : BitVec 1 := Scalar.xori v439 v440
  let c0_i32_190 : BitVec 32 := 0#32
  let v438 : BitVec 1 := Scalar.cmpi .ne v437 c0_i32_190
  let v442 : BitVec 1 := Scalar.andi v441 v438
  let v443 : BitVec 32 := Scalar.addi v437 v436
  let v444 : BitVec 32 := Scalar.select v442 v443 v437
  let v445 : BitVec 32 := Scalar.subi v444 c0_i32_194
  let c1_i32_195 : BitVec 32 := 1#32
  let v447 : BitVec 32 := Scalar.divsi v445 c1_i32_195
  let v448 : BitVec 32 := Scalar.muli v447 c1_i32_195
  let v449 : BitVec 32 := Scalar.addi c0_i32_194 v448
  let v446 : BitVec 32 := Scalar.addi c0_i32_194 v445
  let c1_i32_197 : BitVec 32 := 1#32
  ⟨v449, v446, c1_i32_197⟩
def k0_off19 (i : grid0.Coords) (k0_t4 : Fin (k0_t4_loop i).trips) : Fin 4 → Nat :=
  let c0_229 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c4_i32_187 : BitVec 32 := 4#32
  let c0_i32_188 : BitVec 32 := 0#32
  let v435 : BitVec 1 := Scalar.cmpi .eq c4_i32_187 c0_i32_188
  let c1_i32_189 : BitVec 32 := 1#32
  let v436 : BitVec 32 := Scalar.select v435 c1_i32_189 c4_i32_187
  let v437 : BitVec 32 := Scalar.remsi arg2 v436
  let c0_i32_191 : BitVec 32 := 0#32
  let v439 : BitVec 1 := Scalar.cmpi .slt v437 c0_i32_191
  let c0_i32_192 : BitVec 32 := 0#32
  let v440 : BitVec 1 := Scalar.cmpi .slt v436 c0_i32_192
  let v441 : BitVec 1 := Scalar.xori v439 v440
  let c0_i32_190 : BitVec 32 := 0#32
  let v438 : BitVec 1 := Scalar.cmpi .ne v437 c0_i32_190
  let v442 : BitVec 1 := Scalar.andi v441 v438
  let v443 : BitVec 32 := Scalar.addi v437 v436
  let v444 : BitVec 32 := Scalar.select v442 v443 v437
  let v445 : BitVec 32 := Scalar.subi v444 c0_i32_194
  let c1_i32_195 : BitVec 32 := 1#32
  let v447 : BitVec 32 := Scalar.divsi v445 c1_i32_195
  let v448 : BitVec 32 := Scalar.muli v447 c1_i32_195
  let v449 : BitVec 32 := Scalar.addi c0_i32_194 v448
  let c1_i32_197 : BitVec 32 := 1#32
  let arg11 : BitVec 32 := Scf.iv v449 c1_i32_197 k0_t4
  let v497 : BitVec 32 := Scalar.subi v496 arg11
  let v499 : Index := Scalar.indexCast v497
  let c0_230 : Index := 0#32
  let c0_231 : Index := 0#32
  ![0, v499.toNat, 0, 0]
def k0_off20 (i : grid0.Coords) (k0_t4 : Fin (k0_t4_loop i).trips) : Fin 4 → Nat :=
  let c0_238 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c4_i32_187 : BitVec 32 := 4#32
  let c0_i32_188 : BitVec 32 := 0#32
  let v435 : BitVec 1 := Scalar.cmpi .eq c4_i32_187 c0_i32_188
  let c1_i32_189 : BitVec 32 := 1#32
  let v436 : BitVec 32 := Scalar.select v435 c1_i32_189 c4_i32_187
  let v437 : BitVec 32 := Scalar.remsi arg2 v436
  let c0_i32_191 : BitVec 32 := 0#32
  let v439 : BitVec 1 := Scalar.cmpi .slt v437 c0_i32_191
  let c0_i32_192 : BitVec 32 := 0#32
  let v440 : BitVec 1 := Scalar.cmpi .slt v436 c0_i32_192
  let v441 : BitVec 1 := Scalar.xori v439 v440
  let c0_i32_190 : BitVec 32 := 0#32
  let v438 : BitVec 1 := Scalar.cmpi .ne v437 c0_i32_190
  let v442 : BitVec 1 := Scalar.andi v441 v438
  let v443 : BitVec 32 := Scalar.addi v437 v436
  let v444 : BitVec 32 := Scalar.select v442 v443 v437
  let v445 : BitVec 32 := Scalar.subi v444 c0_i32_194
  let c1_i32_195 : BitVec 32 := 1#32
  let v447 : BitVec 32 := Scalar.divsi v445 c1_i32_195
  let v448 : BitVec 32 := Scalar.muli v447 c1_i32_195
  let v449 : BitVec 32 := Scalar.addi c0_i32_194 v448
  let c1_i32_197 : BitVec 32 := 1#32
  let arg11 : BitVec 32 := Scf.iv v449 c1_i32_197 k0_t4
  let v497 : BitVec 32 := Scalar.subi v496 arg11
  let v516 : Index := Scalar.indexCast v497
  let c128_239 : Index := 128#32
  let c0_240 : Index := 0#32
  ![0, v516.toNat, 128, 0]
def k0_off21 (i : grid0.Coords) (k0_t4 : Fin (k0_t4_loop i).trips) : Fin 4 → Nat :=
  let c0_247 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c4_i32_187 : BitVec 32 := 4#32
  let c0_i32_188 : BitVec 32 := 0#32
  let v435 : BitVec 1 := Scalar.cmpi .eq c4_i32_187 c0_i32_188
  let c1_i32_189 : BitVec 32 := 1#32
  let v436 : BitVec 32 := Scalar.select v435 c1_i32_189 c4_i32_187
  let v437 : BitVec 32 := Scalar.remsi arg2 v436
  let c0_i32_191 : BitVec 32 := 0#32
  let v439 : BitVec 1 := Scalar.cmpi .slt v437 c0_i32_191
  let c0_i32_192 : BitVec 32 := 0#32
  let v440 : BitVec 1 := Scalar.cmpi .slt v436 c0_i32_192
  let v441 : BitVec 1 := Scalar.xori v439 v440
  let c0_i32_190 : BitVec 32 := 0#32
  let v438 : BitVec 1 := Scalar.cmpi .ne v437 c0_i32_190
  let v442 : BitVec 1 := Scalar.andi v441 v438
  let v443 : BitVec 32 := Scalar.addi v437 v436
  let v444 : BitVec 32 := Scalar.select v442 v443 v437
  let v445 : BitVec 32 := Scalar.subi v444 c0_i32_194
  let c1_i32_195 : BitVec 32 := 1#32
  let v447 : BitVec 32 := Scalar.divsi v445 c1_i32_195
  let v448 : BitVec 32 := Scalar.muli v447 c1_i32_195
  let v449 : BitVec 32 := Scalar.addi c0_i32_194 v448
  let c1_i32_197 : BitVec 32 := 1#32
  let arg11 : BitVec 32 := Scf.iv v449 c1_i32_197 k0_t4
  let v497 : BitVec 32 := Scalar.subi v496 arg11
  let v533 : Index := Scalar.indexCast v497
  let c256_248 : Index := 256#32
  let c0_249 : Index := 0#32
  ![0, v533.toNat, 256, 0]
def k0_off22 (i : grid0.Coords) (k0_t4 : Fin (k0_t4_loop i).trips) : Fin 4 → Nat :=
  let c0_256 : Index := 0#32
  let arg2 : BitVec 32 := BitVec.ofNat 32 (i 2).val
  let c4_i32_222 : BitVec 32 := 4#32
  let c0_i32_223 : BitVec 32 := 0#32
  let v486 : BitVec 1 := Scalar.cmpi .eq c4_i32_222 c0_i32_223
  let c1_i32_224 : BitVec 32 := 1#32
  let v487 : BitVec 32 := Scalar.select v486 c1_i32_224 c4_i32_222
  let v488 : BitVec 32 := Scalar.remsi arg2 v487
  let c0_i32_226 : BitVec 32 := 0#32
  let v490 : BitVec 1 := Scalar.cmpi .slt v488 c0_i32_226
  let c0_i32_227 : BitVec 32 := 0#32
  let v491 : BitVec 1 := Scalar.cmpi .slt v487 c0_i32_227
  let v492 : BitVec 1 := Scalar.xori v490 v491
  let c0_i32_225 : BitVec 32 := 0#32
  let v489 : BitVec 1 := Scalar.cmpi .ne v488 c0_i32_225
  let v493 : BitVec 1 := Scalar.andi v492 v489
  let v494 : BitVec 32 := Scalar.addi v488 v487
  let v495 : BitVec 32 := Scalar.select v493 v494 v488
  let c1_i32_228 : BitVec 32 := 1#32
  let v496 : BitVec 32 := Scalar.subi v495 c1_i32_228
  let c0_i32_194 : BitVec 32 := 0#32
  let c4_i32_187 : BitVec 32 := 4#32
  let c0_i32_188 : BitVec 32 := 0#32
  let v435 : BitVec 1 := Scalar.cmpi .eq c4_i32_187 c0_i32_188
  let c1_i32_189 : BitVec 32 := 1#32
  let v436 : BitVec 32 := Scalar.select v435 c1_i32_189 c4_i32_187
  let v437 : BitVec 32 := Scalar.remsi arg2 v436
  let c0_i32_191 : BitVec 32 := 0#32
  let v439 : BitVec 1 := Scalar.cmpi .slt v437 c0_i32_191
  let c0_i32_192 : BitVec 32 := 0#32
  let v440 : BitVec 1 := Scalar.cmpi .slt v436 c0_i32_192
  let v441 : BitVec 1 := Scalar.xori v439 v440
  let c0_i32_190 : BitVec 32 := 0#32
  let v438 : BitVec 1 := Scalar.cmpi .ne v437 c0_i32_190
  let v442 : BitVec 1 := Scalar.andi v441 v438
  let v443 : BitVec 32 := Scalar.addi v437 v436
  let v444 : BitVec 32 := Scalar.select v442 v443 v437
  let v445 : BitVec 32 := Scalar.subi v444 c0_i32_194
  let c1_i32_195 : BitVec 32 := 1#32
  let v447 : BitVec 32 := Scalar.divsi v445 c1_i32_195
  let v448 : BitVec 32 := Scalar.muli v447 c1_i32_195
  let v449 : BitVec 32 := Scalar.addi c0_i32_194 v448
  let c1_i32_197 : BitVec 32 := 1#32
  let arg11 : BitVec 32 := Scf.iv v449 c1_i32_197 k0_t4
  let v497 : BitVec 32 := Scalar.subi v496 arg11
  let v550 : Index := Scalar.indexCast v497
  let c384_257 : Index := 384#32
  let c0_258 : Index := 0#32
  ![0, v550.toNat, 384, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S8x8192x16x64 : Shape := ⟨4, ![8, 8192, 16, 64]⟩
abbrev S16 : Shape := ⟨1, ![16]⟩
abbrev S8192 : Shape := ⟨1, ![8192]⟩
abbrev S8x16x8192x8192 : Shape := ⟨4, ![8, 16, 8192, 8192]⟩
abbrev S_ : Shape := ⟨0, ![]⟩
abbrev S1x16x1x1 : Shape := ⟨4, ![1, 16, 1, 1]⟩
abbrev S1x8192 : Shape := ⟨2, ![1, 8192]⟩
abbrev S8192x1 : Shape := ⟨2, ![8192, 1]⟩
abbrev S8192x8192 : Shape := ⟨2, ![8192, 8192]⟩
abbrev S8x16x8192x1 : Shape := ⟨4, ![8, 16, 8192, 1]⟩
abbrev S8x16x8192x64 : Shape := ⟨4, ![8, 16, 8192, 64]⟩
abbrev S65536x1024 : Shape := ⟨2, ![65536, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x8192x16x64, .f32⟩
  | .hbm, ⟨1, _⟩ => ⟨S8x8192x16x64, .f32⟩
  | .hbm, ⟨2, _⟩ => ⟨S8x8192x16x64, .f32⟩
  | .hbm, ⟨3, _⟩ => ⟨S16, .f32⟩
  | .hbm, ⟨4, _⟩ => ⟨S8192, .i32⟩
  | .hbm, ⟨5, _⟩ => ⟨S8x16x8192x8192, .f32⟩
  | .hbm, ⟨6, _⟩ => ⟨S_, .f32⟩
  | .hbm, ⟨7, _⟩ => ⟨S8x16x8192x8192, .f32⟩
  | .hbm, ⟨8, _⟩ => ⟨S8x16x8192x8192, .f32⟩
  | .hbm, ⟨9, _⟩ => ⟨S1x16x1x1, .f32⟩
  | .hbm, ⟨10, _⟩ => ⟨S8x16x8192x8192, .f32⟩
  | .hbm, ⟨11, _⟩ => ⟨S8x16x8192x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S8x16x8192x8192, .f32⟩
  | .hbm, ⟨19, _⟩ => ⟨S8x16x8192x8192, .f32⟩
  | .hbm, ⟨20, _⟩ => ⟨S8x16x8192x8192, .f32⟩
  | .hbm, ⟨21, _⟩ => ⟨S8x16x8192x8192, .f32⟩
  | .hbm, ⟨22, _⟩ => ⟨S8x16x8192x8192, .i1⟩
  | .hbm, ⟨23, _⟩ => ⟨S8x16x8192x8192, .f32⟩
  | .hbm, ⟨24, _⟩ => ⟨S8x16x8192x8192, .f32⟩
  | .hbm, ⟨25, _⟩ => ⟨S8x16x8192x8192, .f32⟩
  | .hbm, ⟨26, _⟩ => ⟨S8x16x8192x8192, .f32⟩
  | .hbm, ⟨27, _⟩ => ⟨S8x16x8192x8192, .f32⟩
  | .hbm, ⟨28, _⟩ => ⟨S8x16x8192x8192, .f32⟩
  | .hbm, ⟨29, _⟩ => ⟨S8x16x8192x8192, .f32⟩
  | .hbm, ⟨30, _⟩ => ⟨S8x16x8192x8192, .f32⟩
  | .hbm, ⟨31, _⟩ => ⟨S8x16x8192x8192, .f32⟩
  | .hbm, ⟨32, _⟩ => ⟨S_, .f32⟩
  | .hbm, ⟨33, _⟩ => ⟨S_, .f32⟩
  | .hbm, ⟨34, _⟩ => ⟨S8x16x8192x8192, .i1⟩
  | .hbm, ⟨35, _⟩ => ⟨S8x16x8192x8192, .f32⟩
  | .hbm, ⟨36, _⟩ => ⟨S8x16x8192x8192, .f32⟩
  | .hbm, ⟨37, _⟩ => ⟨S8x16x8192x8192, .f32⟩
  | .hbm, ⟨38, _⟩ => ⟨S_, .f32⟩
  | .hbm, ⟨39, _⟩ => ⟨S8x16x8192x8192, .f32⟩
  | .hbm, ⟨40, _⟩ => ⟨S8x16x8192x8192, .f32⟩
  | .hbm, ⟨41, _⟩ => ⟨S8x16x8192x8192, .f32⟩
  | .hbm, ⟨42, _⟩ => ⟨S8x16x8192x8192, .f32⟩
  | .hbm, ⟨43, _⟩ => ⟨S8x16x8192x8192, .i1⟩
  | .hbm, ⟨44, _⟩ => ⟨S8x16x8192x8192, .f32⟩
  | .hbm, ⟨45, _⟩ => ⟨S8x16x8192x8192, .f32⟩
  | .hbm, ⟨46, _⟩ => ⟨S8x16x8192x8192, .f32⟩
  | .hbm, ⟨47, _⟩ => ⟨S8x16x8192x8192, .f32⟩
  | .hbm, ⟨48, _⟩ => ⟨S8x16x8192x8192, .f32⟩
  | .hbm, ⟨49, _⟩ => ⟨S8x16x8192x8192, .f32⟩
  | .hbm, ⟨50, _⟩ => ⟨S8x16x8192x8192, .f32⟩
  | .hbm, ⟨51, _⟩ => ⟨S8x16x8192x8192, .f32⟩
  | .hbm, ⟨52, _⟩ => ⟨S8x16x8192x8192, .f32⟩
  | .hbm, ⟨53, _⟩ => ⟨S_, .f32⟩
  | .hbm, ⟨54, _⟩ => ⟨S_, .f32⟩
  | .hbm, ⟨55, _⟩ => ⟨S8x16x8192x8192, .i1⟩
  | .hbm, ⟨56, _⟩ => ⟨S8x16x8192x8192, .f32⟩
  | .hbm, ⟨57, _⟩ => ⟨S8x16x8192x8192, .f32⟩
  | .hbm, ⟨58, _⟩ => ⟨S_, .f32⟩
  | .hbm, ⟨59, _⟩ => ⟨S_, .f32⟩
  | .hbm, ⟨60, _⟩ => ⟨S8x16x8192x8192, .f32⟩
  | .hbm, ⟨61, _⟩ => ⟨S8x16x8192x1, .f32⟩
  | .hbm, ⟨62, _⟩ => ⟨S8x16x8192x8192, .f32⟩
  | .hbm, ⟨63, _⟩ => ⟨S8x16x8192x8192, .f32⟩
  | .hbm, ⟨64, _⟩ => ⟨S8x16x8192x8192, .f32⟩
  | .hbm, ⟨65, _⟩ => ⟨S8x16x8192x8192, .f32⟩
  | .hbm, ⟨66, _⟩ => ⟨S8x16x8192x64, .f32⟩
  | .hbm, ⟨67, _⟩ => ⟨S8x8192x16x64, .f32⟩
  | .hbm, ⟨68, _⟩ => ⟨S65536x1024, .f32⟩
  | .hbm, ⟨69, _⟩ => ⟨S65536x1024, .bf16⟩
  | _, _ => ⟨S8x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_call2_v0 : Ref sig .tc := ⟨.hbm, 37, rfl⟩
abbrev main_call2_call0_cst : Ref sig .tc := ⟨.hbm, 38, rfl⟩
abbrev main_call2_call0_v0 : Ref sig .tc := ⟨.hbm, 39, rfl⟩
abbrev main_call2_call0_v1 : Ref sig .tc := ⟨.hbm, 40, rfl⟩
abbrev main_call2_call0_v2 : Ref sig .tc := ⟨.hbm, 41, rfl⟩
abbrev main_call2_call0_v3 : Ref sig .tc := ⟨.hbm, 42, rfl⟩
abbrev main_call2_call0_v4 : Ref sig .tc := ⟨.hbm, 43, rfl⟩
abbrev main_call2_call0_v5 : Ref sig .tc := ⟨.hbm, 44, rfl⟩
abbrev main_call2_call0_v6 : Ref sig .tc := ⟨.hbm, 45, rfl⟩
abbrev main_call2_call0_v7 : Ref sig .tc := ⟨.hbm, 46, rfl⟩
abbrev main_call2_call0_v8 : Ref sig .tc := ⟨.hbm, 47, rfl⟩
abbrev main_call2_call0_v9 : Ref sig .tc := ⟨.hbm, 48, rfl⟩
abbrev main_call2_call0_v10 : Ref sig .tc := ⟨.hbm, 49, rfl⟩
abbrev main_call2_call0_v11 : Ref sig .tc := ⟨.hbm, 50, rfl⟩
abbrev main_call2_v1 : Ref sig .tc := ⟨.hbm, 51, rfl⟩
abbrev main_v15 : Ref sig .tc := ⟨.hbm, 52, rfl⟩
abbrev main_cst_1 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v16 : Ref sig .tc := ⟨.hbm, 57, rfl⟩
abbrev main_call4_call0_cst : Ref sig .tc := ⟨.hbm, 58, rfl⟩
abbrev main_call4_call0_v0 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Projection.lean ====
abbrev S8x8192x1024 : Shape := ⟨3, ![8, 8192, 1024]⟩
abbrev S8x1024 : Shape := ⟨2, ![8, 1024]⟩
abbrev S1024 : Shape := ⟨1, ![1024]⟩
abbrev S1024x9216 : Shape := ⟨2, ![1024, 9216]⟩
abbrev S1024x1024 : Shape := ⟨2, ![1024, 1024]⟩
abbrev S1024x512 : Shape := ⟨2, ![1024, 512]⟩
abbrev S1x1024x1024 : Shape := ⟨3, ![1, 1024, 1024]⟩
abbrev S9x1024x1024 : Shape := ⟨3, ![9, 1024, 1024]⟩
abbrev S65536x1024 : Shape := ⟨2, ![65536, 1024]⟩
abbrev S8x1x1024 : Shape := ⟨3, ![8, 1, 1024]⟩
abbrev S1x1024 : Shape := ⟨2, ![1, 1024]⟩
abbrev S8x1024x8192 : Shape := ⟨3, ![8, 1024, 8192]⟩
abbrev S8x32x1024x256 : Shape := ⟨4, ![8, 32, 1024, 256]⟩
abbrev S256x1024 : Shape := ⟨2, ![256, 1024]⟩
abbrev S1x1x1024 : Shape := ⟨3, ![1, 1, 1024]⟩
abbrev S1x1024x256 : Shape := ⟨3, ![1, 1024, 256]⟩
abbrev S1x1x1024x256 : Shape := ⟨4, ![1, 1, 1024, 256]⟩
abbrev S256 : Shape := ⟨1, ![256]⟩
abbrev S256x1 : Shape := ⟨2, ![256, 1]⟩
abbrev S1024x256 : Shape := ⟨2, ![1024, 256]⟩
abbrev S256x512 : Shape := ⟨2, ![256, 512]⟩

abbrev nBuf : Space → Nat
  | .hbm => 47
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x9216, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x512, .f32⟩
  | .hbm, ⟨18, _⟩ => ⟨S1024x1024, .f32⟩
  | .hbm, ⟨19, _⟩ => ⟨S1024x512, .f32⟩
  | .hbm, ⟨20, _⟩ => ⟨S1024x512, .f32⟩
  | .hbm, ⟨21, _⟩ => ⟨S1024x1024, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S9x1024x1024, .f32⟩
  | .hbm, ⟨32, _⟩ => ⟨S9x1024x1024, .bf16⟩
  | .hbm, ⟨33, _⟩ => ⟨S65536x1024, .f32⟩
  | .hbm, ⟨34, _⟩ => ⟨S8x1x1024, .f32⟩
  | .hbm, ⟨35, _⟩ => ⟨S8x1x1024, .f32⟩
  | .hbm, ⟨36, _⟩ => ⟨S1x1024, .f32⟩
  | .hbm, ⟨37, _⟩ => ⟨S65536x1024, .bf16⟩
  | .hbm, ⟨38, _⟩ => ⟨S8x1024x8192, .f32⟩
  | .hbm, ⟨39, _⟩ => ⟨S8x32x1024x256, .bf16⟩
  | .hbm, ⟨40, _⟩ => ⟨S8x1024x8192, .f32⟩
  | .hbm, ⟨41, _⟩ => ⟨S8x32x1024x256, .bf16⟩
  | .hbm, ⟨42, _⟩ => ⟨S65536x1024, .bf16⟩
  | .hbm, ⟨43, _⟩ => ⟨S65536x1024, .f32⟩
  | .hbm, ⟨44, _⟩ => ⟨S65536x1024, .bf16⟩
  | .hbm, ⟨45, _⟩ => ⟨S65536x1024, .bf16⟩
  | .hbm, ⟨46, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S9x1024x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024x256, .f32⟩
  | .local _ .vmem, ⟨11, _⟩ => ⟨S1x1024x256, .f32⟩
  | .local _ .vmem, ⟨12, _⟩ => ⟨S1x1x1024x256, .bf16⟩
  | .local _ .vmem, ⟨13, _⟩ => ⟨S1x1x1024x256, .bf16⟩
  | .local _ .vmem, ⟨14, _⟩ => ⟨S1x1024x256, .f32⟩
  | .local _ .vmem, ⟨15, _⟩ => ⟨S1x1024x256, .f32⟩
  | .local _ .vmem, ⟨16, _⟩ => ⟨S1x1x1024x256, .bf16⟩
  | .local _ .vmem, ⟨17, _⟩ => ⟨S1x1x1024x256, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32_0 : Ref sig .tc := ⟨.hbm, 37, rfl⟩
abbrev main_v32_1 : Ref sig .tc := ⟨.hbm, 38, rfl⟩
abbrev main_v32_2 : Ref sig .tc := ⟨.hbm, 39, rfl⟩
abbrev main_v32_3 : Ref sig .tc := ⟨.hbm, 40, rfl⟩
abbrev main_v32_4 : Ref sig .tc := ⟨.hbm, 41, rfl⟩
abbrev main_v32_5 : Ref sig .tc := ⟨.hbm, 42, rfl⟩
abbrev main_v32_6 : Ref sig .tc := ⟨.hbm, 43, rfl⟩
abbrev main_v32_7 : Ref sig .tc := ⟨.hbm, 44, rfl⟩
abbrev main_v32_8 : Ref sig .tc := ⟨.hbm, 45, rfl⟩
abbrev main_v32_9 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjectedIdeal.lean ====
abbrev S8x8192x1024 : Shape := ⟨3, ![8, 8192, 1024]⟩
abbrev S8x1024 : Shape := ⟨2, ![8, 1024]⟩
abbrev S1024 : Shape := ⟨1, ![1024]⟩
abbrev S1024x9216 : Shape := ⟨2, ![1024, 9216]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x9216 : Shape := ⟨3, ![8, 8192, 9216]⟩
abbrev S65536x1024 : Shape := ⟨2, ![65536, 1024]⟩
abbrev S8x1024x8192 : Shape := ⟨3, ![8, 1024, 8192]⟩
abbrev S8x32x256x1024 : Shape := ⟨4, ![8, 32, 256, 1024]⟩
abbrev S8x32x1024x256 : Shape := ⟨4, ![8, 32, 1024, 256]⟩

abbrev nBuf : Space → Nat
  | .hbm => 105
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x9216, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x8192x1024, .f32⟩
  | .hbm, ⟨26, _⟩ => ⟨S8x8192x1024, .f32⟩
  | .hbm, ⟨27, _⟩ => ⟨S8x1x1024, .f32⟩
  | .hbm, ⟨28, _⟩ => ⟨S8x8192x1024, .f32⟩
  | .hbm, ⟨29, _⟩ => ⟨S8x8192x1024, .f32⟩
  | .hbm, ⟨30, _⟩ => ⟨S8x8192x9216, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x8192x1024, .f32⟩
  | .hbm, ⟨42, _⟩ => ⟨S8x8192x1024, .f32⟩
  | .hbm, ⟨43, _⟩ => ⟨S65536x1024, .f32⟩
  | .hbm, ⟨44, _⟩ => ⟨S65536x1024, .bf16⟩
  | .hbm, ⟨45, _⟩ => ⟨S8x1024x8192, .f32⟩
  | .hbm, ⟨46, _⟩ => ⟨S8x32x256x1024, .f32⟩
  | .hbm, ⟨47, _⟩ => ⟨S8x32x1024x256, .f32⟩
  | .hbm, ⟨48, _⟩ => ⟨S8x32x1024x256, .bf16⟩
  | .hbm, ⟨49, _⟩ => ⟨S8x1024x8192, .f32⟩
  | .hbm, ⟨50, _⟩ => ⟨S8x32x256x1024, .f32⟩
  | .hbm, ⟨51, _⟩ => ⟨S8x32x1024x256, .f32⟩
  | .hbm, ⟨52, _⟩ => ⟨S8x32x1024x256, .bf16⟩
  | .hbm, ⟨53, _⟩ => ⟨S8x8192x1024, .f32⟩
  | .hbm, ⟨54, _⟩ => ⟨S8x8192x1024, .f32⟩
  | .hbm, ⟨55, _⟩ => ⟨S_, .f32⟩
  | .hbm, ⟨56, _⟩ => ⟨S8x8192x1024, .f32⟩
  | .hbm, ⟨57, _⟩ => ⟨S8x8192x1024, .f32⟩
  | .hbm, ⟨58, _⟩ => ⟨S_, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S65536x1024, .f32⟩
  | .hbm, ⟨63, _⟩ => ⟨S65536x1024, .bf16⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x8192x1024, .f32⟩
  | .hbm, ⟨68, _⟩ => ⟨S8x8192x1024, .f32⟩
  | .hbm, ⟨69, _⟩ => ⟨S_, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S65536x1024, .f32⟩
  | .hbm, ⟨74, _⟩ => ⟨S8x8192x1024, .f32⟩
  | .hbm, ⟨75, _⟩ => ⟨S8x8192x1024, .f32⟩
  | .hbm, ⟨76, _⟩ => ⟨S_, .f32⟩
  | .hbm, ⟨77, _⟩ => ⟨S8x8192x1024, .f32⟩
  | .hbm, ⟨78, _⟩ => ⟨S8x8192x1024, .f32⟩
  | .hbm, ⟨79, _⟩ => ⟨S_, .f32⟩
  | .hbm, ⟨80, _⟩ => ⟨S8x8192x1024, .f32⟩
  | .hbm, ⟨81, _⟩ => ⟨S8x8192x1024, .f32⟩
  | .hbm, ⟨82, _⟩ => ⟨S8x8192x1024, .f32⟩
  | .hbm, ⟨83, _⟩ => ⟨S65536x1024, .f32⟩
  | .hbm, ⟨84, _⟩ => ⟨S65536x1024, .bf16⟩
  | .hbm, ⟨85, _⟩ => ⟨S8x8192x1024, .f32⟩
  | .hbm, ⟨86, _⟩ => ⟨S8x8192x1024, .f32⟩
  | .hbm, ⟨87, _⟩ => ⟨S_, .f32⟩
  | .hbm, ⟨88, _⟩ => ⟨S8x8192x1024, .f32⟩
  | .hbm, ⟨89, _⟩ => ⟨S8x8192x1024, .f32⟩
  | .hbm, ⟨90, _⟩ => ⟨S_, .f32⟩
  | .hbm, ⟨91, _⟩ => ⟨S8x8192x1024, .f32⟩
  | .hbm, ⟨92, _⟩ => ⟨S8x8192x1024, .f32⟩
  | .hbm, ⟨93, _⟩ => ⟨S65536x1024, .f32⟩
  | .hbm, ⟨94, _⟩ => ⟨S65536x1024, .bf16⟩
  | .hbm, ⟨95, _⟩ => ⟨S8x8192x1024, .f32⟩
  | .hbm, ⟨96, _⟩ => ⟨S8x8192x1024, .f32⟩
  | .hbm, ⟨97, _⟩ => ⟨S_, .f32⟩
  | .hbm, ⟨98, _⟩ => ⟨S8x8192x1024, .f32⟩
  | .hbm, ⟨99, _⟩ => ⟨S8x8192x1024, .f32⟩
  | .hbm, ⟨100, _⟩ => ⟨S_, .f32⟩
  | .hbm, ⟨101, _⟩ => ⟨S8x8192x1024, .f32⟩
  | .hbm, ⟨102, _⟩ => ⟨S8x8192x1024, .f32⟩
  | .hbm, ⟨103, _⟩ => ⟨S65536x1024, .f32⟩
  | .hbm, ⟨104, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== Sample.lean ====
abbrev S128x4x1024 : Shape := ⟨3, ![128, 4, 1024]⟩
abbrev S128x1024 : Shape := ⟨2, ![128, 1024]⟩
abbrev S1024 : Shape := ⟨1, ![1024]⟩
abbrev S1024x9216 : Shape := ⟨2, ![1024, 9216]⟩
abbrev S1024x1024 : Shape := ⟨2, ![1024, 1024]⟩
abbrev S1024x512 : Shape := ⟨2, ![1024, 512]⟩
abbrev S1x1024x1024 : Shape := ⟨3, ![1, 1024, 1024]⟩
abbrev S9x1024x1024 : Shape := ⟨3, ![9, 1024, 1024]⟩
abbrev S4x128x1024 : Shape := ⟨3, ![4, 128, 1024]⟩
abbrev S512x1024 : Shape := ⟨2, ![512, 1024]⟩
abbrev S1x128x1024 : Shape := ⟨3, ![1, 128, 1024]⟩
abbrev S1x512x1024 : Shape := ⟨3, ![1, 512, 1024]⟩
abbrev S1x1024 : Shape := ⟨2, ![1, 1024]⟩
abbrev S1x1024x512 : Shape := ⟨3, ![1, 1024, 512]⟩
abbrev S1x2x1024x256 : Shape := ⟨4, ![1, 2, 1024, 256]⟩
abbrev S256x1024 : Shape := ⟨2, ![256, 1024]⟩
abbrev S1x256x1024 : Shape := ⟨3, ![1, 256, 1024]⟩
abbrev S1x1024x256 : Shape := ⟨3, ![1, 1024, 256]⟩
abbrev S1x1x1024x256 : Shape := ⟨4, ![1, 1, 1024, 256]⟩
abbrev S256 : Shape := ⟨1, ![256]⟩
abbrev S256x1 : Shape := ⟨2, ![256, 1]⟩
abbrev S1024x256 : Shape := ⟨2, ![1024, 256]⟩
abbrev S256x512 : Shape := ⟨2, ![256, 512]⟩

abbrev nBuf : Space → Nat
  | .hbm => 54
  | .vmem => 29
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x9216, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x512, .f32⟩
  | .hbm, ⟨18, _⟩ => ⟨S1024x1024, .f32⟩
  | .hbm, ⟨19, _⟩ => ⟨S1024x512, .f32⟩
  | .hbm, ⟨20, _⟩ => ⟨S1024x512, .f32⟩
  | .hbm, ⟨21, _⟩ => ⟨S1024x1024, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S9x1024x1024, .f32⟩
  | .hbm, ⟨32, _⟩ => ⟨S9x1024x1024, .bf16⟩
  | .hbm, ⟨33, _⟩ => ⟨S4x128x1024, .f32⟩
  | .hbm, ⟨34, _⟩ => ⟨S512x1024, .f32⟩
  | .hbm, ⟨35, _⟩ => ⟨S1x128x1024, .f32⟩
  | .hbm, ⟨36, _⟩ => ⟨S4x128x1024, .f32⟩
  | .hbm, ⟨37, _⟩ => ⟨S512x1024, .f32⟩
  | .hbm, ⟨38, _⟩ => ⟨S1x512x1024, .f32⟩
  | .hbm, ⟨39, _⟩ => ⟨S1x128x1024, .f32⟩
  | .hbm, ⟨40, _⟩ => ⟨S4x128x1024, .f32⟩
  | .hbm, ⟨41, _⟩ => ⟨S512x1024, .f32⟩
  | .hbm, ⟨42, _⟩ => ⟨S1x512x1024, .f32⟩
  | .hbm, ⟨43, _⟩ => ⟨S1x1024, .f32⟩
  | .hbm, ⟨44, _⟩ => ⟨S512x1024, .bf16⟩
  | .hbm, ⟨45, _⟩ => ⟨S1x1024x512, .f32⟩
  | .hbm, ⟨46, _⟩ => ⟨S1x2x1024x256, .bf16⟩
  | .hbm, ⟨47, _⟩ => ⟨S1x1024x512, .f32⟩
  | .hbm, ⟨48, _⟩ => ⟨S1x2x1024x256, .bf16⟩
  | .hbm, ⟨49, _⟩ => ⟨S512x1024, .bf16⟩
  | .hbm, ⟨50, _⟩ => ⟨S512x1024, .f32⟩
  | .hbm, ⟨51, _⟩ => ⟨S512x1024, .bf16⟩
  | .hbm, ⟨52, _⟩ => ⟨S512x1024, .bf16⟩
  | .hbm, ⟨53, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S9x1024x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024x256, .f32⟩
  | .local _ .vmem, ⟨11, _⟩ => ⟨S1x1024x256, .f32⟩
  | .local _ .vmem, ⟨12, _⟩ => ⟨S1x1x1024x256, .bf16⟩
  | .local _ .vmem, ⟨13, _⟩ => ⟨S1x1x1024x256, .bf16⟩
  | .local _ .vmem, ⟨14, _⟩ => ⟨S1x1024x256, .f32⟩
  | .local _ .vmem, ⟨15, _⟩ => ⟨S1x1024x256, .f32⟩
  | .local _ .vmem, ⟨16, _⟩ => ⟨S1x1x1024x256, .bf16⟩
  | .local _ .vmem, ⟨17, _⟩ => ⟨S1x1x1024x256, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39_0 : Ref sig .tc := ⟨.hbm, 44, rfl⟩
abbrev main_v39_1 : Ref sig .tc := ⟨.hbm, 45, rfl⟩
abbrev main_v39_2 : Ref sig .tc := ⟨.hbm, 46, rfl⟩
abbrev main_v39_3 : Ref sig .tc := ⟨.hbm, 47, rfl⟩
abbrev main_v39_4 : Ref sig .tc := ⟨.hbm, 48, rfl⟩
abbrev main_v39_5 : Ref sig .tc := ⟨.hbm, 49, rfl⟩
abbrev main_v39_6 : Ref sig .tc := ⟨.hbm, 50, rfl⟩
abbrev main_v39_7 : Ref sig .tc := ⟨.hbm, 51, rfl⟩
abbrev main_v39_8 : Ref sig .tc := ⟨.hbm, 52, rfl⟩
abbrev main_v39_9 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== SampledIdeal.lean ====
abbrev S128x4x1024 : Shape := ⟨3, ![128, 4, 1024]⟩
abbrev S128x1024 : Shape := ⟨2, ![128, 1024]⟩
abbrev S1024 : Shape := ⟨1, ![1024]⟩
abbrev S1024x9216 : Shape := ⟨2, ![1024, 9216]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x1x1024 : Shape := ⟨3, ![128, 1, 1024]⟩
abbrev S128x4x9216 : Shape := ⟨3, ![128, 4, 9216]⟩
abbrev S4x128x1024 : Shape := ⟨3, ![4, 128, 1024]⟩
abbrev S512x1024 : Shape := ⟨2, ![512, 1024]⟩
abbrev S1024x4x128 : Shape := ⟨3, ![1024, 4, 128]⟩
abbrev S1x1024x512 : Shape := ⟨3, ![1, 1024, 512]⟩
abbrev S1x2x256x1024 : Shape := ⟨4, ![1, 2, 256, 1024]⟩
abbrev S1x2x1024x256 : Shape := ⟨4, ![1, 2, 1024, 256]⟩

abbrev nBuf : Space → Nat
  | .hbm => 117
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x9216, .f32⟩
  | .hbm, ⟨5, _⟩ => ⟨S128x4x1024, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x1024, .f32⟩
  | .hbm, ⟨17, _⟩ => ⟨S128x4x1024, .f32⟩
  | .hbm, ⟨18, _⟩ => ⟨S1x1x1024, .f32⟩
  | .hbm, ⟨19, _⟩ => ⟨S128x4x1024, .f32⟩
  | .hbm, ⟨20, _⟩ => ⟨S128x4x1024, .f32⟩
  | .hbm, ⟨21, _⟩ => ⟨S128x1x1024, .f32⟩
  | .hbm, ⟨22, _⟩ => ⟨S_, .f32⟩
  | .hbm, ⟨23, _⟩ => ⟨S128x1x1024, .f32⟩
  | .hbm, ⟨24, _⟩ => ⟨S128x1x1024, .f32⟩
  | .hbm, ⟨25, _⟩ => ⟨S128x4x1024, .f32⟩
  | .hbm, ⟨26, _⟩ => ⟨S128x4x1024, .f32⟩
  | .hbm, ⟨27, _⟩ => ⟨S128x1x1024, .f32⟩
  | .hbm, ⟨28, _⟩ => ⟨S128x4x1024, .f32⟩
  | .hbm, ⟨29, _⟩ => ⟨S128x4x1024, .f32⟩
  | .hbm, ⟨30, _⟩ => ⟨S128x4x9216, .f32⟩
  | .hbm, ⟨31, _⟩ => ⟨S128x4x1024, .f32⟩
  | .hbm, ⟨32, _⟩ => ⟨S128x4x1024, .f32⟩
  | .hbm, ⟨33, _⟩ => ⟨S128x4x1024, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4x1024, .f32⟩
  | .hbm, ⟨42, _⟩ => ⟨S128x4x1024, .f32⟩
  | .hbm, ⟨43, _⟩ => ⟨S4x128x1024, .f32⟩
  | .hbm, ⟨44, _⟩ => ⟨S512x1024, .f32⟩
  | .hbm, ⟨45, _⟩ => ⟨S512x1024, .bf16⟩
  | .hbm, ⟨46, _⟩ => ⟨S1024x4x128, .f32⟩
  | .hbm, ⟨47, _⟩ => ⟨S1x1024x512, .f32⟩
  | .hbm, ⟨48, _⟩ => ⟨S4x128x1024, .f32⟩
  | .hbm, ⟨49, _⟩ => ⟨S512x1024, .f32⟩
  | .hbm, ⟨50, _⟩ => ⟨S1x2x256x1024, .f32⟩
  | .hbm, ⟨51, _⟩ => ⟨S1x2x1024x256, .f32⟩
  | .hbm, ⟨52, _⟩ => ⟨S1x2x1024x256, .bf16⟩
  | .hbm, ⟨53, _⟩ => ⟨S1024x4x128, .f32⟩
  | .hbm, ⟨54, _⟩ => ⟨S1x1024x512, .f32⟩
  | .hbm, ⟨55, _⟩ => ⟨S4x128x1024, .f32⟩
  | .hbm, ⟨56, _⟩ => ⟨S512x1024, .f32⟩
  | .hbm, ⟨57, _⟩ => ⟨S1x2x256x1024, .f32⟩
  | .hbm, ⟨58, _⟩ => ⟨S1x2x1024x256, .f32⟩
  | .hbm, ⟨59, _⟩ => ⟨S1x2x1024x256, .bf16⟩
  | .hbm, ⟨60, _⟩ => ⟨S128x4x1024, .f32⟩
  | .hbm, ⟨61, _⟩ => ⟨S128x4x1024, .f32⟩
  | .hbm, ⟨62, _⟩ => ⟨S_, .f32⟩
  | .hbm, ⟨63, _⟩ => ⟨S128x4x1024, .f32⟩
  | .hbm, ⟨64, _⟩ => ⟨S128x4x1024, .f32⟩
  | .hbm, ⟨65, _⟩ => ⟨S_, .f32⟩
  | .hbm, ⟨66, _⟩ => ⟨S128x4x1024, .f32⟩
  | .hbm, ⟨67, _⟩ => ⟨S128x4x1024, .f32⟩
  | .hbm, ⟨68, _⟩ => ⟨S128x4x1024, .f32⟩
  | .hbm, ⟨69, _⟩ => ⟨S4x128x1024, .f32⟩
  | .hbm, ⟨70, _⟩ => ⟨S512x1024, .f32⟩
  | .hbm, ⟨71, _⟩ => ⟨S512x1024, .bf16⟩
  | .hbm, ⟨72, _⟩ => ⟨S128x4x1024, .f32⟩
  | .hbm, ⟨73, _⟩ => ⟨S128x4x1024, .f32⟩
  | .hbm, ⟨74, _⟩ => ⟨S_, .f32⟩
  | .hbm, ⟨75, _⟩ => ⟨S128x4x1024, .f32⟩
  | .hbm, ⟨76, _⟩ => ⟨S128x4x1024, .f32⟩
  | .hbm, ⟨77, _⟩ => ⟨S_, .f32⟩
  | .hbm, ⟨78, _⟩ => ⟨S128x4x1024, .f32⟩
  | .hbm, ⟨79, _⟩ => ⟨S128x4x1024, .f32⟩
  | .hbm, ⟨80, _⟩ => ⟨S128x4x1024, .f32⟩
  | .hbm, ⟨81, _⟩ => ⟨S4x128x1024, .f32⟩
  | .hbm, ⟨82, _⟩ => ⟨S512x1024, .f32⟩
  | .hbm, ⟨83, _⟩ => ⟨S128x4x1024, .f32⟩
  | .hbm, ⟨84, _⟩ => ⟨S128x4x1024, .f32⟩
  | .hbm, ⟨85, _⟩ => ⟨S_, .f32⟩
  | .hbm, ⟨86, _⟩ => ⟨S128x4x1024, .f32⟩
  | .hbm, ⟨87, _⟩ => ⟨S128x4x1024, .f32⟩
  | .hbm, ⟨88, _⟩ => ⟨S_, .f32⟩
  | .hbm, ⟨89, _⟩ => ⟨S128x4x1024, .f32⟩
  | .hbm, ⟨90, _⟩ => ⟨S128x4x1024, .f32⟩
  | .hbm, ⟨91, _⟩ => ⟨S128x4x1024, .f32⟩
  | .hbm, ⟨92, _⟩ => ⟨S4x128x1024, .f32⟩
  | .hbm, ⟨93, _⟩ => ⟨S512x1024, .f32⟩
  | .hbm, ⟨94, _⟩ => ⟨S512x1024, .bf16⟩
  | .hbm, ⟨95, _⟩ => ⟨S128x4x1024, .f32⟩
  | .hbm, ⟨96, _⟩ => ⟨S128x4x1024, .f32⟩
  | .hbm, ⟨97, _⟩ => ⟨S_, .f32⟩
  | .hbm, ⟨98, _⟩ => ⟨S128x4x1024, .f32⟩
  | .hbm, ⟨99, _⟩ => ⟨S128x4x1024, .f32⟩
  | .hbm, ⟨100, _⟩ => ⟨S_, .f32⟩
  | .hbm, ⟨101, _⟩ => ⟨S128x4x1024, .f32⟩
  | .hbm, ⟨102, _⟩ => ⟨S128x4x1024, .f32⟩
  | .hbm, ⟨103, _⟩ => ⟨S4x128x1024, .f32⟩
  | .hbm, ⟨104, _⟩ => ⟨S512x1024, .f32⟩
  | .hbm, ⟨105, _⟩ => ⟨S512x1024, .bf16⟩
  | .hbm, ⟨106, _⟩ => ⟨S128x4x1024, .f32⟩
  | .hbm, ⟨107, _⟩ => ⟨S128x4x1024, .f32⟩
  | .hbm, ⟨108, _⟩ => ⟨S_, .f32⟩
  | .hbm, ⟨109, _⟩ => ⟨S128x4x1024, .f32⟩
  | .hbm, ⟨110, _⟩ => ⟨S128x4x1024, .f32⟩
  | .hbm, ⟨111, _⟩ => ⟨S_, .f32⟩
  | .hbm, ⟨112, _⟩ => ⟨S128x4x1024, .f32⟩
  | .hbm, ⟨113, _⟩ => ⟨S128x4x1024, .f32⟩
  | .hbm, ⟨114, _⟩ => ⟨S4x128x1024, .f32⟩
  | .hbm, ⟨115, _⟩ => ⟨S512x1024, .f32⟩
  | .hbm, ⟨116, _⟩ => ⟨S512x1024, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_10 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_12 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩

abbrev nD : Nat := 1
abbrev τ : Topo := Topo.v7x

variable {F : FTy → Type} [FloatOps F]
-- ==== Proof.Stick.lean ====
/-
  The mathematics of stick-breaking attention for one query, over the reals, naming no program.

  A query at position `p` sees the keys at positions below `p`, with scores `z κ`. Key `κ` gets the weight
  `exp (z κ - ∑ κ ≤ s < p, softplus (z s))`, every other key the weight zero.
-/
module

public import Idealize.ShloMosaic.PureOps.Ideal
public import Idealize.ShloMosaic.Lib.IdealHost
public import Idealize.ShloMosaic.Lib.Pointwise

@[expose] public section

noncomputable section

namespace Cert.Stick

open Idealize.ShloMosaic

/-- The softplus `log (1 + exp x)`, in the form both programs compute. -/
def sp (x : ℝ) : ℝ := max x 0 + Real.log (1 + Real.exp (-|x|))

/-- The sum of the softplus of the scores from key `a` up to key `b` (excluded). -/
def tail (z : ℕ → ℝ) (a b : ℕ) : ℝ := ∑ s ∈ Finset.Ico a b, sp (z s)

/-- The weight of key `κ` for the query at position `p`. -/
def wt (z : ℕ → ℝ) (p κ : ℕ) : ℝ := if κ < p then Real.exp (z κ - tail z κ p) else 0

/-- The weighted sum of the values of the keys in `[a, b)`. -/
def part (z : ℕ → ℝ) (p : ℕ) (v : ℕ → EReal) (a b : ℕ) : EReal := ∑ κ ∈ Finset.Ico a b, (wt z p κ : EReal) * v κ

theorem tail_add (z : ℕ → ℝ) {a b c : ℕ} (h : a ≤ b) (h' : b ≤ c) : tail z a b + tail z b c = tail z a c :=
  Finset.sum_Ico_consecutive _ h h'

theorem part_add (z : ℕ → ℝ) (p : ℕ) (v : ℕ → EReal) {a b c : ℕ} (h : a ≤ b) (h' : b ≤ c) :
    part z p v a b + part z p v b c = part z p v a c :=
  Finset.sum_Ico_consecutive _ h h'

/-- Keys at or past the query's position add nothing. -/
theorem part_past (z : ℕ → ℝ) (p : ℕ) (v : ℕ → EReal) {a b : ℕ} (h : p ≤ a) : part z p v a b = 0 := by
  unfold part
  refine Finset.sum_eq_zero fun κ hκ => ?_
  have : ¬κ < p := by have := (Finset.mem_Ico.mp hκ).1; omega
  simp [wt, this]

/-- `log (1 + exp (-|x|))` has a positive argument. -/
theorem one_add_exp_pos (x : ℝ) : 0 < 1 + Real.exp (-|x|) := by positivity

/-- `softplus (-x) = softplus x - x`. -/
theorem sp_neg (x : ℝ) : sp (-x) = sp x - x := by
  unfold sp
  rw [abs_neg]
  rcases le_total x 0 with h | h
  · rw [max_eq_left (by linarith), max_eq_right h]; ring
  · rw [max_eq_right (by linarith), max_eq_left h]; ring

/-- The greater of two reals, as extended reals. -/
theorem coe_max (x y : ℝ) : ((max x y : ℝ) : EReal) = max (x : EReal) (y : EReal) :=
  EReal.coe_strictMono.monotone.map_max

theorem max_neg_coe (x : ℝ) : max (x : EReal) (-(x : EReal)) = ((|x| : ℝ) : EReal) := by
  rw [← EReal.coe_neg, ← coe_max]; rfl

theorem log_coe_pos {x : ℝ} (h : 0 < x) : Ideal.log (x : EReal) = (Real.log x : EReal) := by
  show (if x ≤ 0 then (⊥ : EReal) else (Real.log x : EReal)) = _
  rw [if_neg (not_le.mpr h)]

/-- The host's softplus at a real score. -/
theorem host_softplus (x : ℝ) :
    max (x : EReal) 0 + Ideal.log1p (Ideal.exp (-max (x : EReal) (-(x : EReal)))) = (sp x : EReal) := by
  rw [max_neg_coe, ← EReal.coe_neg]
  show max (x : EReal) 0 + Ideal.log (1 + ((Real.exp (-|x|) : ℝ) : EReal)) = _
  rw [← EReal.coe_one, ← EReal.coe_add, log_coe_pos (one_add_exp_pos x), ← EReal.coe_zero, ← coe_max, ← EReal.coe_add]
  rfl

/-- The kernel's softplus at a real score: the power of two of `|x| · (-1 / log 2)` is `exp (-|x|)`. -/
theorem kernel_softplus (x : ℝ) :
    max (x : EReal) 0
        + Ideal.log (1 + Ideal.exp2 (max (x : EReal) (-(x : EReal)) * ((-((Real.log 2)⁻¹) : ℝ) : EReal)))
      = (sp x : EReal) := by
  have h2 : (0 : ℝ) < Real.log 2 := Real.log_pos one_lt_two
  rw [max_neg_coe, ← EReal.coe_mul]
  show max (x : EReal) 0 + Ideal.log (1 + ((Real.rpow 2 (|x| * -((Real.log 2)⁻¹)) : ℝ) : EReal)) = _
  have he : Real.rpow 2 (|x| * -((Real.log 2)⁻¹)) = Real.exp (-|x|) := by
    show (2 : ℝ) ^ (|x| * -((Real.log 2)⁻¹)) = _
    rw [Real.rpow_def_of_pos two_pos]
    congr 1
    field_simp
  rw [he, ← EReal.coe_one, ← EReal.coe_add, log_coe_pos (one_add_exp_pos x), ← EReal.coe_zero, ← coe_max, ← EReal.coe_add]
  rfl

/-- The reference's weight of a visible key: `exp (log_sigmoid (z κ) + (total - prefix))`, where the prefix of the
    negated softplus terms runs up to and including key `κ`. -/
theorem ref_weight (z : ℕ → ℝ) (p κ : ℕ) (h : κ < p) :
    Real.exp (-sp (-(z κ)) + (-tail z 0 p - -tail z 0 (κ + 1))) = wt z p κ := by
  unfold wt
  rw [if_pos h, sp_neg]
  have h1 := tail_add z (Nat.zero_le κ) h.le
  have h2 := tail_add z (Nat.zero_le κ) (Nat.le_succ κ)
  have h3 : tail z κ (κ + 1) = sp (z κ) := by simp [tail]
  congr 1
  rw [Nat.succ_eq_add_one, h3] at h2
  linarith

end Cert.Stick

end
-- ==== Proof.Spec.lean ====
/-
  The result both programs compute, as ONE function of the arguments, naming no program: stick-breaking attention of
  8 sequences of 8192 positions, 16 heads of 64 lanes (Stick.lean has the mathematics of one query).
-/
module

public import proofs.«01_k».proof.Proof.Stick

@[expose] public section

noncomputable section

namespace Cert.Stick

open Idealize.ShloMosaic

/-- Queries, keys or values: sequence, position, head, lane. -/
abbrev Heads : Type := (⟨4, ![8, 8192, 16, 64]⟩ : Shape).Idx → EReal

/-- One number per head. -/
abbrev PerHead : Type := (⟨1, ![16]⟩ : Shape).Idx → EReal

/-- The scores of the query of sequence `n`, head `h`, position `p`, by the key's position. -/
def score (q k : Heads) (b : PerHead) (n : Fin 8) (h : Fin 16) (p : Fin 8192) (κ : ℕ) : ℝ :=
  if hκ : κ < 8192 then
    (∑ d : Fin 64, (q (ix4 n p h d)).toReal * (k (ix4 n ⟨κ, hκ⟩ h d)).toReal) * (1 / 8) + (b (ix1 h)).toReal
  else 0

/-- Lane `d` of the values of sequence `n`, head `h`, by the key's position. -/
def vals (v : Heads) (n : Fin 8) (h : Fin 16) (d : Fin 64) (κ : ℕ) : EReal :=
  if hκ : κ < 8192 then v (ix4 n ⟨κ, hκ⟩ h d) else 0

/-- The attention's result at row `r` (sequence and position) and column `l` (head and lane). -/
def out (q k v : Heads) (b : PerHead) (r : Fin 65536) (l : Fin 1024) : EReal :=
  part (score q k b ⟨r.val / 8192, by omega⟩ ⟨l.val / 64, by omega⟩ ⟨r.val % 8192, by omega⟩) (r.val % 8192)
    (vals v ⟨r.val / 8192, by omega⟩ ⟨l.val / 64, by omega⟩ ⟨l.val % 64, by omega⟩) 0 8192

/-- The sum of reals, as extended reals. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A finite extended real is the real it reads as. -/
theorem coe_of_finite {x : EReal} (h : max x (-x) < ⊤) : ((x.toReal : ℝ) : EReal) = x := by
  induction x with
  | bot => simp at h
  | top => simp at h
  | coe r => rfl

end Cert.Stick

end
-- ==== Proof.Cumsum.lean ====
/-
  A running sum over the last of four axes, read at an index: the host's window sum whose window is the whole axis,
  padded low by one less, sums the elements up to and including its own position.
-/
module

public import proofs.«01_k».proof.Proof.Spec

@[expose] public section

noncomputable section

namespace Cert.Stick

open Idealize.ShloMosaic

theorem numel_row (N : ℕ) : (⟨4, ![1, 1, 1, N]⟩ : Shape).numel = N := by
  show ∏ a : Fin 4, (![1, 1, 1, N] : Fin 4 → ℕ) a = N
  simp [Fin.prod_univ_four]

/-- Position `n` of a `[1, 1, 1, N]` row is its index `(0, 0, 0, n)`. -/
theorem symm_row {N : ℕ} (n : Fin (⟨4, ![1, 1, 1, N]⟩ : Shape).numel) :
    (⟨4, ![1, 1, 1, N]⟩ : Shape).rowMajor.symm n = ix4 (0 : Fin 1) (0 : Fin 1) (0 : Fin 1) (n.cast (numel_row N)) :=
  ((⟨4, ![1, 1, 1, N]⟩ : Shape).rowMajor.symm_apply_eq).2 (Fin.ext (by
    rw [Shape.rowMajor_val_four]
    show n.val = ((0 * 1 + 0) * 1 + 0) * N + n.val
    simp))

/-- A left fold of additions is the start plus the sum. -/
theorem foldl_add {ι : Type*} (L : List ι) (g : ι → EReal) (r : EReal) : L.foldl (fun r n => r + g n) r = r + (L.map g).sum := by
  induction L generalizing r with
  | nil => simp
  | cons a L ih => simp [ih, add_assoc]

/-- The window at position `j` of an axis padded low by `M` reads the elements `0 … j`. -/
theorem window_sum (f : ℕ → ℝ) (M j : ℕ) (hj : j ≤ M) :
    (∑ w ∈ Finset.range (M + 1), if M ≤ j + w then f (j + w - M) else 0) = ∑ s ∈ Finset.range (j + 1), f s := by
  have e : M + 1 = (M - j) + (j + 1) := by omega
  rw [e, Finset.sum_range_add, Finset.sum_eq_zero, zero_add]
  · refine Finset.sum_congr rfl fun s hs => ?_
    rw [if_pos (by omega)]
    congr 1
    omega
  · intro w hw
    rw [if_neg (by have := Finset.mem_range.mp hw; omega)]

/-- The host's running sum over the last axis of reals. -/
theorem cumsum4 {A B C M N : ℕ} (hN : N = M + 1) (x : (⟨4, ![A, B, C, N]⟩ : Shape).Idx → EReal)
    (h : (⟨4, ![A, B, C, N]⟩ : Shape).ReduceWindows ![1, 1, 1, N] ![1, 1, 1, 1] ![0, 0, 0, M] ![0, 0, 0, 0] ⟨4, ![A, B, C, N]⟩)
    (hu : 0 < (⟨0, ![]⟩ : Shape).numel) (a : Fin A) (b : Fin B) (p : Fin C) (j : Fin N) (f : ℕ → ℝ)
    (hf : ∀ s : Fin N, x (ix4 a b p s) = ((f s.val : ℝ) : EReal)) :
    Host.reduceWindow (· + ·) ![1, 1, 1, N] ![1, 1, 1, 1] ![0, 0, 0, M] ![0, 0, 0, 0] x (fun _ : (⟨0, ![]⟩ : Shape).Idx => (0 : EReal)) h hu (ix4 a b p j)
      = ((∑ s ∈ Finset.range (j.val + 1), f s : ℝ) : EReal) := by
  have hj := j.isLt
  unfold Host.reduceWindow
  dsimp only
  refine (foldl_add _ _ _).trans ?_
  rw [zero_add, ← Fin.sum_univ_def]
  refine Eq.trans (Finset.sum_congr rfl (g := fun n : Fin (⟨4, ![1, 1, 1, N]⟩ : Shape).numel => (((if M ≤ j.val + n.val then f (j.val + n.val - M) else 0 : ℝ)) : EReal)) fun n _ => ?_) ?_
  · have hn : n.val < N := (n.cast (numel_row N)).isLt
    have w0 : ((⟨4, ![1, 1, 1, N]⟩ : Shape).rowMajor.symm n 0).val = 0 := by rw [symm_row]; rfl
    have w1 : ((⟨4, ![1, 1, 1, N]⟩ : Shape).rowMajor.symm n 1).val = 0 := by rw [symm_row]; rfl
    have w2 : ((⟨4, ![1, 1, 1, N]⟩ : Shape).rowMajor.symm n 2).val = 0 := by rw [symm_row]; rfl
    have w3 : ((⟨4, ![1, 1, 1, N]⟩ : Shape).rowMajor.symm n 3).val = n.val := by rw [symm_row]; rfl
    split
    · next hin =>
      have h3 := hin 3
      change M ≤ j.val * 1 + ((⟨4, ![1, 1, 1, N]⟩ : Shape).rowMajor.symm n 3).val
        ∧ j.val * 1 + ((⟨4, ![1, 1, 1, N]⟩ : Shape).rowMajor.symm n 3).val - M < N at h3
      rw [w3] at h3
      rw [if_pos (by omega)]
      refine Eq.trans (congrArg x (funext fun t => Fin.ext ?_)) ((hf ⟨j.val + n.val - M, by omega⟩))
      match t with
      | ⟨0, _⟩ => show a.val * 1 + ((⟨4, ![1, 1, 1, N]⟩ : Shape).rowMajor.symm n 0).val - 0 = a.val; rw [w0]; omega
      | ⟨1, _⟩ => show b.val * 1 + ((⟨4, ![1, 1, 1, N]⟩ : Shape).rowMajor.symm n 1).val - 0 = b.val; rw [w1]; omega
      | ⟨2, _⟩ => show p.val * 1 + ((⟨4, ![1, 1, 1, N]⟩ : Shape).rowMajor.symm n 2).val - 0 = p.val; rw [w2]; omega
      | ⟨3, _⟩ => show j.val * 1 + ((⟨4, ![1, 1, 1, N]⟩ : Shape).rowMajor.symm n 3).val - M = j.val + n.val - M; rw [w3]; omega
    · next hin =>
      rw [if_neg fun hle => hin fun t => by
        match t with
        | ⟨0, _⟩ => show 0 ≤ a.val * 1 + ((⟨4, ![1, 1, 1, N]⟩ : Shape).rowMajor.symm n 0).val ∧ a.val * 1 + ((⟨4, ![1, 1, 1, N]⟩ : Shape).rowMajor.symm n 0).val - 0 < A; rw [w0]; have := a.isLt; omega
        | ⟨1, _⟩ => show 0 ≤ b.val * 1 + ((⟨4, ![1, 1, 1, N]⟩ : Shape).rowMajor.symm n 1).val ∧ b.val * 1 + ((⟨4, ![1, 1, 1, N]⟩ : Shape).rowMajor.symm n 1).val - 0 < B; rw [w1]; have := b.isLt; omega
        | ⟨2, _⟩ => show 0 ≤ p.val * 1 + ((⟨4, ![1, 1, 1, N]⟩ : Shape).rowMajor.symm n 2).val ∧ p.val * 1 + ((⟨4, ![1, 1, 1, N]⟩ : Shape).rowMajor.symm n 2).val - 0 < C; rw [w2]; have := p.isLt; omega
        | ⟨3, _⟩ => show M ≤ j.val * 1 + ((⟨4, ![1, 1, 1, N]⟩ : Shape).rowMajor.symm n 3).val ∧ j.val * 1 + ((⟨4, ![1, 1, 1, N]⟩ : Shape).rowMajor.symm n 3).val - M < N; rw [w3]; omega]
      rfl
  · rw [← coe_sum]
    congr 1
    rw [Fin.sum_univ_eq_sum_range (fun n => if M ≤ j.val + n then f (j.val + n - M) else 0), numel_row]
    have e := window_sum f M j.val (by omega)
    rw [← hN] at e
    exact e

/-- The terms of a block's suffix sum: the keys of the block from column `c` on and before column `ρ`. -/
theorem suffix (f : ℕ → ℝ) (base c ρ : ℕ) (hρ : ρ ≤ 256) :
    (∑ t : Fin 256, if c ≤ t.val then (if t.val < ρ then f (base + t.val) else 0) else 0) = ∑ s ∈ Finset.Ico (base + c) (base + ρ), f s := by
  rw [Fin.sum_univ_eq_sum_range (fun t => if c ≤ t then (if t < ρ then f (base + t) else 0) else 0), Nat.add_comm base c, Nat.add_comm base ρ,
    ← Finset.sum_Ico_add]
  simp only [← ite_and]
  rw [← Finset.sum_filter]
  refine Finset.sum_congr ?_ fun _ _ => rfl
  ext t
  simp only [Finset.mem_filter, Finset.mem_range, Finset.mem_Ico]
  omega

/-- A block's sum over its 256 columns is the sum over its keys. -/
theorem block_sum (f : ℕ → EReal) (base : ℕ) : ∑ c : Fin 256, f (base + c.val) = ∑ s ∈ Finset.Ico base (base + 256), f s := by
  rw [Fin.sum_univ_eq_sum_range (fun t => f (base + t)), Finset.sum_Ico_eq_sum_range]
  simp

end Cert.Stick

end
-- ==== Proof.RefValue.lean ====
/-
  The reference's result, read element by element: at every index it is `Stick.out` of the arguments, when the
  queries, the keys and the head biases are finite.
-/
module

public import proofs.«01_k».proof.Proof.Gen.ReferenceIdeal.Run
public import proofs.«01_k».proof.Proof.Cumsum
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Cert.Stick

/-- The scores of all queries against all keys. -/
def Z (q k : FVec Ideal S8x8192x16x64 .f32) (b : FVec Ideal S16 .f32) : FVec Ideal S8x16x8192x8192 .f32 :=
  addf (mulf (Host.dotGeneral dot_S8x8192x16x64_S8x8192x16x64_S8x16x8192x8192_3_3_1_1_02_02 none q k)
      (broadcastInDim S8x16x8192x8192 ![] bcast_S_S8x16x8192x8192 (constant S_ .f32 0x3E000000#32)))
    (broadcastInDim S8x16x8192x8192 ![0, 1, 2, 3] bcast_S1x16x1x1_S8x16x8192x8192_0_1_2_3
      (broadcastInDim S1x16x1x1 ![1] bcast_S16_S1x16x1x1_1 b))

/-- The zero every score is compared with. -/
def zeros : FVec Ideal S8x16x8192x8192 .f32 :=
  broadcastInDim S8x16x8192x8192 ![] bcast_S_S8x16x8192x8192 (constant S_ .f32 0x00000000#32)

/-- The host's softplus, as it prints. -/
def softplus (z : FVec Ideal S8x16x8192x8192 .f32) : FVec Ideal S8x16x8192x8192 .f32 :=
  select (cmpf .une (subf z zeros) (subf z zeros)) (addf z zeros)
    (addf (maximumf z zeros) (Host.log1p (Host.exp (Host.negf (Host.absf (subf z zeros))))))

/-- Which keys a query sees. -/
def valid : IVec S8x16x8192x8192 1 :=
  broadcastInDim S8x16x8192x8192 ![2, 3] bcast_S8192x8192_S8x16x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The running sums over the keys. -/
def running (z : FVec Ideal S8x16x8192x8192 .f32) : FVec Ideal S8x16x8192x8192 .f32 :=
  Host.reduceWindowAdd ![1, 1, 1, 8192] ![1, 1, 1, 1] ![0, 0, 0, 8191] ![0, 0, 0, 0]
    (select valid (Host.negf (softplus z)) (broadcastInDim S8x16x8192x8192 ![] bcast_S_S8x16x8192x8192 (id (constant S_ .f32 0x00000000#32))))
    (broadcastInDim S_ ![] bcast_S_S_ (constant S_ .f32 0x00000000#32))
    reduceWindows_S8x16x8192x8192_S8x16x8192x8192_w1s1p0_0_w1s1p0_0_w1s1p0_0_w8192s1p8191_0 h_S_

/-- The weights. -/
def weights (z : FVec Ideal S8x16x8192x8192 .f32) : FVec Ideal S8x16x8192x8192 .f32 :=
  Host.exp (addf (select valid (Host.negf (softplus (Host.negf z))) (broadcastInDim S8x16x8192x8192 ![] bcast_S_S8x16x8192x8192 (id (constant S_ .f32 0xFF800000#32))))
    (subf (broadcastInDim S8x16x8192x8192 ![0, 1, 2, 3] bcast_S8x16x8192x1_S8x16x8192x8192_0_1_2_3
      (extractStridedSlice S8x16x8192x1 ![0, 0, 0, 8191] (running z) slices_S8x16x8192x8192_S8x16x8192x1_0_0_0_8191)) (running z)))

/-- The weighted sums of the values, laid out by sequence and position, head and lane. -/
def attn (w : FVec Ideal S8x16x8192x8192 .f32) (v : FVec Ideal S8x8192x16x64 .f32) : FVec Ideal S65536x1024 .bf16 :=
  truncf .bf16 (shapeCast S65536x1024 (transpose S8x8192x16x64 [0, 2, 1, 3]
    (Host.dotGeneral dot_S8x16x8192x8192_S8x8192x16x64_S8x16x8192x64_3_1_2_3_01_02 none w v)
    transposes_S8x16x8192x64_S8x8192x16x64_0_2_1_3) shapeCasts_S8x8192x16x64_S65536x1024) bitsLt_bf16_f32

variable (m : (ℓ : Loc nD τ sig) → Buf (Elt Ideal) ℓ)

/-- The reference's term in these names. -/
theorem res_eq (c : Dev nD) : res_out0 m c
    = attn (weights (Z (m ((c.tc : Thread nD τ).loc main_arg0)) (m ((c.tc : Thread nD τ).loc main_arg1)) (m ((c.tc : Thread nD τ).loc main_arg3))))
        (m ((c.tc : Thread nD τ).loc main_arg2)) := rfl

variable (q k v : FVec Ideal S8x8192x16x64 .f32) (b : FVec Ideal S16 .f32)

theorem eighth : Ideal.ofBits .f32 0x3E000000#32 = (((1 : ℝ) / 8 : ℝ) : EReal) := by
  simp [Ideal.ofBits, Ideal.ieee]
  rw [← EReal.coe_mul]
  norm_num

theorem bottom : Ideal.ofBits .f32 0xFF800000#32 = (⊥ : EReal) := by
  simp [Ideal.ofBits, Ideal.ieee]

/-- A score is the real score. -/
theorem Z_apply (hq : ∀ i, ((q i).toReal : EReal) = q i) (hk : ∀ i, ((k i).toReal : EReal) = k i)
    (hb : ∀ i, ((b i).toReal : EReal) = b i) (n : Fin 8) (h : Fin 16) (p κ : Fin 8192) :
    Z q k b (ix4 n h p κ) = ((score q k b n h p κ.val : ℝ) : EReal) := by
  pointwise [Z]
  rw [eighth]
  unfold score
  rw [dif_pos κ.isLt]
  push_cast
  rw [hb]
  congr 2
  rw [coe_sum]
  exact Finset.sum_congr rfl fun d _ => by rw [EReal.coe_mul, hq, hk]

/-- The host's softplus of a real score. -/
theorem softplus_apply (z : FVec Ideal S8x16x8192x8192 .f32) (i : S8x16x8192x8192.Idx) (x : ℝ) (h : z i = (x : EReal)) :
    softplus z i = ((sp x : ℝ) : EReal) := by
  pointwise [softplus, zeros]
  rw [if_neg (by simp), h, Ideal.absf_def]
  exact host_softplus x

/-- A query at position `p` sees the keys before it. -/
theorem valid_apply (n : Fin 8) (h : Fin 16) (p κ : Fin 8192) :
    (valid (ix4 n h p κ) = 1#1) = (κ.val < p.val) := by
  have e : valid (ix4 n h p κ) = IntOp.cmpi .slt (BitVec.ofNat 32 κ.val) (BitVec.ofNat 32 p.val) := by pointwise [valid]
  rw [e]
  have h1 := κ.isLt
  have h2 := p.isLt
  rw [WordCmp.cmpi_slt_ofNat (by omega) (by omega)]
  by_cases hlt : κ.val < p.val <;> simp only [hlt, decide_true, decide_false] <;> decide

/-- A select under a set bit. -/
theorem seen {α : Type} {c : BitVec 1} (x y : α) (h : c = 1#1) : Scalar.select c x y = x := if_pos h

/-- A select under a clear bit. -/
theorem unseen {α : Type} {c : BitVec 1} (x y : α) (h : ¬c = 1#1) : Scalar.select c x y = y := if_neg h

/-- The masked softplus of real scores, negated. -/
theorem masked_apply (z : FVec Ideal S8x16x8192x8192 .f32) (n : Fin 8) (h : Fin 16) (p κ : Fin 8192) (x : ℝ)
    (hz : z (ix4 n h p κ) = (x : EReal)) :
    select valid (Host.negf (softplus z)) (broadcastInDim S8x16x8192x8192 ![] bcast_S_S8x16x8192x8192 (id (constant S_ .f32 0x00000000#32))) (ix4 n h p κ)
      = (((if κ.val < p.val then -sp x else 0 : ℝ)) : EReal) := by
  pointwise
  rw [softplus_apply z _ x hz]
  by_cases hlt : κ.val < p.val
  · rw [seen _ _ ((valid_apply n h p κ).mpr hlt), if_pos hlt, EReal.coe_neg]
  · rw [unseen _ _ fun hv => hlt ((valid_apply n h p κ).mp hv), if_neg hlt]
    show Ideal.ofBits .f32 0#32 = _
    simp [Ideal.ofBits, Ideal.ieee]

variable (z : FVec Ideal S8x16x8192x8192 .f32) (n : Fin 8) (h : Fin 16) (p : Fin 8192) (f : ℕ → ℝ)

/-- The host's window sum is the fold of exact additions. -/
theorem windowAdd_eq {s t u : Shape} (window strides lo hi : Fin s.rank → ℕ) (x : FVec Ideal s .f32) (init : u.Idx → Ideal .f32)
    (h : s.ReduceWindows window strides lo hi t) (hu : 0 < u.numel) :
    (Host.reduceWindowAdd window strides lo hi x init h hu : FVec Ideal t .f32)
      = Host.reduceWindow (fun a b : EReal => a + b) window strides lo hi x (fun _ : (⟨0, ![]⟩ : Shape).Idx => init (Shape.Idx.first hu)) h := rfl

/-- The running sum up to and including key `κ`. -/
theorem running_apply (hz : ∀ κ : Fin 8192, z (ix4 n h p κ) = ((f κ.val : ℝ) : EReal)) (κ : Fin 8192) :
    running z (ix4 n h p κ) = ((∑ s ∈ Finset.range (κ.val + 1), if s < p.val then -sp (f s) else 0 : ℝ) : EReal) := by
  have h0 : (broadcastInDim S_ ![] bcast_S_S_ (constant S_ .f32 0x00000000#32) : FVec Ideal S_ .f32) (Shape.Idx.first h_S_) = (0 : EReal) := by
    show Ideal.ofBits .f32 0#32 = _
    simp [Ideal.ofBits, Ideal.ieee]
  have key := cumsum4 (A := 8) (B := 16) (C := 8192) (M := 8191) (N := 8192) rfl _
    reduceWindows_S8x16x8192x8192_S8x16x8192x8192_w1s1p0_0_w1s1p0_0_w1s1p0_0_w8192s1p8191_0 h_S_ n h p κ
    (fun s => if s < p.val then -sp (f s) else 0) fun s => masked_apply z n h p s (f s.val) (hz s)
  unfold running
  rw [windowAdd_eq, h0]
  exact key

/-- The running sums of the terms before `p`, as tails. -/
theorem prefix_eq (t p : ℕ) (h : t ≤ p) : (∑ s ∈ Finset.range t, if s < p then -sp (f s) else 0) = -tail f 0 t := by
  unfold tail
  rw [← Finset.sum_neg_distrib, Finset.range_eq_Ico]
  exact Finset.sum_congr rfl fun s hs => if_pos (by have := (Finset.mem_Ico.mp hs).2; omega)

theorem total_eq (T p : ℕ) (h : p ≤ T) : (∑ s ∈ Finset.range T, if s < p then -sp (f s) else 0) = -tail f 0 p := by
  rw [← prefix_eq f p p le_rfl]
  refine (Finset.sum_subset (Finset.range_mono h) fun s _ hs => if_neg (by simpa using hs)).symm

/-- The weights are the weights of stick-breaking attention. -/
theorem weights_apply (hz : ∀ κ : Fin 8192, z (ix4 n h p κ) = ((f κ.val : ℝ) : EReal)) (κ : Fin 8192) :
    weights z (ix4 n h p κ) = ((wt f p.val κ.val : ℝ) : EReal) := by
  have hneg : Host.negf z (ix4 n h p κ) = ((-f κ.val : ℝ) : EReal) := by
    show -(z (ix4 n h p κ)) = _
    rw [hz, EReal.coe_neg]
  have ht := running_apply z n h p f hz (⟨8191, by omega⟩ : Fin 8192)
  have hp := p.isLt
  rw [total_eq f (8191 + 1) p.val (by omega)] at ht
  pointwise [weights]
  rw [softplus_apply _ _ _ hneg, running_apply z n h p f hz κ, show running z (ix4 n h p 8191) = _ from ht]
  by_cases hlt : κ.val < p.val
  · rw [seen _ _ ((valid_apply n h p κ).mpr hlt), prefix_eq f (κ.val + 1) p.val hlt, ← EReal.coe_neg, ← EReal.coe_sub, ← EReal.coe_add,
      ← ref_weight f p.val κ.val hlt]
    rfl
  · rw [unseen _ _ fun hv => hlt ((valid_apply n h p κ).mp hv), ← EReal.coe_sub]
    have hb : (id (constant (F := Ideal) S_ FTy.f32 4286578688#32) ix0 : EReal) = ⊥ := bottom
    unfold wt
    rw [if_neg hlt, hb, EReal.bot_add]
    rfl

/-- The attention's element is the weighted sum of the values. -/
theorem attn_apply (w : FVec Ideal S8x16x8192x8192 .f32) (v : FVec Ideal S8x8192x16x64 .f32) (r : Fin 65536) (l : Fin 1024) :
    attn w v (ix2 r l) = ∑ κ : Fin 8192, w (ix4 (⟨r.val / 8192, by omega⟩ : Fin 8) (⟨l.val / 64, by omega⟩ : Fin 16) (⟨r.val % 8192, by omega⟩ : Fin 8192) κ)
        * v (ix4 (⟨r.val / 8192, by omega⟩ : Fin 8) κ (⟨l.val / 64, by omega⟩ : Fin 16) (⟨l.val % 64, by omega⟩ : Fin 64)) := by
  pointwise [attn]

/-- The reference's result, element by element. -/
theorem result_apply (q k v : FVec Ideal S8x8192x16x64 .f32) (b : FVec Ideal S16 .f32) (hq : ∀ i, ((q i).toReal : EReal) = q i)
    (hk : ∀ i, ((k i).toReal : EReal) = k i) (hb : ∀ i, ((b i).toReal : EReal) = b i) (r : Fin 65536) (l : Fin 1024) :
    attn (weights (Z q k b)) v (ix2 r l) = out q k v b r l := by
  rw [attn_apply]
  unfold out part
  rw [← Finset.range_eq_Ico, ← Fin.sum_univ_eq_sum_range]
  refine Finset.sum_congr rfl fun κ _ => ?_
  rw [weights_apply _ _ _ _ _ fun κ => Z_apply q k b hq hk hb _ _ _ κ]
  unfold vals
  rw [dif_pos κ.isLt]

end Cert.ReferenceIdeal.Value

end
-- ==== Proof.Block.lean ====
/-
  The body's block of keys, as a function: what one block of 256 keys makes of the two running buffers, group by
  group. The four counted loops and the first, masked block all apply it; the lemmas here read a trip's stores as it.
-/
module

public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F] [Named F]

/-- The scores of 512 query rows against a block of keys, the bias in the last rows of the keys' block. -/
def zB (q : FVec F S512x256 .bf16) (K : Vec F S1x1x128x256 .bf16) (ones : Vec F S128x256 .bf16) : FVec F S512x256 .f32 :=
  matmul dot_S512x256_S256x256_S512x256_1_0_0_1_n_n none q
    (concatenate S256x256 0 [⟨S128x256, (shapeCast S128x256 K shapeCasts_S1x1x128x256_S128x256 : FVec F S128x256 .bf16)⟩, ⟨S128x256, ones⟩]
      concatenates_S128x256_S128x256_S256x256_d0) (constant S512x256 .f32 0x00000000#32)

/-- The softplus of the scores, as the kernel computes it. -/
def spB (z : FVec F S512x256 .f32) : FVec F S512x256 .f32 :=
  addf (maximumf z (broadcast S512x256 (Scalar.ofBits .f32 0x00000000#32)))
    (log (addf (broadcast S512x256 (Scalar.ofBits .f32 0x3F800000#32))
      (exp2 (mulf (absf z) (broadcast S512x256 (Named.named κ "neg_log2e" 0xBFB8AA3B#32 : F .f32))))))

/-- The suffix sums within the block, of all four groups. -/
def csB (upper : FVec F S256x256 .bf16) (s0 s1 s2 s3 : FVec F S512x256 .f32) : FVec F S2048x256 .f32 :=
  matmul dot_S2048x256_S256x256_S2048x256_1_0_0_1_n_n none
    (concatenate S2048x256 0 [⟨S512x256, (truncf .bf16 s0 bitsLt_bf16_f32 : FVec F S512x256 .bf16)⟩, ⟨S512x256, (truncf .bf16 s1 bitsLt_bf16_f32 : FVec F S512x256 .bf16)⟩,
        ⟨S512x256, (truncf .bf16 s2 bitsLt_bf16_f32 : FVec F S512x256 .bf16)⟩, ⟨S512x256, (truncf .bf16 s3 bitsLt_bf16_f32 : FVec F S512x256 .bf16)⟩]
      concatenates_S512x256_S512x256_S512x256_S512x256_S2048x256_d0) upper (constant S2048x256 .f32 0x00000000#32)

/-- Group `g`'s rows of the suffix sums. -/
def csG (cs : FVec F S2048x256 .f32) : Fin 4 → FVec F S512x256 .f32
  | 0 => extractStridedSlice S512x256 ![0, 0] cs slices_S2048x256_o0_0_S512x256
  | 1 => extractStridedSlice S512x256 ![512, 0] cs slices_S2048x256_o512_0_S512x256
  | 2 => extractStridedSlice S512x256 ![1024, 0] cs slices_S2048x256_o1024_0_S512x256
  | 3 => extractStridedSlice S512x256 ![1536, 0] cs slices_S2048x256_o1536_0_S512x256

/-- The weights of the block's keys. -/
def wB (z c : FVec F S512x256 .f32) (a : Vec F S1x512x128 .f32) : FVec F S512x256 .f32 :=
  exp (addf (addf z c) (concatenate S512x256 1
    [⟨S512x128, (shapeCast S512x128 a shapeCasts_S1x512x128_S512x128 : FVec F S512x128 .f32)⟩, ⟨S512x128, (shapeCast S512x128 a shapeCasts_S1x512x128_S512x128 : FVec F S512x128 .f32)⟩]
    concatenates_S512x128_S512x128_S512x256_d1))

/-- The running output of one group after the block. -/
def oB (w : FVec F S512x256 .f32) (o : Vec F S1x512x128 .f32) (V : Vec F S1x1x128x256 .bf16) : FVec F S1x512x128 .f32 :=
  shapeCast S1x512x128 (addf (shapeCast S512x128 o shapeCasts_S1x512x128_S512x128)
    (matmul dot_S512x256_S128x256_S512x128_1_1_0_0_n_n none (truncf .bf16 w bitsLt_bf16_f32)
      (shapeCast S128x256 V shapeCasts_S1x1x128x256_S128x256) (constant S512x128 .f32 0x00000000#32))) shapeCasts_S512x128_S1x512x128

/-- The running sum of one group after the block. -/
def aB (c : FVec F S512x256 .f32) (a : Vec F S1x512x128 .f32) : FVec F S1x512x128 .f32 :=
  shapeCast S1x512x128 (addf (shapeCast S512x128 a shapeCasts_S1x512x128_S512x128)
    (broadcastTo S512x128 (extractStridedSlice S512x1 ![0, 0] c slices_S512x256_o0_0_S512x1) broadcasts_S512x1_S512x128)) shapeCasts_S512x128_S1x512x128

/-- The two running buffers, group by group. -/
structure St (F : FTy → Type) where
  o : Fin 4 → Vec F S1x512x128 .f32
  a : Fin 4 → Vec F S1x512x128 .f32

/-- One block's keys and values, group by group. -/
structure KV (F : FTy → Type) where
  K : Fin 4 → Vec F S1x1x128x256 .bf16
  V : Fin 4 → Vec F S1x1x128x256 .bf16

/-- One block: scores, masked softplus, suffix sums, masked weights, and the two buffers' updates. -/
def step (msk : FVec F S512x256 .f32 → FVec F S512x256 .f32) (upper : FVec F S256x256 .bf16) (ones : Vec F S128x256 .bf16)
    (q : Fin 4 → FVec F S512x256 .bf16) (x : KV F) (s : St F) : St F where
  o g := oB (msk (wB (zB (q g) (x.K g) ones)
      (csG (csB upper (msk (spB (zB (q 0) (x.K 0) ones))) (msk (spB (zB (q 1) (x.K 1) ones))) (msk (spB (zB (q 2) (x.K 2) ones))) (msk (spB (zB (q 3) (x.K 3) ones)))) g) (s.a g))) (s.o g) (x.V g)
  a g := aB (csG (csB upper (msk (spB (zB (q 0) (x.K 0) ones))) (msk (spB (zB (q 1) (x.K 1) ones))) (msk (spB (zB (q 2) (x.K 2) ones))) (msk (spB (zB (q 3) (x.K 3) ones)))) g) (s.a g)

/-- The four stores of a block, last first. -/
abbrev pieces4 (w : Fin 4 → Vec F S1x512x128 .f32) : List (View.Piece (Elt F) S4x512x128 .f32) :=
  [⟨Rect.unit ![3, 0, 0] S1x512x128.size inb_S4x512x128_S1x512x128_3_0_0, w 3⟩, ⟨Rect.unit ![2, 0, 0] S1x512x128.size inb_S4x512x128_S1x512x128_2_0_0, w 2⟩,
   ⟨Rect.unit ![1, 0, 0] S1x512x128.size inb_S4x512x128_S1x512x128_1_0_0, w 1⟩, ⟨Rect.unit ![0, 0, 0] S1x512x128.size inb_S4x512x128_S1x512x128_0_0_0, w 0⟩]

/-- A buffer's four groups. -/
def groups (v : Vec F S4x512x128 .f32) : Fin 4 → Vec F S1x512x128 .f32
  | 0 => View.ld v (Rect.unit ![0, 0, 0] S1x512x128.size inb_S4x512x128_S1x512x128_0_0_0)
  | 1 => View.ld v (Rect.unit ![1, 0, 0] S1x512x128.size inb_S4x512x128_S1x512x128_1_0_0)
  | 2 => View.ld v (Rect.unit ![2, 0, 0] S1x512x128.size inb_S4x512x128_S1x512x128_2_0_0)
  | 3 => View.ld v (Rect.unit ![3, 0, 0] S1x512x128.size inb_S4x512x128_S1x512x128_3_0_0)

variable {a5 a6 : Memref sig .tc .vmem S1x32x512x256 .bf16} {a8 a9 : Memref sig .tc .vmem S4x512x128 .f32} {a10 : Memref sig .tc .vmem S128x256 .bf16}

/-- The keys and values a trip of the last loop loads. -/
def kv3 (i : grid0.Coords) (k : Fin (k0_t3_loop i).trips) (X5 : a5.view.ty.Contents (Elt F)) (X6 : a6.view.ty.Contents (Elt F)) : KV F where
  K | 0 => View.ld (a5.view.read (Elt F) X5) (Rect.unit (k0_off15 i k) S1x1x128x256.size (k0_off15_inb i k))
    | 1 => View.ld (a5.view.read (Elt F) X5) (Rect.unit (k0_off16 i k) S1x1x128x256.size (k0_off16_inb i k))
    | 2 => View.ld (a5.view.read (Elt F) X5) (Rect.unit (k0_off17 i k) S1x1x128x256.size (k0_off17_inb i k))
    | 3 => View.ld (a5.view.read (Elt F) X5) (Rect.unit (k0_off18 i k) S1x1x128x256.size (k0_off18_inb i k))
  V | 0 => View.ld (a6.view.read (Elt F) X6) (Rect.unit (k0_off15 i k) S1x1x128x256.size (k0_off15_inb i k))
    | 1 => View.ld (a6.view.read (Elt F) X6) (Rect.unit (k0_off16 i k) S1x1x128x256.size (k0_off16_inb i k))
    | 2 => View.ld (a6.view.read (Elt F) X6) (Rect.unit (k0_off17 i k) S1x1x128x256.size (k0_off17_inb i k))
    | 3 => View.ld (a6.view.read (Elt F) X6) (Rect.unit (k0_off18 i k) S1x1x128x256.size (k0_off18_inb i k))

/-- The ones block a trip loads. -/
abbrev onesLd (X10 : a10.view.ty.Contents (Elt F)) : Vec F S128x256 .bf16 :=
  View.ld (a10.view.read (Elt F) X10) (Rect.unit ![0, 0] S128x256.size inb_S128x256_S128x256_0_0)

/-- A state read off the two buffers' contents. -/
abbrev stOf (f8 : a8.view.ty.Contents (Elt F)) (f9 : a9.view.ty.Contents (Elt F)) : St F :=
  ⟨groups (a8.view.read (Elt F) f8), groups (a9.view.read (Elt F) f9)⟩

set_option maxHeartbeats 4000000 in
/-- A trip of the last loop stores one step. -/
theorem trip3 (𝒱 : Variants) (c : Dev nD) (bd : Option 𝒱.V) (i : grid0.Coords) a3 h3 a4 h4 h5 h6 a7 h7 h8 h9 h10
    arg2 v0 v7 v24 v25 v83 v129 v175 v221 v436 v437 c0 X5 X6 X10 k f8 f9 :
    (trip_k0_t3 (F := F) 𝒱 c bd i a3 h3 a4 h4 a5 h5 a6 h6 a7 h7 a8 h8 a9 h9 a10 h10 arg2 v0 v7 v24 v25 v83 v129 v175 v221 v436 v437 c0 X5 X6 X10 k).1 f8 f9
        = pieces4 (step id v7 (onesLd X10) ![v83, v129, v175, v221] (kv3 i k X5 X6) (stOf f8 f9)).o
    ∧ (trip_k0_t3 (F := F) 𝒱 c bd i a3 h3 a4 h4 a5 h5 a6 h6 a7 h7 a8 h8 a9 h9 a10 h10 arg2 v0 v7 v24 v25 v83 v129 v175 v221 v436 v437 c0 X5 X6 X10 k).2.1 f8 f9
        = pieces4 (step id v7 (onesLd X10) ![v83, v129, v175, v221] (kv3 i k X5 X6) (stOf f8 f9)).a := by
  unfold trip_k0_t3
  dsimp only
  sl_unfold_words
  constructor <;> rfl

/-- The keys and values that a trip of the unrolled loop loads for its block `r`. -/
def kv1 (i : grid0.Coords) (k : Fin (k0_t1_loop i).trips) (X5 : a5.view.ty.Contents (Elt F)) (X6 : a6.view.ty.Contents (Elt F)) (r : Fin 4) : KV F where
  K
    | 0 => View.ld (a5.view.read (Elt F) X5) (Rect.unit (k0_off7 i k (BitVec.ofNat 32 r.val)) S1x1x128x256.size (k0_off7_inb i k r))
    | 1 => View.ld (a5.view.read (Elt F) X5) (Rect.unit (k0_off8 i k (BitVec.ofNat 32 r.val)) S1x1x128x256.size (k0_off8_inb i k r))
    | 2 => View.ld (a5.view.read (Elt F) X5) (Rect.unit (k0_off9 i k (BitVec.ofNat 32 r.val)) S1x1x128x256.size (k0_off9_inb i k r))
    | 3 => View.ld (a5.view.read (Elt F) X5) (Rect.unit (k0_off10 i k (BitVec.ofNat 32 r.val)) S1x1x128x256.size (k0_off10_inb i k r))
  V
    | 0 => View.ld (a6.view.read (Elt F) X6) (Rect.unit (k0_off7 i k (BitVec.ofNat 32 r.val)) S1x1x128x256.size (k0_off7_inb i k r))
    | 1 => View.ld (a6.view.read (Elt F) X6) (Rect.unit (k0_off8 i k (BitVec.ofNat 32 r.val)) S1x1x128x256.size (k0_off8_inb i k r))
    | 2 => View.ld (a6.view.read (Elt F) X6) (Rect.unit (k0_off9 i k (BitVec.ofNat 32 r.val)) S1x1x128x256.size (k0_off9_inb i k r))
    | 3 => View.ld (a6.view.read (Elt F) X6) (Rect.unit (k0_off10 i k (BitVec.ofNat 32 r.val)) S1x1x128x256.size (k0_off10_inb i k r))

/-- A load of one group passes over a store of another. -/
theorem readCov_miss (A : Memref sig .tc .vmem S4x512x128 .f32) {off size off' size' : Fin S4x512x128.rank → ℕ} {inb inb'}
    (w : (Rect.unit (s := S4x512x128) off size inb).shape.Idx → Elt F .f32) (L : List (View.Piece (Elt F) S4x512x128 .f32))
    (h : off 0 + size 0 ≤ off' 0 ∨ off' 0 + size' 0 ≤ off 0) :
    A.view.readCov (⟨Rect.unit (s := S4x512x128) off size inb, w⟩ :: L) (Rect.unit (s := S4x512x128) off' size' inb').toLoadRect
      = A.view.readCov L (Rect.unit (s := S4x512x128) off' size' inb').toLoadRect :=
  View.readCov_cons_of_disjoint _ _ _ _ (Rect.unit_disjoint (inb := inb) (inb' := inb') 0 h)

/-- The running sums, side by side with a second copy. -/
def cat2 (x y : FVec F S512x128 .f32) : FVec F S512x256 .f32 :=
  concatenate S512x256 1 [⟨S512x128, x⟩, ⟨S512x128, y⟩] concatenates_S512x128_S512x128_S512x256_d1

/-- `cat2` is the concatenation. -/
theorem cat2_eq (x y : FVec F S512x128 .f32) (h) :
    concatenate S512x256 1 [⟨S512x128, x⟩, ⟨S512x128, y⟩] h = cat2 x y := rfl

set_option maxHeartbeats 4000000 in
/-- A trip of the unrolled loop stores four steps. -/
theorem trip1 (𝒱 : Variants) (c : Dev nD) (bd : Option 𝒱.V) (i : grid0.Coords) a3 h3 a4 h4 h5 h6 a7 h7 h8 h9 h10
    arg2 v7 v24 v25 v83 v129 v175 v221 v387 v389 v403 X5 X6 X10 k f8 f9 s1 s2 s3 s4
    (e1 : s1 = step id v7 (onesLd X10) ![v83, v129, v175, v221] (kv1 i k X5 X6 0) (stOf f8 f9))
    (e2 : s2 = step id v7 (onesLd X10) ![v83, v129, v175, v221] (kv1 i k X5 X6 1) s1)
    (e3 : s3 = step id v7 (onesLd X10) ![v83, v129, v175, v221] (kv1 i k X5 X6 2) s2)
    (e4 : s4 = step id v7 (onesLd X10) ![v83, v129, v175, v221] (kv1 i k X5 X6 3) s3) :
    (trip_k0_t1 (F := F) 𝒱 c bd i a3 h3 a4 h4 a5 h5 a6 h6 a7 h7 a8 h8 a9 h9 a10 h10 arg2 v7 v24 v25 v83 v129 v175 v221 v387 v389 v403 X5 X6 X10 k).1 f8 f9
        = pieces4 s4.o ++ (pieces4 s3.o ++ (pieces4 s2.o ++ pieces4 s1.o))
    ∧ (trip_k0_t1 (F := F) 𝒱 c bd i a3 h3 a4 h4 a5 h5 a6 h6 a7 h7 a8 h8 a9 h9 a10 h10 arg2 v7 v24 v25 v83 v129 v175 v221 v387 v389 v403 X5 X6 X10 k).2.1 f8 f9
        = pieces4 s4.a ++ (pieces4 s3.a ++ (pieces4 s2.a ++ pieces4 s1.a)) := by
  unfold trip_k0_t1
  dsimp only
  sl_unfold_words
  simp (disch := decide) only [View.readCov_cons_toLoadRect, readCov_miss, cat2_eq]
  subst e4 e3 e2 e1
  constructor <;> rfl

end Cert.KernelIdeal.Value

end
-- ==== Proof.Offs.lean ====
/-
  Which block of keys each trip of the counted loops loads, and how many trips each makes.
-/
module

public import proofs.«01_k».proof.Proof.Gen.KernelIdeal

@[expose] public section

set_option maxRecDepth 16384

noncomputable section

namespace Cert.KernelIdeal.Value

open Cert.KernelIdeal Cert.KernelIdeal.Gen Idealize.ShloMosaic Idealize.ShloMosaic.TcCoe

/-- The unrolled loop's blocks. -/
theorem off1 : ∀ (i : grid0.Coords) (k : Fin (k0_t1_loop i).trips) (r : Fin 4),
    (i 2).val - 1 - (4 * k.val + r.val) < 32 ∧ 4 * k.val + r.val < (i 2).val ∧
    k0_off7 i k (BitVec.ofNat 32 r.val) = ![0, (i 2).val - 1 - (4 * k.val + r.val), 128 * 0, 0] ∧
    k0_off8 i k (BitVec.ofNat 32 r.val) = ![0, (i 2).val - 1 - (4 * k.val + r.val), 128 * 1, 0] ∧
    k0_off9 i k (BitVec.ofNat 32 r.val) = ![0, (i 2).val - 1 - (4 * k.val + r.val), 128 * 2, 0] ∧
    k0_off10 i k (BitVec.ofNat 32 r.val) = ![0, (i 2).val - 1 - (4 * k.val + r.val), 128 * 3, 0] := by decide +kernel

/-- The last loop's blocks. -/
theorem off3 : ∀ (i : grid0.Coords) (k : Fin (k0_t3_loop i).trips),
    4 * ((i 2).val / 4) + k.val < (i 2).val ∧
    k0_off15 i k = ![0, (i 2).val - 1 - (4 * ((i 2).val / 4) + k.val), 128 * 0, 0] ∧
    k0_off16 i k = ![0, (i 2).val - 1 - (4 * ((i 2).val / 4) + k.val), 128 * 1, 0] ∧
    k0_off17 i k = ![0, (i 2).val - 1 - (4 * ((i 2).val / 4) + k.val), 128 * 2, 0] ∧
    k0_off18 i k = ![0, (i 2).val - 1 - (4 * ((i 2).val / 4) + k.val), 128 * 3, 0] := by decide +kernel

/-- The diagonal's block. -/
theorem off0 : ∀ (i : grid0.Coords),
    k0_off3 i = ![0, (i 2).val, 128 * 0, 0] ∧ k0_off4 i = ![0, (i 2).val, 128 * 1, 0] ∧
    k0_off5 i = ![0, (i 2).val, 128 * 2, 0] ∧ k0_off6 i = ![0, (i 2).val, 128 * 3, 0] := by decide +kernel

/-- How many trips each loop makes. -/
theorem trips : ∀ i : grid0.Coords, (k0_t1_loop i).trips = (i 2).val / 4 ∧ (k0_t2_loop i).trips = 0 ∧
    (k0_t3_loop i).trips = (i 2).val % 4 ∧ (k0_t4_loop i).trips = 0 := by decide +kernel

end Cert.KernelIdeal.Value

end
-- ==== Proof.Down.lean ====
/-
  The counted loops of the attention body, from the diagonal's block down: after `n` blocks the two running buffers
  hold `down n`.
-/
module

public import proofs.«01_k».proof.Proof.Block
public import proofs.«01_k».proof.Proof.Offs
public import Idealize.ShloMosaic.Lib.WritesUnit
public import Idealize.ShloMosaic.Lib.Pipeline.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F] [Named F]
variable {a5 a6 : Memref sig .tc .vmem S1x32x512x256 .bf16} {a8 a9 : Memref sig .tc .vmem S4x512x128 .f32} {a10 : Memref sig .tc .vmem S128x256 .bf16}

/-- Group `g`'s rows of block `j`. -/
def blkAt (x : Vec F S1x32x512x256 .bf16) (j : Fin 32) (g : Fin 4) : Vec F S1x1x128x256 .bf16 := fun e =>
  x (ix4 (0 : Fin 1) j (⟨128 * g.val + (e 2).val, by have h : (e 2).val < 128 := (e 2).isLt; omega⟩ : Fin 512) (e 3))

/-- Block `j`'s keys and values. -/
def kvAt (x5 x6 : Vec F S1x32x512x256 .bf16) (j : Fin 32) : KV F := ⟨blkAt x5 j, blkAt x6 j⟩

/-- A load of block `j`'s rows of group `g`. -/
theorem ld_blk (x : Vec F S1x32x512x256 .bf16) (j : Fin 32) (g : Fin 4) {off : Fin 4 → ℕ} (h : off = ![0, j.val, 128 * g.val, 0]) (inb) :
    View.ld x (Rect.unit (s := S1x32x512x256) off S1x1x128x256.size inb) = blkAt x j g := by
  subst h
  funext e
  unfold View.ld blkAt
  congr 1
  funext a
  refine Fin.ext ?_
  have h0 : (e 0).val < 1 := (e 0).isLt
  have h1 : (e 1).val < 1 := (e 1).isLt
  match a with
  | 0 => show 0 + 1 * (e 0).val = 0; omega
  | 1 => show j.val + 1 * (e 1).val = j.val; omega
  | 2 => show 128 * g.val + 1 * (e 2).val = 128 * g.val + (e 2).val; omega
  | 3 => show 0 + 1 * (e 3).val = (e 3).val; omega

/-- The block `n` places below `i`'s predecessor. -/
def below (i : grid0.Coords) (n : ℕ) : Fin 32 := ⟨(i 2).val - 1 - n, by have h : (i 2).val < 32 := (i 2).isLt; omega⟩

theorem kv1_eq (i : grid0.Coords) (k : Fin (k0_t1_loop i).trips) (X5 : a5.view.ty.Contents (Elt F)) (X6 : a6.view.ty.Contents (Elt F)) (r : Fin 4) :
    kv1 i k X5 X6 r = kvAt (a5.view.read (Elt F) X5) (a6.view.read (Elt F) X6) (below i (4 * k.val + r.val)) := by
  obtain ⟨_, _, h0, h1, h2, h3⟩ := off1 i k r
  unfold kv1 kvAt
  congr 1 <;> funext g <;> match g with
  | 0 => exact ld_blk _ (below i (4 * k.val + r.val)) 0 h0 _
  | 1 => exact ld_blk _ (below i (4 * k.val + r.val)) 1 h1 _
  | 2 => exact ld_blk _ (below i (4 * k.val + r.val)) 2 h2 _
  | 3 => exact ld_blk _ (below i (4 * k.val + r.val)) 3 h3 _

theorem kv3_eq (i : grid0.Coords) (k : Fin (k0_t3_loop i).trips) (X5 : a5.view.ty.Contents (Elt F)) (X6 : a6.view.ty.Contents (Elt F)) :
    kv3 i k X5 X6 = kvAt (a5.view.read (Elt F) X5) (a6.view.read (Elt F) X6) (below i (4 * ((i 2).val / 4) + k.val)) := by
  obtain ⟨_, h0, h1, h2, h3⟩ := off3 i k
  unfold kv3 kvAt
  congr 1 <;> funext g <;> match g with
  | 0 => exact ld_blk _ (below i (4 * ((i 2).val / 4) + k.val)) 0 h0 _
  | 1 => exact ld_blk _ (below i (4 * ((i 2).val / 4) + k.val)) 1 h1 _
  | 2 => exact ld_blk _ (below i (4 * ((i 2).val / 4) + k.val)) 2 h2 _
  | 3 => exact ld_blk _ (below i (4 * ((i 2).val / 4) + k.val)) 3 h3 _

/-- The state after `n` blocks below the diagonal's. -/
def down (upper : FVec F S256x256 .bf16) (ones : Vec F S128x256 .bf16) (q : Fin 4 → FVec F S512x256 .bf16)
    (x5 x6 : Vec F S1x32x512x256 .bf16) (i : grid0.Coords) (s : St F) : ℕ → St F
  | 0 => s
  | n + 1 => step id upper ones q (kvAt x5 x6 (below i n)) (down upper ones q x5 x6 i s n)

/-- A load of group `y` reads what was stored to group `x`, when they are one, and passes over it when not. -/
theorem ld_writes_miss (A : Memref sig .tc .vmem S4x512x128 .f32) (f : A.view.ty.Contents (Elt F)) (w : Vec F S1x512x128 .f32)
    (L : List (View.Piece (Elt F) S4x512x128 .f32)) (x y : ℕ) (hx hy) (h : x ≠ y) :
    View.ld (A.view.read (Elt F) (A.view.writes (Elt F) f (⟨Rect.unit (s := S4x512x128) ![x, 0, 0] S1x512x128.size hx, w⟩ :: L))) (Rect.unit (s := S4x512x128) ![y, 0, 0] S1x512x128.size hy)
      = View.ld (A.view.read (Elt F) (A.view.writes (Elt F) f L)) (Rect.unit (s := S4x512x128) ![y, 0, 0] S1x512x128.size hy) := by
  funext e
  refine View.read_writes_cons_unit_of_not_mem A.view f hx w L _ rfl 0 ?_
  have h0 : (e 0).val < 1 := (e 0).isLt
  show y + 1 * (e 0).val < x ∨ x + 1 ≤ y + 1 * (e 0).val
  omega

theorem ld_writes_hit (A : Memref sig .tc .vmem S4x512x128 .f32) (f : A.view.ty.Contents (Elt F)) (w : Vec F S1x512x128 .f32)
    (L : List (View.Piece (Elt F) S4x512x128 .f32)) (x : ℕ) (hx hy) :
    View.ld (A.view.read (Elt F) (A.view.writes (Elt F) f (⟨Rect.unit (s := S4x512x128) ![x, 0, 0] S1x512x128.size hx, w⟩ :: L))) (Rect.unit (s := S4x512x128) ![x, 0, 0] S1x512x128.size hy)
      = w := by
  funext e
  refine View.read_writes_cons_unit_of_mem A.view f hx w L _ e rfl fun a => ?_
  show ![x, 0, 0] a + 1 * (e a).val = ![x, 0, 0] a + (e a).val
  omega

/-- After the four stores the groups are what was stored. -/
theorem groups_writes (A : Memref sig .tc .vmem S4x512x128 .f32) (f : A.view.ty.Contents (Elt F)) (w : Fin 4 → Vec F S1x512x128 .f32)
    (L : List (View.Piece (Elt F) S4x512x128 .f32)) : groups (A.view.read (Elt F) (A.view.writes (Elt F) f (pieces4 w ++ L))) = w := by
  funext g
  match g with
  | 0 => exact (ld_writes_miss _ _ _ _ 3 0 _ _ (by decide)).trans ((ld_writes_miss _ _ _ _ 2 0 _ _ (by decide)).trans
      ((ld_writes_miss _ _ _ _ 1 0 _ _ (by decide)).trans (ld_writes_hit ..)))
  | 1 => exact (ld_writes_miss _ _ _ _ 3 1 _ _ (by decide)).trans ((ld_writes_miss _ _ _ _ 2 1 _ _ (by decide)).trans (ld_writes_hit ..))
  | 2 => exact (ld_writes_miss _ _ _ _ 3 2 _ _ (by decide)).trans (ld_writes_hit ..)
  | 3 => exact ld_writes_hit ..

theorem stOf_writes (f8 : a8.view.ty.Contents (Elt F)) (f9 : a9.view.ty.Contents (Elt F)) (s : St F) (L M : List (View.Piece (Elt F) S4x512x128 .f32)) :
    stOf (a8.view.writes (Elt F) f8 (pieces4 s.o ++ L)) (a9.view.writes (Elt F) f9 (pieces4 s.a ++ M)) = s := by
  unfold stOf
  rw [groups_writes, groups_writes]

/-- After `n` trips of the unrolled loop: `4 n` blocks. -/
theorem loop1 (𝒱 : Variants) (c : Dev nD) (bd : Option 𝒱.V) (i : grid0.Coords) a3 h3 a4 h4 h5 h6 a7 h7 h8 h9 h10
    arg2 v7 v24 v25 v83 v129 v175 v221 v387 v389 v403 X5 X6 X10 G8 G9 (s : St F) (hs : stOf G8 G9 = s) : ∀ n, n ≤ (k0_t1_loop i).trips →
    stOf (a8.view.writes (Elt F) G8 (pb_k0_t1 (F := F) 𝒱 c bd i a3 h3 a4 h4 a5 h5 a6 h6 a7 h7 a8 h8 a9 h9 a10 h10 arg2 v7 v24 v25 v83 v129 v175 v221 v387 v389 v403 X5 X6 X10 G8 G9 n).1)
        (a9.view.writes (Elt F) G9 (pb_k0_t1 (F := F) 𝒱 c bd i a3 h3 a4 h4 a5 h5 a6 h6 a7 h7 a8 h8 a9 h9 a10 h10 arg2 v7 v24 v25 v83 v129 v175 v221 v387 v389 v403 X5 X6 X10 G8 G9 n).2)
      = down v7 (onesLd X10) ![v83, v129, v175, v221] (a5.view.read (Elt F) X5) (a6.view.read (Elt F) X6) i s (4 * n)
  | 0, _ => hs
  | n + 1, hn => by
    have ih := loop1 𝒱 c bd i a3 h3 a4 h4 h5 h6 a7 h7 h8 h9 h10 arg2 v7 v24 v25 v83 v129 v175 v221 v387 v389 v403 X5 X6 X10 G8 G9 s hs n (Nat.le_of_succ_le hn)
    rw [pb_k0_t1_succ 𝒱 c bd i a3 h3 a4 h4 a5 h5 a6 h6 a7 h7 a8 h8 a9 h9 a10 h10 arg2 v7 v24 v25 v83 v129 v175 v221 v387 v389 v403 X5 X6 X10 G8 G9 ⟨n, hn⟩]
    obtain ⟨t8, t9⟩ := trip1 𝒱 c bd i a3 h3 a4 h4 h5 h6 a7 h7 h8 h9 h10 arg2 v7 v24 v25 v83 v129 v175 v221 v387 v389 v403 X5 X6 X10 ⟨n, hn⟩
      (a8.view.writes (Elt F) G8 (pb_k0_t1 (F := F) 𝒱 c bd i a3 h3 a4 h4 a5 h5 a6 h6 a7 h7 a8 h8 a9 h9 a10 h10 arg2 v7 v24 v25 v83 v129 v175 v221 v387 v389 v403 X5 X6 X10 G8 G9 n).1)
      (a9.view.writes (Elt F) G9 (pb_k0_t1 (F := F) 𝒱 c bd i a3 h3 a4 h4 a5 h5 a6 h6 a7 h7 a8 h8 a9 h9 a10 h10 arg2 v7 v24 v25 v83 v129 v175 v221 v387 v389 v403 X5 X6 X10 G8 G9 n).2)
      _ _ _ _ rfl rfl rfl rfl
    dsimp only [tripL_k0_t1]
    rw [t8, t9]
    simp only [List.append_assoc]
    rw [stOf_writes, ih]
    simp only [kv1_eq]
    rfl

/-- After `n` trips of the last loop: `n` more blocks. -/
theorem loop3 (𝒱 : Variants) (c : Dev nD) (bd : Option 𝒱.V) (i : grid0.Coords) a3 h3 a4 h4 h5 h6 a7 h7 h8 h9 h10
    arg2 v0 v7 v24 v25 v83 v129 v175 v221 v436 v437 c0 X5 X6 X10 G8 G9 (s : St F)
    (hs : stOf G8 G9 = down v7 (onesLd X10) ![v83, v129, v175, v221] (a5.view.read (Elt F) X5) (a6.view.read (Elt F) X6) i s (4 * ((i 2).val / 4))) :
    ∀ n, n ≤ (k0_t3_loop i).trips →
    stOf (a8.view.writes (Elt F) G8 (pb_k0_t3 (F := F) 𝒱 c bd i a3 h3 a4 h4 a5 h5 a6 h6 a7 h7 a8 h8 a9 h9 a10 h10 arg2 v0 v7 v24 v25 v83 v129 v175 v221 v436 v437 c0 X5 X6 X10 G8 G9 n).1)
        (a9.view.writes (Elt F) G9 (pb_k0_t3 (F := F) 𝒱 c bd i a3 h3 a4 h4 a5 h5 a6 h6 a7 h7 a8 h8 a9 h9 a10 h10 arg2 v0 v7 v24 v25 v83 v129 v175 v221 v436 v437 c0 X5 X6 X10 G8 G9 n).2)
      = down v7 (onesLd X10) ![v83, v129, v175, v221] (a5.view.read (Elt F) X5) (a6.view.read (Elt F) X6) i s (4 * ((i 2).val / 4) + n)
  | 0, _ => hs
  | n + 1, hn => by
    have ih := loop3 𝒱 c bd i a3 h3 a4 h4 h5 h6 a7 h7 h8 h9 h10 arg2 v0 v7 v24 v25 v83 v129 v175 v221 v436 v437 c0 X5 X6 X10 G8 G9 s hs n (Nat.le_of_succ_le hn)
    rw [pb_k0_t3_succ 𝒱 c bd i a3 h3 a4 h4 a5 h5 a6 h6 a7 h7 a8 h8 a9 h9 a10 h10 arg2 v0 v7 v24 v25 v83 v129 v175 v221 v436 v437 c0 X5 X6 X10 G8 G9 ⟨n, hn⟩]
    obtain ⟨t8, t9⟩ := trip3 𝒱 c bd i a3 h3 a4 h4 h5 h6 a7 h7 h8 h9 h10 arg2 v0 v7 v24 v25 v83 v129 v175 v221 v436 v437 c0 X5 X6 X10 ⟨n, hn⟩
      (a8.view.writes (Elt F) G8 (pb_k0_t3 (F := F) 𝒱 c bd i a3 h3 a4 h4 a5 h5 a6 h6 a7 h7 a8 h8 a9 h9 a10 h10 arg2 v0 v7 v24 v25 v83 v129 v175 v221 v436 v437 c0 X5 X6 X10 G8 G9 n).1)
      (a9.view.writes (Elt F) G9 (pb_k0_t3 (F := F) 𝒱 c bd i a3 h3 a4 h4 a5 h5 a6 h6 a7 h7 a8 h8 a9 h9 a10 h10 arg2 v0 v7 v24 v25 v83 v129 v175 v221 v436 v437 c0 X5 X6 X10 G8 G9 n).2)
    dsimp only [tripL_k0_t3]
    rw [t8, t9, stOf_writes, ih, kv3_eq]
    rfl

end Cert.KernelIdeal.Value

end
-- ==== Proof.Final.lean ====
/-
  What the attention body leaves in its output block: the lanes of the running output after the diagonal's masked
  block and all the blocks below it.
-/
module

public import proofs.«01_k».proof.Proof.Down

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F] [Named F]
variable {a5 a6 : Memref sig .tc .vmem S1x32x512x256 .bf16} {a8 a9 : Memref sig .tc .vmem S4x512x128 .f32} {a10 : Memref sig .tc .vmem S128x256 .bf16}

/-- The queries of a group, with the bias in their last columns. -/
abbrev qB (x : Vec F S256x128 .bf16) (b b' : Elt F .f32) : FVec F S512x256 .bf16 :=
  k0_pay278 (iota .tc S256x128 32 [1] iota_S256x128_d1_w32) (iota .tc S512x128 32 [0] iota_S512x128_d0_w32) (iota .tc S512x128 32 [1] iota_S512x128_d1_w32) x b b'

/-- A scalar of the bias. -/
abbrev biasAt (x0 : Vec F S16 .f32) {off : Fin 1 → ℕ} (inb : ∀ a, off a + S1.size a ≤ S16.size a) : Elt F .f32 :=
  View.ld x0 (Rect.unit (s := S16) off S1.size inb) (Shape.Idx.first (numel1_S1 ▸ Nat.one_pos))

/-- The queries of the four groups. -/
abbrev qs (i : grid0.Coords) (x0 : Vec F S16 .f32) (x1 : Vec F S256x512 .bf16) : Fin 4 → FVec F S512x256 .bf16 :=
  ![qB (View.ld x1 (Rect.unit ![0, 0] S256x128.size inb_S256x512_S256x128_0_0)) (biasAt x0 (k0_off1_inb i 0)) (biasAt x0 (k0_off2_inb i 0)),
    qB (View.ld x1 (Rect.unit ![0, 128] S256x128.size inb_S256x512_S256x128_0_128)) (biasAt x0 (k0_off1_inb i 1)) (biasAt x0 (k0_off2_inb i 1)),
    qB (View.ld x1 (Rect.unit ![0, 256] S256x128.size inb_S256x512_S256x128_0_256)) (biasAt x0 (k0_off1_inb i 2)) (biasAt x0 (k0_off2_inb i 2)),
    qB (View.ld x1 (Rect.unit ![0, 384] S256x128.size inb_S256x512_S256x128_0_384)) (biasAt x0 (k0_off1_inb i 3)) (biasAt x0 (k0_off2_inb i 3))]

/-- The mask of the diagonal's block. -/
abbrev causal (x : FVec F S512x256 .f32) : FVec F S512x256 .f32 :=
  select (cmpi .slt (iota .tc S512x256 32 [1] iota_S512x256_d1_w32) k0_pay272) x (broadcast S512x256 (Scalar.ofBits .f32 0x00000000#32))

/-- The two buffers, cleared. -/
abbrev clear : St F := ⟨groups k0_pay281, groups k0_pay281⟩

/-- The state after the diagonal's block. -/
abbrev diag (i : grid0.Coords) (x0 : Vec F S16 .f32) (x1 : Vec F S256x512 .bf16) (x : KV F) : St F :=
  step causal k0_pay271 k0_pay273 (qs i x0 x1) x clear

/-- The state at the end. -/
def last (i : grid0.Coords) (x0 : Vec F S16 .f32) (x1 : Vec F S256x512 .bf16) (x2 x3 : Vec F S1x32x512x256 .bf16) : St F :=
  down k0_pay271 k0_pay273 (qs i x0 x1) x2 x3 i (diag i x0 x1 (kvAt x2 x3 (i 2))) (i 2).val

/-- A group's output lanes. -/
abbrev finB (o : Vec F S1x512x128 .f32) : FVec F S256x128 .bf16 := k0_pay318 (iota .tc S256x128 32 [1] iota_S256x128_d1_w32) o

/-- The four output stores. -/
abbrev outPieces (o : Fin 4 → Vec F S1x512x128 .f32) : List (View.Piece (Elt F) S256x512 .bf16) :=
  [⟨Rect.unit ![0, 384] S256x128.size inb_S256x512_S256x128_0_384, finB (o 3)⟩, ⟨Rect.unit ![0, 256] S256x128.size inb_S256x512_S256x128_0_256, finB (o 2)⟩,
   ⟨Rect.unit ![0, 128] S256x128.size inb_S256x512_S256x128_0_128, finB (o 1)⟩, ⟨Rect.unit ![0, 0] S256x128.size inb_S256x512_S256x128_0_0, finB (o 0)⟩]

/-- The diagonal block's keys and values, as loaded. -/
def kv0 (i : grid0.Coords) (x5 x6 : Vec F S1x32x512x256 .bf16) : KV F where
  K | 0 => View.ld x5 (Rect.unit (k0_off3 i) S1x1x128x256.size (k0_off3_inb i))
    | 1 => View.ld x5 (Rect.unit (k0_off4 i) S1x1x128x256.size (k0_off4_inb i))
    | 2 => View.ld x5 (Rect.unit (k0_off5 i) S1x1x128x256.size (k0_off5_inb i))
    | 3 => View.ld x5 (Rect.unit (k0_off6 i) S1x1x128x256.size (k0_off6_inb i))
  V | 0 => View.ld x6 (Rect.unit (k0_off3 i) S1x1x128x256.size (k0_off3_inb i))
    | 1 => View.ld x6 (Rect.unit (k0_off4 i) S1x1x128x256.size (k0_off4_inb i))
    | 2 => View.ld x6 (Rect.unit (k0_off5 i) S1x1x128x256.size (k0_off5_inb i))
    | 3 => View.ld x6 (Rect.unit (k0_off6 i) S1x1x128x256.size (k0_off6_inb i))

theorem kv0_eq (i : grid0.Coords) (x5 x6 : Vec F S1x32x512x256 .bf16) : kv0 i x5 x6 = kvAt x5 x6 (i 2) := by
  obtain ⟨h0, h1, h2, h3⟩ := off0 i
  unfold kv0 kvAt
  congr 1 <;> funext g <;> match g with
  | 0 => exact ld_blk _ (i 2) 0 h0 _
  | 1 => exact ld_blk _ (i 2) 1 h1 _
  | 2 => exact ld_blk _ (i 2) 2 h2 _
  | 3 => exact ld_blk _ (i 2) 3 h3 _

/-- A load of a group from a buffer stored whole. -/
theorem readCov_zero (A : Memref sig .tc .vmem S4x512x128 .f32) {off' size' : Fin S4x512x128.rank → ℕ} {inb inb'} (w : Vec F S4x512x128 .f32) :
    A.view.readCov [⟨Rect.unit (s := S4x512x128) ![0, 0, 0] ![4, 512, 128] inb, w⟩] (Rect.unit (s := S4x512x128) off' size' inb').toLoadRect
      = View.ld w (Rect.unit (s := S4x512x128) off' size' inb') := by
  rw [View.readCov_eq_canon']
  exact congrArg (fun f : Vec F S4x512x128 .f32 => View.ld f (Rect.unit (s := S4x512x128) off' size' inb'))
    (View.canon_unit_zero (S := S4x512x128) (off := ![0, 0, 0]) (by funext a; fin_cases a <;> rfl) inb w)

/-- The four loops, from the diagonal's state on. -/
theorem readout (𝒱 : Variants) (c : Dev nD) (bd : Option 𝒱.V) (i : grid0.Coords) a3 h3 a4 h4 h5 h6 a7 h7 h8 h9 h10
    arg2 v0 v7 v24 v25 v83 v129 v175 v221 v387 v389 v403 v434 v436 v437 c0 v449 X5 X6 X10
    (L8 L9 P1 Q1 P2 Q2 P3 Q3 P4 Q4 : List (View.Piece (Elt F) S4x512x128 .f32)) (s : St F) n1 n2 n3 n4
    (hs : stOf (a8.view.writes (Elt F) a8.view.junk L8) (a9.view.writes (Elt F) a9.view.junk L9) = s)
    (e1 : (P1, Q1) = pb_k0_t1 (F := F) 𝒱 c bd i a3 h3 a4 h4 a5 h5 a6 h6 a7 h7 a8 h8 a9 h9 a10 h10 arg2 v7 v24 v25 v83 v129 v175 v221 v387 v389 v403 X5 X6 X10
      (a8.view.writes (Elt F) a8.view.junk L8) (a9.view.writes (Elt F) a9.view.junk L9) n1)
    (e2 : (P2, Q2) = pb_k0_t2 (F := F) 𝒱 c bd i a3 h3 a4 h4 a5 h5 a6 h6 a7 h7 a8 h8 a9 h9 a10 h10 arg2 v7 v24 v25 v83 v129 v175 v221 v387 v389 v403 v434 X5 X6 X10
      (a8.view.writes (Elt F) a8.view.junk (P1 ++ L8)) (a9.view.writes (Elt F) a9.view.junk (Q1 ++ L9)) n2)
    (e3 : (P3, Q3) = pb_k0_t3 (F := F) 𝒱 c bd i a3 h3 a4 h4 a5 h5 a6 h6 a7 h7 a8 h8 a9 h9 a10 h10 arg2 v0 v7 v24 v25 v83 v129 v175 v221 v436 v437 c0 X5 X6 X10
      (a8.view.writes (Elt F) a8.view.junk (P2 ++ (P1 ++ L8))) (a9.view.writes (Elt F) a9.view.junk (Q2 ++ (Q1 ++ L9))) n3)
    (e4 : (P4, Q4) = pb_k0_t4 (F := F) 𝒱 c bd i a3 h3 a4 h4 a5 h5 a6 h6 a7 h7 a8 h8 a9 h9 a10 h10 arg2 v0 v7 v24 v25 v83 v129 v175 v221 v436 v437 c0 v449 X5 X6 X10
      (a8.view.writes (Elt F) a8.view.junk (P3 ++ (P2 ++ (P1 ++ L8)))) (a9.view.writes (Elt F) a9.view.junk (Q3 ++ (Q2 ++ (Q1 ++ L9)))) n4)
    (hn1 : n1 = (k0_t1_loop i).trips) (hn2 : n2 = (k0_t2_loop i).trips) (hn3 : n3 = (k0_t3_loop i).trips) (hn4 : n4 = (k0_t4_loop i).trips) :
    stOf (a8.view.writes (Elt F) a8.view.junk (P4 ++ (P3 ++ (P2 ++ (P1 ++ L8))))) (a9.view.writes (Elt F) a9.view.junk (Q4 ++ (Q3 ++ (Q2 ++ (Q1 ++ L9)))))
      = down v7 (onesLd X10) ![v83, v129, v175, v221] (a5.view.read (Elt F) X5) (a6.view.read (Elt F) X6) i s (i 2).val := by
  obtain ⟨t1, t2, t3, t4⟩ := trips i
  subst hn1 hn2 hn3 hn4
  rw [t4] at e4
  rw [t2] at e2
  obtain ⟨rfl, rfl⟩ := Prod.mk.inj e4
  obtain ⟨rfl, rfl⟩ := Prod.mk.inj e2
  simp only [List.nil_append] at e3 ⊢
  have r1 := loop1 𝒱 c bd i a3 h3 a4 h4 h5 h6 a7 h7 h8 h9 h10 arg2 v7 v24 v25 v83 v129 v175 v221 v387 v389 v403 X5 X6 X10 _ _ s hs _ (Nat.le_refl _)
  rw [← e1, t1] at r1
  dsimp only at r1
  rw [← View.writes_append, ← View.writes_append] at r1
  have r3 := loop3 𝒱 c bd i a3 h3 a4 h4 h5 h6 a7 h7 h8 h9 h10 arg2 v0 v7 v24 v25 v83 v129 v175 v221 v436 v437 c0 X5 X6 X10 _ _ s r1 _ (Nat.le_refl _)
  rw [← e3, t3] at r3
  dsimp only at r3
  rw [← View.writes_append, ← View.writes_append] at r3
  rw [r3, Nat.div_add_mod]

/-- The pieces of the running output at the end, last first: the four loops' and the diagonal block's. -/
abbrev finalPieces (𝒱 : Variants) (c : Dev nD) (bd : Option 𝒱.V) (i : grid0.Coords) (a3 : Memref sig .tc .smem S16 .f32) (h3 : a3.IsWhole)
    (a4 : Memref sig .tc .vmem S256x512 .bf16) (h4 : a4.IsWhole) (h5 : a5.IsWhole) (h6 : a6.IsWhole) (a7 : Memref sig .tc .vmem S256x512 .bf16) (h7 : a7.IsWhole)
    (h8 : a8.IsWhole) (h9 : a9.IsWhole) (h10 : a10.IsWhole) (arg2 : BitVec 32) (v0 : IVec S256x128 32) (v7 : FVec F S256x256 .bf16) (v24 v25 : IVec S512x256 32)
    (v83 v129 v175 v221 : FVec F S512x256 .bf16) (v387 : FVec F S512x256 .f32) (v389 v403 : FVec F S512x128 .f32) (v434 v436 v437 c0 v449 : BitVec 32)
    (X5 : a5.view.ty.Contents (Elt F)) (X6 : a6.view.ty.Contents (Elt F)) (X10 : a10.view.ty.Contents (Elt F)) (L8 L9 : List (View.Piece (Elt F) S4x512x128 .f32)) : List (View.Piece (Elt F) S4x512x128 .f32) :=
  ((pb_k0_t4 (F := F) 𝒱 c bd i a3 h3 a4 h4 a5 h5 a6 h6 a7 h7 a8 h8 a9 h9 a10 h10 arg2 v0 v7 v24 v25 v83 v129 v175 v221 v436 v437 c0 v449 X5 X6 X10 (a8.view.writes (Elt F) a8.view.junk ((pb_k0_t3 (F := F) 𝒱 c bd i a3 h3 a4 h4 a5 h5 a6 h6 a7 h7 a8 h8 a9 h9 a10 h10 arg2 v0 v7 v24 v25 v83 v129 v175 v221 v436 v437 c0 X5 X6 X10 (a8.view.writes (Elt F) a8.view.junk ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).1 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8))) (a9.view.writes (Elt F) a9.view.junk ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).2 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9))) (Scf.trips (k0_t3_loop i).lb (k0_t3_loop i).ub (k0_t3_loop i).st)).1 ++ ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).1 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)))) (a9.view.writes (Elt F) a9.view.junk ((pb_k0_t3 (F := F) 𝒱 c bd i a3 h3 a4 h4 a5 h5 a6 h6 a7 h7 a8 h8 a9 h9 a10 h10 arg2 v0 v7 v24 v25 v83 v129 v175 v221 v436 v437 c0 X5 X6 X10 (a8.view.writes (Elt F) a8.view.junk ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).1 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8))) (a9.view.writes (Elt F) a9.view.junk ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).2 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9))) (Scf.trips (k0_t3_loop i).lb (k0_t3_loop i).ub (k0_t3_loop i).st)).2 ++ ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).2 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)))) (Scf.trips (k0_t4_loop i).lb (k0_t4_loop i).ub (k0_t4_loop i).st)).1 ++ ((pb_k0_t3 (F := F) 𝒱 c bd i a3 h3 a4 h4 a5 h5 a6 h6 a7 h7 a8 h8 a9 h9 a10 h10 arg2 v0 v7 v24 v25 v83 v129 v175 v221 v436 v437 c0 X5 X6 X10 (a8.view.writes (Elt F) a8.view.junk ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).1 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8))) (a9.view.writes (Elt F) a9.view.junk ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).2 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9))) (Scf.trips (k0_t3_loop i).lb (k0_t3_loop i).ub (k0_t3_loop i).st)).1 ++ ((pb_k0_t2 (F := F) 𝒱 c bd i a3 h3 a4 h4 a5 h5 a6 h6 a7 h7 a8 h8 a9 h9 a10 h10 arg2 v7 v24 v25 v83 v129 v175 v221 v387 v389 v403 v434 X5 X6 X10 (a8.view.writes (Elt F) a8.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8)) (a9.view.writes (Elt F) a9.view.junk ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).2 ++ L9)) (Scf.trips (k0_t2_loop i).lb (k0_t2_loop i).ub (k0_t2_loop i).st)).1 ++ ((pb_k0_t1 (F := F) 𝒱 c bd i a3 h3 a4 h4 a5 h5 a6 h6 a7 h7 a8 h8 a9 h9 a10 h10 arg2 v7 v24 v25 v83 v129 v175 v221 v387 v389 v403 X5 X6 X10 (a8.view.writes (Elt F) a8.view.junk L8) (a9.view.writes (Elt F) a9.view.junk L9) (Scf.trips (k0_t1_loop i).lb (k0_t1_loop i).ub (k0_t1_loop i).st)).1 ++ L8))))

/-- Group 0's final load. -/
theorem load0 (𝒱 : Variants) (c : Dev nD) (bd : Option 𝒱.V) (i : grid0.Coords) (a3 : Memref sig .tc .smem S16 .f32) (h3 : a3.IsWhole)
    (a4 : Memref sig .tc .vmem S256x512 .bf16) (h4 : a4.IsWhole) (h5 : a5.IsWhole) (h6 : a6.IsWhole) (a7 : Memref sig .tc .vmem S256x512 .bf16) (h7 : a7.IsWhole)
    (h8 : a8.IsWhole) (h9 : a9.IsWhole) (h10 : a10.IsWhole) (arg2 : BitVec 32) (v0 : IVec S256x128 32) (v7 : FVec F S256x256 .bf16) (v24 v25 : IVec S512x256 32)
    (v83 v129 v175 v221 : FVec F S512x256 .bf16) (v387 : FVec F S512x256 .f32) (v389 v403 : FVec F S512x128 .f32) (v434 v436 v437 c0 v449 : BitVec 32)
    (X5 : a5.view.ty.Contents (Elt F)) (X6 : a6.view.ty.Contents (Elt F)) (X10 : a10.view.ty.Contents (Elt F)) (L8 L9 : List (View.Piece (Elt F) S4x512x128 .f32)) :
    a8.view.readCov (finalPieces (a5 := a5) (a6 := a6) (a8 := a8) (a9 := a9) (a10 := a10) 𝒱 c bd i a3 h3 a4 h4 h5 h6 a7 h7 h8 h9 h10 arg2 v0 v7 v24 v25 v83 v129 v175 v221 v387 v389 v403 v434 v436 v437 c0 v449 X5 X6 X10 L8 L9) (Rect.unit (s := S4x512x128) ![0, 0, 0] S1x512x128.size inb_S4x512x128_S1x512x128_0_0_0).toLoadRect
      = (down v7 (onesLd X10) ![v83, v129, v175, v221] (a5.view.read (Elt F) X5) (a6.view.read (Elt F) X6) i (stOf (a8.view.writes (Elt F) a8.view.junk L8) (a9.view.writes (Elt F) a9.view.junk L9)) (i 2).val).o 0 :=
  congrArg (fun s : St F => s.o 0) (readout (a10 := a10) 𝒱 c bd i a3 h3 a4 h4 h5 h6 a7 h7 h8 h9 h10 arg2 v0 v7 v24 v25 v83 v129 v175 v221 v387 v389 v403 v434 v436 v437 c0 v449 X5 X6 X10
    L8 L9 _ _ _ _ _ _ _ _ _ _ _ _ _ rfl rfl rfl rfl rfl rfl rfl rfl rfl)

/-- Group 1's final load. -/
theorem load1 (𝒱 : Variants) (c : Dev nD) (bd : Option 𝒱.V) (i : grid0.Coords) (a3 : Memref sig .tc .smem S16 .f32) (h3 : a3.IsWhole)
    (a4 : Memref sig .tc .vmem S256x512 .bf16) (h4 : a4.IsWhole) (h5 : a5.IsWhole) (h6 : a6.IsWhole) (a7 : Memref sig .tc .vmem S256x512 .bf16) (h7 : a7.IsWhole)
    (h8 : a8.IsWhole) (h9 : a9.IsWhole) (h10 : a10.IsWhole) (arg2 : BitVec 32) (v0 : IVec S256x128 32) (v7 : FVec F S256x256 .bf16) (v24 v25 : IVec S512x256 32)
    (v83 v129 v175 v221 : FVec F S512x256 .bf16) (v387 : FVec F S512x256 .f32) (v389 v403 : FVec F S512x128 .f32) (v434 v436 v437 c0 v449 : BitVec 32)
    (X5 : a5.view.ty.Contents (Elt F)) (X6 : a6.view.ty.Contents (Elt F)) (X10 : a10.view.ty.Contents (Elt F)) (L8 L9 : List (View.Piece (Elt F) S4x512x128 .f32)) :
    a8.view.readCov (finalPieces (a5 := a5) (a6 := a6) (a8 := a8) (a9 := a9) (a10 := a10) 𝒱 c bd i a3 h3 a4 h4 h5 h6 a7 h7 h8 h9 h10 arg2 v0 v7 v24 v25 v83 v129 v175 v221 v387 v389 v403 v434 v436 v437 c0 v449 X5 X6 X10 L8 L9) (Rect.unit (s := S4x512x128) ![1, 0, 0] S1x512x128.size inb_S4x512x128_S1x512x128_1_0_0).toLoadRect
      = (down v7 (onesLd X10) ![v83, v129, v175, v221] (a5.view.read (Elt F) X5) (a6.view.read (Elt F) X6) i (stOf (a8.view.writes (Elt F) a8.view.junk L8) (a9.view.writes (Elt F) a9.view.junk L9)) (i 2).val).o 1 :=
  congrArg (fun s : St F => s.o 1) (readout (a10 := a10) 𝒱 c bd i a3 h3 a4 h4 h5 h6 a7 h7 h8 h9 h10 arg2 v0 v7 v24 v25 v83 v129 v175 v221 v387 v389 v403 v434 v436 v437 c0 v449 X5 X6 X10
    L8 L9 _ _ _ _ _ _ _ _ _ _ _ _ _ rfl rfl rfl rfl rfl rfl rfl rfl rfl)

/-- Group 2's final load. -/
theorem load2 (𝒱 : Variants) (c : Dev nD) (bd : Option 𝒱.V) (i : grid0.Coords) (a3 : Memref sig .tc .smem S16 .f32) (h3 : a3.IsWhole)
    (a4 : Memref sig .tc .vmem S256x512 .bf16) (h4 : a4.IsWhole) (h5 : a5.IsWhole) (h6 : a6.IsWhole) (a7 : Memref sig .tc .vmem S256x512 .bf16) (h7 : a7.IsWhole)
    (h8 : a8.IsWhole) (h9 : a9.IsWhole) (h10 : a10.IsWhole) (arg2 : BitVec 32) (v0 : IVec S256x128 32) (v7 : FVec F S256x256 .bf16) (v24 v25 : IVec S512x256 32)
    (v83 v129 v175 v221 : FVec F S512x256 .bf16) (v387 : FVec F S512x256 .f32) (v389 v403 : FVec F S512x128 .f32) (v434 v436 v437 c0 v449 : BitVec 32)
    (X5 : a5.view.ty.Contents (Elt F)) (X6 : a6.view.ty.Contents (Elt F)) (X10 : a10.view.ty.Contents (Elt F)) (L8 L9 : List (View.Piece (Elt F) S4x512x128 .f32)) :
    a8.view.readCov (finalPieces (a5 := a5) (a6 := a6) (a8 := a8) (a9 := a9) (a10 := a10) 𝒱 c bd i a3 h3 a4 h4 h5 h6 a7 h7 h8 h9 h10 arg2 v0 v7 v24 v25 v83 v129 v175 v221 v387 v389 v403 v434 v436 v437 c0 v449 X5 X6 X10 L8 L9) (Rect.unit (s := S4x512x128) ![2, 0, 0] S1x512x128.size inb_S4x512x128_S1x512x128_2_0_0).toLoadRect
      = (down v7 (onesLd X10) ![v83, v129, v175, v221] (a5.view.read (Elt F) X5) (a6.view.read (Elt F) X6) i (stOf (a8.view.writes (Elt F) a8.view.junk L8) (a9.view.writes (Elt F) a9.view.junk L9)) (i 2).val).o 2 :=
  congrArg (fun s : St F => s.o 2) (readout (a10 := a10) 𝒱 c bd i a3 h3 a4 h4 h5 h6 a7 h7 h8 h9 h10 arg2 v0 v7 v24 v25 v83 v129 v175 v221 v387 v389 v403 v434 v436 v437 c0 v449 X5 X6 X10
    L8 L9 _ _ _ _ _ _ _ _ _ _ _ _ _ rfl rfl rfl rfl rfl rfl rfl rfl rfl)

/-- Group 3's final load. -/
theorem load3 (𝒱 : Variants) (c : Dev nD) (bd : Option 𝒱.V) (i : grid0.Coords) (a3 : Memref sig .tc .smem S16 .f32) (h3 : a3.IsWhole)
    (a4 : Memref sig .tc .vmem S256x512 .bf16) (h4 : a4.IsWhole) (h5 : a5.IsWhole) (h6 : a6.IsWhole) (a7 : Memref sig .tc .vmem S256x512 .bf16) (h7 : a7.IsWhole)
    (h8 : a8.IsWhole) (h9 : a9.IsWhole) (h10 : a10.IsWhole) (arg2 : BitVec 32) (v0 : IVec S256x128 32) (v7 : FVec F S256x256 .bf16) (v24 v25 : IVec S512x256 32)
    (v83 v129 v175 v221 : FVec F S512x256 .bf16) (v387 : FVec F S512x256 .f32) (v389 v403 : FVec F S512x128 .f32) (v434 v436 v437 c0 v449 : BitVec 32)
    (X5 : a5.view.ty.Contents (Elt F)) (X6 : a6.view.ty.Contents (Elt F)) (X10 : a10.view.ty.Contents (Elt F)) (L8 L9 : List (View.Piece (Elt F) S4x512x128 .f32)) :
    a8.view.readCov (finalPieces (a5 := a5) (a6 := a6) (a8 := a8) (a9 := a9) (a10 := a10) 𝒱 c bd i a3 h3 a4 h4 h5 h6 a7 h7 h8 h9 h10 arg2 v0 v7 v24 v25 v83 v129 v175 v221 v387 v389 v403 v434 v436 v437 c0 v449 X5 X6 X10 L8 L9) (Rect.unit (s := S4x512x128) ![3, 0, 0] S1x512x128.size inb_S4x512x128_S1x512x128_3_0_0).toLoadRect
      = (down v7 (onesLd X10) ![v83, v129, v175, v221] (a5.view.read (Elt F) X5) (a6.view.read (Elt F) X6) i (stOf (a8.view.writes (Elt F) a8.view.junk L8) (a9.view.writes (Elt F) a9.view.junk L9)) (i 2).val).o 3 :=
  congrArg (fun s : St F => s.o 3) (readout (a10 := a10) 𝒱 c bd i a3 h3 a4 h4 h5 h6 a7 h7 h8 h9 h10 arg2 v0 v7 v24 v25 v83 v129 v175 v221 v387 v389 v403 v434 v436 v437 c0 v449 X5 X6 X10
    L8 L9 _ _ _ _ _ _ _ _ _ _ _ _ _ rfl rfl rfl rfl rfl rfl rfl rfl rfl)

theorem pay2_eq (v : IVec S256x128 32) (x : Vec F S1x512x128 .f32) : k0_pay2 v x = k0_pay318 v x := rfl
theorem pay1_eq (v : IVec S256x128 32) (x : Vec F S1x512x128 .f32) : k0_pay1 v (k0_pay319 x) k0_pay320 = k0_pay318 v x := rfl
theorem pay275_eq (u : IVec S256x128 32) (v w : IVec S512x128 32) (x : Vec F S256x128 .bf16) (b b' : Elt F .f32) :
    k0_pay275 u v w (k0_pay274 x) b b' = k0_pay278 u v w x b b' := rfl
theorem pay277_eq (u : IVec S256x128 32) (v w : IVec S512x128 32) (x : Vec F S256x128 .bf16) (b b' : Elt F .f32) :
    k0_pay277 u v w (k0_pay276 x) b b' = k0_pay278 u v w x b b' := rfl
theorem pay279_eq (u : IVec S256x128 32) (v w : IVec S512x128 32) (x : Vec F S256x128 .bf16) (b b' : Elt F .f32) :
    k0_pay279 u v w x b b' = k0_pay278 u v w x b b' := rfl

end Cert.KernelIdeal.Value

end
-- ==== Proof.Parts.lean ====
/-
  One block's pieces over the extended reals, each read at an index: the scores with the bias from three columns, the
  softplus, the suffix sums, the weights, and the two running buffers' updates.
-/
module

public import proofs.«01_k».proof.Proof.Final
public import proofs.«01_k».proof.Proof.Cumsum
public import Idealize.ShloMosaic.Lib.WordCmp

@[expose] public section

set_option maxRecDepth 16384

noncomputable section

namespace Cert.KernelIdeal.Value

open Cert.KernelIdeal Cert.KernelIdeal.Gen Idealize.ShloMosaic Idealize.ShloMosaic.TcCoe Cert.Stick

theorem zero_bits : Ideal.ofBits .f32 0x00000000#32 = (0 : EReal) := by simp [Ideal.ofBits, Ideal.ieee]

theorem one_bits : Ideal.ofBits .f32 0x3F800000#32 = (1 : EReal) := by
  simp [Ideal.ofBits, Ideal.ieee]
  rw [← EReal.coe_mul]
  norm_num

theorem neg_one_bits : Ideal.ofBits .f32 0xBF800000#32 = (-1 : EReal) := by
  simp [Ideal.ofBits, Ideal.ieee]
  rw [← EReal.coe_mul]
  norm_num

/-- A select on two small words in order. -/
theorem sel_slt {α : Type} {a b : ℕ} (ha : a < 1024) (hb : b < 1024) (x y : α) :
    Scalar.select (IntOp.cmpi .slt (BitVec.ofNat 32 a) (BitVec.ofNat 32 b)) x y = if a < b then x else y := by
  rw [WordCmp.cmpi_slt_ofNat (by omega) (by omega)]
  by_cases h : a < b
  · rw [if_pos h]; exact if_pos (by rw [decide_eq_true h]; rfl)
  · rw [if_neg h]; exact if_neg (by rw [decide_eq_false h]; decide)

/-- The same, the other way round. -/
theorem sel_sge {α : Type} {a b : ℕ} (ha : a < 1024) (hb : b < 1024) (x y : α) :
    Scalar.select (IntOp.cmpi .sge (BitVec.ofNat 32 a) (BitVec.ofNat 32 b)) x y = if b ≤ a then x else y := by
  rw [WordCmp.cmpi_sge_ofNat (by omega) (by omega)]
  by_cases h : b ≤ a
  · rw [if_pos h]; exact if_pos (by rw [decide_eq_true h]; rfl)
  · rw [if_neg h]; exact if_neg (by rw [decide_eq_false h]; decide)

/-- A select on two small words being equal. -/
theorem sel_eq {α : Type} {a b : ℕ} (ha : a < 1024) (hb : b < 1024) (x y : α) :
    Scalar.select (IntOp.cmpi .eq (BitVec.ofNat 32 a) (BitVec.ofNat 32 b)) x y = if a = b then x else y := by
  rw [WordCmp.cmpi_eq_ofNat (by omega) (by omega)]
  by_cases h : a = b
  · rw [if_pos h]; exact if_pos (by rw [decide_eq_true h]; rfl)
  · rw [if_neg h]; exact if_neg (by rw [decide_eq_false h]; decide)

/-- The matrix of the suffix sums: minus one at and below the diagonal. -/
theorem upper_apply (t c : Fin 256) : (k0_pay271 (F := Ideal)) (ix2 t c) = if c.val ≤ t.val then (-1 : EReal) else 0 := by
  have h1 := t.isLt
  have h2 := c.isLt
  pointwise [k0_pay271]
  rw [sel_sge (by omega) (by omega)]
  exact if_congr Iff.rfl neg_one_bits rfl

/-- The rows the bias is added through: ones in the first three. -/
theorem ones_apply (t : Fin 128) (c : Fin 256) : (k0_pay273 (F := Ideal)) (ix2 t c) = if t.val < 3 then (1 : EReal) else 0 := by
  have h1 := t.isLt
  pointwise [k0_pay273]
  exact sel_slt (by omega) (by omega) _ _

/-- The queries' columns of a group: row `r` keeps the lanes of its own head. -/
theorem qB_lo (x : Vec Ideal S256x128 .bf16) (b b' : Elt Ideal .f32) (r : Fin 512) (t : Fin 128) :
    qB x b b' (ix2 r (⟨t.val, by omega⟩ : Fin 256))
      = if r.val / 256 = t.val / 64 then x (ix2 (⟨r.val % 256, by omega⟩ : Fin 256) t) else (0 : EReal) := by
  have h1 := r.isLt
  have h2 := t.isLt
  pointwise [qB, k0_pay278]
  by_cases hr : r.val < 256
  · have e : (⟨r.val, hr⟩ : Fin 256) = ⟨r.val % 256, by omega⟩ := Fin.ext (by show r.val = r.val % 256; omega)
    rw [dif_pos hr, sel_slt (by omega) (by omega), e]
    by_cases ht : t.val < 64
    · rw [if_pos ht, if_pos (by omega)]
    · rw [if_neg ht, if_neg (by omega)]
  · have e : (⟨r.val - 256, by omega⟩ : Fin 256) = ⟨r.val % 256, by omega⟩ := Fin.ext (by show r.val - 256 = r.val % 256; omega)
    rw [dif_neg hr, sel_sge (by omega) (by omega), e]
    by_cases ht : 64 ≤ t.val
    · rw [if_pos ht, if_pos (by omega)]
    · rw [if_neg ht, if_neg (by omega)]

/-- The bias of a row's head. -/
def rowBias (b b' : EReal) (r : Fin 512) : EReal := if r.val < 256 then b else b'

/-- The bias columns of a group: the bias in the first, nothing in the rest, when it is finite. -/
theorem qB_hi (x : Vec Ideal S256x128 .bf16) (b b' : Elt Ideal .f32) (hb : ((b.toReal : ℝ) : EReal) = b) (hb' : ((b'.toReal : ℝ) : EReal) = b')
    (r : Fin 512) (t : Fin 128) :
    qB x b b' (ix2 r (⟨128 + t.val, by omega⟩ : Fin 256)) = if t.val = 0 then rowBias b b' r else 0 := by
  have h1 := r.isLt
  have h2 := t.isLt
  have hz : rowBias b b' r - rowBias b b' r = 0 := by
    unfold rowBias
    split
    · rw [← hb, ← EReal.coe_sub, sub_self]; rfl
    · rw [← hb', ← EReal.coe_sub, sub_self]; rfl
  pointwise [qB, k0_pay278]
  rw [sel_eq (by omega) (by omega), sel_eq (by omega) (by omega), sel_eq (by omega) (by omega), sel_slt (by omega) (by omega)]
  rw [show (if r.val < 256 then b else b') = rowBias b b' r from rfl, hz, show (0 : EReal) - 0 = 0 by simp]
  by_cases t0 : t.val = 0
  · rw [if_neg (by omega), if_neg (by omega), if_pos t0]
  · rw [if_neg t0]
    split
    · rfl
    · split <;> rfl

/-- A sum over 128 lanes that keeps one half. -/
theorem half_sum (f : Fin 128 → EReal) (h : ℕ) (hh : h < 2) :
    (∑ t : Fin 128, if h = t.val / 64 then f t else 0) = ∑ d : Fin 64, f (⟨64 * h + d.val, by omega⟩ : Fin 128) := by
  rw [Fin.sum_univ_add (a := 64) (b := 64) (fun t : Fin 128 => if h = t.val / 64 then f t else 0)]
  have lo : ∀ d : Fin 64, (Fin.castAdd 64 d).val / 64 = 0 := fun d => by
    show d.val / 64 = 0
    omega
  have hi : ∀ d : Fin 64, (Fin.natAdd 64 d).val / 64 = 1 := fun d => by
    show (64 + d.val) / 64 = 1
    omega
  simp only [lo, hi]
  rcases (show h = 0 ∨ h = 1 by omega) with rfl | rfl
  · simp only [if_pos, zero_ne_one, if_false, Finset.sum_const_zero, add_zero]
    exact Finset.sum_congr rfl fun d _ => congrArg f (Fin.ext (by show d.val = 64 * 0 + d.val; omega))
  · simp only [if_pos, one_ne_zero, if_false, Finset.sum_const_zero, zero_add]
    exact Finset.sum_congr rfl fun d _ => congrArg f (Fin.ext (by show 64 + d.val = 64 * 1 + d.val; omega))

/-- The scores: each row's query against the block's keys, over the lanes of the row's head, and the head's bias. -/
theorem zB_apply (x : Vec Ideal S256x128 .bf16) (b b' : Elt Ideal .f32) (hb : ((b.toReal : ℝ) : EReal) = b) (hb' : ((b'.toReal : ℝ) : EReal) = b')
    (K : Vec Ideal S1x1x128x256 .bf16) (r : Fin 512) (c : Fin 256) :
    zB (qB x b b') K (k0_pay273 (F := Ideal)) (ix2 r c)
      = (∑ d : Fin 64, x (ix2 (⟨r.val % 256, by omega⟩ : Fin 256) (⟨64 * (r.val / 256) + d.val, by omega⟩ : Fin 128))
          * K (ix4 (0 : Fin 1) (0 : Fin 1) (⟨64 * (r.val / 256) + d.val, by omega⟩ : Fin 128) c)) + rowBias b b' r := by
  have h1 := r.isLt
  have key : zB (qB x b b') K (k0_pay273 (F := Ideal)) (ix2 r c)
      = (∑ t : Fin 128, qB x b b' (ix2 r (⟨t.val, by omega⟩ : Fin 256)) * K (ix4 (0 : Fin 1) (0 : Fin 1) t c))
        + ∑ t : Fin 128, qB x b b' (ix2 r (⟨128 + t.val, by omega⟩ : Fin 256)) * (k0_pay273 (F := Ideal)) (ix2 t c) := by
    generalize qB x b b' = q
    generalize (k0_pay273 (F := Ideal)) = ones
    pointwise [zB]
  rw [key]
  congr 1
  · rw [← half_sum (fun t => x (ix2 (⟨r.val % 256, by omega⟩ : Fin 256) t) * K (ix4 (0 : Fin 1) (0 : Fin 1) t c)) (r.val / 256) (by omega)]
    refine Finset.sum_congr rfl fun t _ => ?_
    rw [qB_lo]
    split
    · rfl
    · exact zero_mul _
  · rw [Finset.sum_eq_single (0 : Fin 128)]
    · rw [qB_hi x b b' hb hb' r 0, ones_apply, if_pos (show ((0 : Fin 128)).val = 0 from rfl), if_pos (by decide), mul_one]
    · intro t _ ht
      rw [qB_hi x b b' hb hb' r t, if_neg fun h : t.val = 0 => ht (Fin.ext h), zero_mul]
    · intro h
      exact absurd (Finset.mem_univ _) h

/-- The named constant is `-1 / log 2`. -/
theorem named_apply : (Named.named κ "neg_log2e" 0xBFB8AA3B#32 : Ideal .f32) = ((-((Real.log 2)⁻¹) : ℝ) : EReal) :=
  IdealRules.named_const.ideal_named_scalar _ _ _ _ rfl

/-- The softplus of a real score. -/
theorem spB_apply (z : FVec Ideal S512x256 .f32) (i : S512x256.Idx) (x : ℝ) (h : z i = (x : EReal)) : spB z i = ((sp x : ℝ) : EReal) := by
  pointwise [spB]
  rw [h, named_apply]
  exact kernel_softplus x

/-- The sum over 256 columns of reals against the triangle. -/
theorem tri_sum (s : FVec Ideal S512x256 .f32) (S : ℕ → ℝ) (r : Fin 512) (c : Fin 256) (hs : ∀ t : Fin 256, s (ix2 r t) = ((S t.val : ℝ) : EReal)) :
    (∑ t : Fin 256, s (ix2 r t) * (k0_pay271 (F := Ideal)) (ix2 t c)) = ((-(∑ t : Fin 256, if c.val ≤ t.val then S t.val else 0) : ℝ) : EReal) := by
  rw [← Finset.sum_neg_distrib, coe_sum]
  refine Finset.sum_congr rfl fun t _ => ?_
  rw [hs, upper_apply]
  split
  · rw [mul_neg, mul_one, EReal.coe_neg]
  · simp

/-- The suffix sums of group `g`. -/
theorem cs_apply (s0 s1 s2 s3 : FVec Ideal S512x256 .f32) (g : Fin 4) (S : ℕ → ℝ) (r : Fin 512) (c : Fin 256)
    (hs : ∀ t : Fin 256, (![s0, s1, s2, s3] g) (ix2 r t) = ((S t.val : ℝ) : EReal)) :
    csG (csB k0_pay271 s0 s1 s2 s3) g (ix2 r c) = ((-(∑ t : Fin 256, if c.val ≤ t.val then S t.val else 0) : ℝ) : EReal) := by
  have h1 := r.isLt
  rw [← tri_sum _ S r c hs]
  generalize (k0_pay271 (F := Ideal)) = u
  match g with
  | 0 =>
    pointwise [csG, csB]
  | 1 =>
    pointwise [csG, csB]
  | 2 =>
    pointwise [csG, csB]
    refine Finset.sum_congr rfl fun t _ => ?_
    rw [dif_neg (by omega), dif_neg (by omega), dif_pos (by omega)]
    congr 3
    exact Fin.ext (by show 1024 + r.val - 512 - 512 = r.val; omega)
  | 3 =>
    pointwise [csG, csB]
    refine Finset.sum_congr rfl fun t _ => ?_
    rw [dif_neg (by omega), dif_neg (by omega), dif_neg (by omega)]
    congr 3
    exact Fin.ext (by show 1536 + r.val - 512 - 512 - 512 = r.val; omega)

/-- The weights of a block. -/
theorem wB_apply (z c : FVec Ideal S512x256 .f32) (a : Vec Ideal S1x512x128 .f32) (r : Fin 512) (t : Fin 256) (A : EReal)
    (ha : ∀ l : Fin 128, a (ix3 (0 : Fin 1) r l) = A) : wB z c a (ix2 r t) = Ideal.exp (z (ix2 r t) + c (ix2 r t) + A) := by
  pointwise [wB]
  split <;> rw [ha]

theorem oB_apply (w : FVec Ideal S512x256 .f32) (o : Vec Ideal S1x512x128 .f32) (V : Vec Ideal S1x1x128x256 .bf16) (r : Fin 512) (l : Fin 128) :
    oB w o V (ix3 (0 : Fin 1) r l) = o (ix3 (0 : Fin 1) r l) + ∑ c : Fin 256, w (ix2 r c) * V (ix4 (0 : Fin 1) (0 : Fin 1) l c) := by
  pointwise [oB]

theorem aB_apply (c : FVec Ideal S512x256 .f32) (a : Vec Ideal S1x512x128 .f32) (r : Fin 512) (l : Fin 128) :
    aB c a (ix3 (0 : Fin 1) r l) = a (ix3 (0 : Fin 1) r l) + c (ix2 r 0) := by
  pointwise [aB]

/-- A row's position in its block of queries. -/
theorem qpos_apply (r : Fin 512) (c : Fin 256) : k0_pay272 (ix2 r c) = BitVec.ofNat 32 (r.val % 256) := by
  pointwise [k0_pay272]
  revert r
  decide +kernel

theorem causal_apply (x : FVec Ideal S512x256 .f32) (r : Fin 512) (c : Fin 256) :
    causal x (ix2 r c) = if c.val < r.val % 256 then x (ix2 r c) else 0 := by
  have h1 := r.isLt
  have h2 := c.isLt
  pointwise [causal]
  rw [qpos_apply]
  exact sel_slt (by omega) (by omega) _ _

theorem finB_apply (o : Vec Ideal S1x512x128 .f32) (r : Fin 256) (l : Fin 128) :
    finB o (ix2 r l) = o (ix3 (0 : Fin 1) (⟨256 * (l.val / 64) + r.val, by omega⟩ : Fin 512) l) := by
  have h1 := r.isLt
  have h2 := l.isLt
  pointwise [finB, k0_pay318]
  rw [sel_slt (by omega) (by omega)]
  split
  · next h => exact congrArg (fun t : Fin 512 => o (ix3 (0 : Fin 1) t l)) (Fin.ext (by show r.val = 256 * (l.val / 64) + r.val; omega))
  · next h => exact congrArg (fun t : Fin 512 => o (ix3 (0 : Fin 1) t l)) (Fin.ext (by show 256 + r.val = 256 * (l.val / 64) + r.val; omega))

end Cert.KernelIdeal.Value

end
-- ==== Proof.Sweep.lean ====
/-
  The sweep over the key blocks: after the blocks from the diagonal's down to `J`, the running sums are minus the sums
  of the softplus from key `256 J` up to the query's position, and the running outputs the weighted sums of the values
  from key `256 J` on.
-/
module

public import proofs.«01_k».proof.Proof.Parts

@[expose] public section

set_option maxRecDepth 16384

noncomputable section

namespace Cert.KernelIdeal.Value

open Cert.KernelIdeal Cert.KernelIdeal.Gen Idealize.ShloMosaic Idealize.ShloMosaic.TcCoe Cert.Stick

/-- The position of row `r`'s query in its sequence. -/
def pos (i : ℕ) (r : Fin 512) : ℕ := 256 * i + r.val % 256

/-- The two buffers after the blocks down to `J`. -/
structure Inv (i : ℕ) (ζ : Fin 4 → Fin 512 → ℕ → ℝ) (ν : Fin 4 → Fin 128 → ℕ → EReal) (J : ℕ) (s : St Ideal) : Prop where
  a : ∀ g r l, s.a g (ix3 (0 : Fin 1) r l) = ((-tail (ζ g r) (256 * J) (pos i r) : ℝ) : EReal)
  o : ∀ g r l, s.o g (ix3 (0 : Fin 1) r l) = part (ζ g r) (pos i r) (ν g l) (256 * J) (256 * (i + 1))

/-- What block `J` holds: its scores and its values. -/
structure Blk (ζ : Fin 4 → Fin 512 → ℕ → ℝ) (ν : Fin 4 → Fin 128 → ℕ → EReal) (J : ℕ) (q : Fin 4 → FVec Ideal S512x256 .bf16) (x : KV Ideal) : Prop where
  z : ∀ g r (c : Fin 256), zB (q g) (x.K g) (k0_pay273 (F := Ideal)) (ix2 r c) = ((ζ g r (256 * J + c.val) : ℝ) : EReal)
  v : ∀ g l (c : Fin 256), x.V g (ix4 (0 : Fin 1) (0 : Fin 1) l c) = ν g l (256 * J + c.val)

variable {i : ℕ} {ζ : Fin 4 → Fin 512 → ℕ → ℝ} {ν : Fin 4 → Fin 128 → ℕ → EReal} {J : ℕ} {q : Fin 4 → FVec Ideal S512x256 .bf16} {x : KV Ideal} {s : St Ideal}

/-- The suffix sums of a block's masked softplus, of all four groups. -/
abbrev sums (msk : FVec Ideal S512x256 .f32 → FVec Ideal S512x256 .f32) (q : Fin 4 → FVec Ideal S512x256 .bf16) (x : KV Ideal) : FVec Ideal S2048x256 .f32 :=
  csB (k0_pay271 (F := Ideal)) (msk (spB (zB (q 0) (x.K 0) (k0_pay273 (F := Ideal))))) (msk (spB (zB (q 1) (x.K 1) (k0_pay273 (F := Ideal))))) (msk (spB (zB (q 2) (x.K 2) (k0_pay273 (F := Ideal)))))
    (msk (spB (zB (q 3) (x.K 3) (k0_pay273 (F := Ideal)))))

/-- A block below the diagonal: the suffix sums run up to the block's end. -/
theorem sums_full (hx : Blk ζ ν J q x) (g : Fin 4) (r : Fin 512) (c : Fin 256) :
    csG (sums id q x) g (ix2 r c) = ((-tail (ζ g r) (256 * J + c.val) (256 * J + 256) : ℝ) : EReal) := by
  unfold sums
  rw [cs_apply _ _ _ _ g (fun t => sp (ζ g r (256 * J + t))) r c fun t => by
    match g with
    | 0 => exact spB_apply _ _ _ (hx.z 0 r t)
    | 1 => exact spB_apply _ _ _ (hx.z 1 r t)
    | 2 => exact spB_apply _ _ _ (hx.z 2 r t)
    | 3 => exact spB_apply _ _ _ (hx.z 3 r t)]
  congr 2
  unfold tail
  rw [← suffix (fun s => sp (ζ g r s)) (256 * J) c.val 256 le_rfl]
  exact Finset.sum_congr rfl fun t _ => by rw [if_pos t.isLt]

/-- The diagonal's block: the suffix sums run up to the query's position. -/
theorem sums_diag (hx : Blk ζ ν i q x) (g : Fin 4) (r : Fin 512) (c : Fin 256) :
    csG (sums causal q x) g (ix2 r c) = ((-tail (ζ g r) (256 * i + c.val) (pos i r) : ℝ) : EReal) := by
  have m : ∀ (g : Fin 4) (t : Fin 256), causal (spB (zB (q g) (x.K g) (k0_pay273 (F := Ideal)))) (ix2 r t)
      = (((if t.val < r.val % 256 then sp (ζ g r (256 * i + t.val)) else 0 : ℝ)) : EReal) := fun g t => by
    rw [causal_apply]
    by_cases h : t.val < r.val % 256
    · rw [if_pos h, if_pos h]
      exact spB_apply _ _ _ (hx.z g r t)
    · rw [if_neg h, if_neg h]
      rfl
  unfold sums
  rw [cs_apply _ _ _ _ g (fun t => if t < r.val % 256 then sp (ζ g r (256 * i + t)) else 0) r c fun t => by
    match g with
    | 0 => exact m 0 t
    | 1 => exact m 1 t
    | 2 => exact m 2 t
    | 3 => exact m 3 t]
  congr 2
  exact suffix (fun s => sp (ζ g r s)) (256 * i) c.val (r.val % 256) (by omega)

/-- A weight from its three terms. -/
theorem weight_of (z : ℕ → ℝ) (p κ m : ℕ) (h : κ < p) (h1 : κ ≤ m) (h2 : m ≤ p) :
    Ideal.exp (((z κ : ℝ) : EReal) + ((-tail z κ m : ℝ) : EReal) + ((-tail z m p : ℝ) : EReal)) = ((wt z p κ : ℝ) : EReal) := by
  rw [← EReal.coe_add, ← EReal.coe_add]
  show ((Real.exp _ : ℝ) : EReal) = _
  unfold wt
  rw [if_pos h, ← tail_add z h1 h2]
  congr 2
  ring

/-- One block below the diagonal. -/
theorem inv_step (hJ : J < i) (hx : Blk ζ ν J q x) (hs : Inv i ζ ν (J + 1) s) : Inv i ζ ν J (step id (k0_pay271 (F := Ideal)) (k0_pay273 (F := Ideal)) q x s) where
  a g r l := by
    have hp : 256 * J + 256 ≤ pos i r := by unfold pos; omega
    show aB (csG (sums id q x) g) (s.a g) (ix3 (0 : Fin 1) r l) = _
    rw [aB_apply, hs.a, sums_full hx, ← EReal.coe_add]
    congr 1
    have e := tail_add (ζ g r) (show 256 * J ≤ 256 * J + 256 by omega) hp
    rw [show 256 * (J + 1) = 256 * J + 256 by ring, show 256 * J + ((0 : Fin 256)).val = 256 * J from rfl, ← e]
    ring
  o g r l := by
    have hp : 256 * J + 256 ≤ pos i r := by unfold pos; omega
    show oB (wB (zB (q g) (x.K g) (k0_pay273 (F := Ideal))) (csG (sums id q x) g) (s.a g)) (s.o g) (x.V g) (ix3 (0 : Fin 1) r l) = _
    have hw : ∀ c : Fin 256, wB (zB (q g) (x.K g) (k0_pay273 (F := Ideal))) (csG (sums id q x) g) (s.a g) (ix2 r c)
        = ((wt (ζ g r) (pos i r) (256 * J + c.val) : ℝ) : EReal) := fun c => by
      have hc := c.isLt
      rw [wB_apply _ _ _ r c _ (hs.a g r), hx.z, sums_full hx, show 256 * (J + 1) = 256 * J + 256 by ring]
      exact weight_of _ _ _ _ (by omega) (by omega) hp
    rw [oB_apply, hs.o, ← part_add (ζ g r) (pos i r) (ν g l) (show 256 * J ≤ 256 * (J + 1) by omega) (show 256 * (J + 1) ≤ 256 * (i + 1) by omega), add_comm]
    congr 1
    unfold part
    rw [show 256 * (J + 1) = 256 * J + 256 by ring, ← block_sum (fun κ => ((wt (ζ g r) (pos i r) κ : ℝ) : EReal) * ν g l κ) (256 * J)]
    exact Finset.sum_congr rfl fun c _ => by rw [hw, hx.v]

theorem clear_a (g : Fin 4) (r : Fin 512) (l : Fin 128) : (clear (F := Ideal)).a g (ix3 (0 : Fin 1) r l) = 0 := by
  match g with
  | 0 => exact zero_bits
  | 1 => exact zero_bits
  | 2 => exact zero_bits
  | 3 => exact zero_bits

theorem clear_o (g : Fin 4) (r : Fin 512) (l : Fin 128) : (clear (F := Ideal)).o g (ix3 (0 : Fin 1) r l) = 0 := clear_a g r l

/-- The diagonal's block. -/
theorem inv_diag (hx : Blk ζ ν i q x) : Inv i ζ ν i (step causal (k0_pay271 (F := Ideal)) (k0_pay273 (F := Ideal)) q x clear) where
  a g r l := by
    show aB (csG (sums causal q x) g) ((clear (F := Ideal)).a g) (ix3 (0 : Fin 1) r l) = _
    rw [aB_apply, clear_a, sums_diag hx, zero_add]
    rfl
  o g r l := by
    show oB (causal (wB (zB (q g) (x.K g) (k0_pay273 (F := Ideal))) (csG (sums causal q x) g) ((clear (F := Ideal)).a g))) ((clear (F := Ideal)).o g) (x.V g) (ix3 (0 : Fin 1) r l) = _
    have hw : ∀ c : Fin 256, causal (wB (zB (q g) (x.K g) (k0_pay273 (F := Ideal))) (csG (sums causal q x) g) ((clear (F := Ideal)).a g)) (ix2 r c)
        = ((wt (ζ g r) (pos i r) (256 * i + c.val) : ℝ) : EReal) := fun c => by
      rw [causal_apply]
      by_cases h : c.val < r.val % 256
      · have h' : 256 * i + c.val < pos i r := by unfold pos; omega
        have e := weight_of (ζ g r) (pos i r) (256 * i + c.val) (pos i r) h' h'.le le_rfl
        rw [if_pos h, wB_apply _ _ _ r c _ (clear_a g r), hx.z, sums_diag hx, ← e]
        congr 2
        simp [tail]
      · have h' : ¬256 * i + c.val < pos i r := by unfold pos; omega
        unfold wt
        rw [if_neg h, if_neg h']
        rfl
    rw [oB_apply, clear_o, zero_add]
    unfold part
    rw [show 256 * (i + 1) = 256 * i + 256 by ring, ← block_sum (fun κ => ((wt (ζ g r) (pos i r) κ : ℝ) : EReal) * ν g l κ) (256 * i)]
    exact Finset.sum_congr rfl fun c _ => by rw [hw, hx.v]

/-- The blocks below the diagonal's, from its state on. -/
theorem inv_down (t : grid0.Coords) (x2 x3 : Vec Ideal S1x32x512x256 .bf16) (hb : ∀ j : Fin 32, Blk ζ ν j.val q (kvAt x2 x3 j)) (s : St Ideal)
    (hs : Inv (t 2).val ζ ν (t 2).val s) : ∀ n : ℕ, n ≤ (t 2).val → Inv (t 2).val ζ ν ((t 2).val - n) (down (k0_pay271 (F := Ideal)) (k0_pay273 (F := Ideal)) q x2 x3 t s n)
  | 0, _ => hs
  | n + 1, h => by
    have ih := inv_down t x2 x3 hb s hs n (by omega)
    have e : (t 2).val - n = (t 2).val - (n + 1) + 1 := by omega
    rw [e] at ih
    have hB := hb (below t n)
    have e' : (below t n).val = (t 2).val - (n + 1) := by
      show (t 2).val - 1 - n = _
      omega
    rw [e'] at hB
    exact inv_step (by omega) hB ih

/-- The running outputs at the end: all the keys up to the diagonal block's end. -/
theorem last_o (t : grid0.Coords) (x0 : Vec Ideal S16 .f32) (x1 : Vec Ideal S256x512 .bf16) (x2 x3 : Vec Ideal S1x32x512x256 .bf16)
    (hb : ∀ j : Fin 32, Blk ζ ν j.val (qs t x0 x1) (kvAt x2 x3 j)) (g : Fin 4) (r : Fin 512) (l : Fin 128) :
    (last t x0 x1 x2 x3).o g (ix3 (0 : Fin 1) r l) = part (ζ g r) (pos (t 2).val r) (ν g l) 0 (256 * ((t 2).val + 1)) := by
  have h := (inv_down t x2 x3 hb _ (inv_diag (hb (t 2))) (t 2).val le_rfl).o g r l
  rw [Nat.sub_self] at h
  exact h

end Cert.KernelIdeal.Value

end
-- ==== Proof.Windows.lean ====
/-
  What a grid point's input windows hold, in terms of the arguments: a block of 256 queries of eight heads, scaled by an
  eighth, and all the keys and all the values of the sequence for those eight heads, in blocks of 256 positions.
-/
module

public import proofs.«01_k».proof.Proof.Sweep
public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe Cert.Stick

/-- The queries as the call finds them: scaled by an eighth, a row per position. -/
def rows (q : FVec Ideal S8x8192x16x64 .f32) : FVec Ideal S65536x1024 .bf16 :=
  truncf .bf16 (mulf (shapeCast S65536x1024 q shapeCasts_S8x8192x16x64_S65536x1024)
    (broadcastInDim S65536x1024 ![] bcast_S_S65536x1024 (constant S_ .f32 0x3E000000#32))) bitsLt_bf16_f32

/-- The keys (or the values) as the call finds them: blocks of 256 positions, turned to put the positions last. -/
def blocks (k : FVec Ideal S8x8192x16x64 .f32) : FVec Ideal S8x32x1024x256 .bf16 :=
  truncf .bf16 (transpose S8x32x1024x256 [0, 1, 3, 2] (shapeCast S8x32x256x1024 k shapeCasts_S8x8192x16x64_S8x32x256x1024)
    transposes_S8x32x256x1024_S8x32x1024x256_0_1_3_2) bitsLt_bf16_f32

/-- One eighth, from its bits. -/
theorem eighth : Ideal.ofBits .f32 0x3E000000#32 = (((1 / 8 : ℝ)) : EReal) := by
  simp [Ideal.ofBits, Ideal.ieee]
  rw [← EReal.coe_mul]
  norm_num

theorem rows_apply (q : FVec Ideal S8x8192x16x64 .f32) (n : Fin 8) (p : Fin 8192) (l : Fin 1024) :
    rows q (ix2 (⟨8192 * n.val + p.val, by omega⟩ : Fin 65536) l)
      = q (ix4 n p (⟨l.val / 64, by omega⟩ : Fin 16) (⟨l.val % 64, by omega⟩ : Fin 64)) * (((1 / 8 : ℝ)) : EReal) := by
  have h1 := n.isLt
  have h2 := p.isLt
  have h3 := l.isLt
  pointwise [rows]
  rw [eighth]

theorem blocks_apply (k : FVec Ideal S8x8192x16x64 .f32) (n : Fin 8) (j : Fin 32) (f : Fin 1024) (c : Fin 256) :
    blocks k (ix4 n j f c)
      = k (ix4 n (⟨256 * j.val + c.val, by omega⟩ : Fin 8192) (⟨f.val / 64, by omega⟩ : Fin 16) (⟨f.val % 64, by omega⟩ : Fin 64)) := by
  have h1 := n.isLt
  have h2 := j.isLt
  have h3 := f.isLt
  have h4 := c.isLt
  pointwise [blocks]
  exact congrArg (fun p : Fin 8192 => k (ix4 n p (⟨f.val / 64, by omega⟩ : Fin 16) (⟨f.val % 64, by omega⟩ : Fin 64)))
    (Fin.ext (by show j.val * 256 + c.val = 256 * j.val + c.val; omega))

variable (m : (ℓ : Loc nD τ sig) → Buf (Elt Ideal) ℓ)

/-- The arguments: queries, keys, values and biases. -/
abbrev argQ (c : Dev nD) : FVec Ideal S8x8192x16x64 .f32 := m ((c : Thread nD τ).loc main_arg0)
abbrev argK (c : Dev nD) : FVec Ideal S8x8192x16x64 .f32 := m ((c : Thread nD τ).loc main_arg1)
abbrev argV (c : Dev nD) : FVec Ideal S8x8192x16x64 .f32 := m ((c : Thread nD τ).loc main_arg2)
abbrev argB (c : Dev nD) : FVec Ideal S16 .f32 := m ((c : Thread nD τ).loc main_arg3)

/-- A grid point's sequence, its half of the heads and its block of queries. -/
def seqOf (t : grid0.Coords) : Fin 8 := ⟨(t 0).val, (t 0).isLt⟩
def halfOf (t : grid0.Coords) : Fin 2 := ⟨(t 1).val, (t 1).isLt⟩
def rowOf (t : grid0.Coords) : Fin 32 := ⟨(t 2).val, (t 2).isLt⟩

theorem V_main_v3 (c : Dev nD) : V m c main_v3 = rows (argQ m c) := by
  unfold_abbrev_sides
  after_results
  try rfl

theorem V_main_v6 (c : Dev nD) : V m c main_v6 = blocks (argK m c) := by
  unfold_abbrev_sides
  after_results
  try rfl

theorem V_main_v9 (c : Dev nD) : V m c main_v9 = blocks (argV m c) := by
  unfold_abbrev_sides
  after_results
  try rfl

/-- The block of positions a grid point's queries are in, among all the sequences'. -/
theorem word_row (b : Fin 8) (i : Fin 32) :
    (Scalar.addi (Scalar.muli (BitVec.ofNat 32 b.val) 32#32) (BitVec.ofNat 32 i.val)).toNat = 32 * b.val + i.val := by
  revert b i
  decide +kernel

theorem word_small (n : ℕ) (h : n < 2 ^ 32) : (BitVec.ofNat 32 n).toNat = n := by
  rw [BitVec.toNat_ofNat]
  exact Nat.mod_eq_of_lt h

/-- Where the windows' blocks start. -/
theorem map0 (t : Fin cfg0.N) : win0_0.index t (0 : Fin 1) = 0 := rfl

theorem map1 (t : Fin cfg0.N) : win0_1.index t (0 : Fin 2) = 32 * (seqOf (grid0.coords t)).val + (rowOf (grid0.coords t)).val
    ∧ win0_1.index t (1 : Fin 2) = (halfOf (grid0.coords t)).val :=
  ⟨word_row (seqOf (grid0.coords t)) (rowOf (grid0.coords t)), word_small _ (Nat.lt_trans (halfOf (grid0.coords t)).isLt (by decide))⟩

theorem map4 (t : Fin cfg0.N) : win0_4.index t (0 : Fin 2) = 32 * (seqOf (grid0.coords t)).val + (rowOf (grid0.coords t)).val
    ∧ win0_4.index t (1 : Fin 2) = (halfOf (grid0.coords t)).val :=
  ⟨word_row (seqOf (grid0.coords t)) (rowOf (grid0.coords t)), word_small _ (Nat.lt_trans (halfOf (grid0.coords t)).isLt (by decide))⟩

theorem map2 (t : Fin cfg0.N) : win0_2.index t (0 : Fin 4) = (seqOf (grid0.coords t)).val ∧ win0_2.index t (1 : Fin 4) = 0
    ∧ win0_2.index t (2 : Fin 4) = (halfOf (grid0.coords t)).val ∧ win0_2.index t (3 : Fin 4) = 0 :=
  ⟨word_small _ (Nat.lt_trans (seqOf (grid0.coords t)).isLt (by decide)), rfl,
    word_small _ (Nat.lt_trans (halfOf (grid0.coords t)).isLt (by decide)), rfl⟩

theorem map3 (t : Fin cfg0.N) : win0_3.index t (0 : Fin 4) = (seqOf (grid0.coords t)).val ∧ win0_3.index t (1 : Fin 4) = 0
    ∧ win0_3.index t (2 : Fin 4) = (halfOf (grid0.coords t)).val ∧ win0_3.index t (3 : Fin 4) = 0 :=
  ⟨word_small _ (Nat.lt_trans (seqOf (grid0.coords t)).isLt (by decide)), rfl,
    word_small _ (Nat.lt_trans (halfOf (grid0.coords t)).isLt (by decide)), rfl⟩

/-- The biases' window is the whole array. -/
theorem iblk0_apply (c : Dev nD) (t : Fin cfg0.N) (h : Fin 16) :
    (iblk m c 0 t : FVec Ideal S16 .f32) (ix1 h) = argB m c (ix1 h) := by
  have e0 := map0 t
  rw [show argB m c = V m c main_arg3 from (V_main_arg3 m c).symm]
  show V m c main_arg3 (((cfg0.win 0).blk t).view.emb (ix1 h)) = _
  congr 1
  funext a
  apply Fin.ext
  match a with
  | ⟨0, _⟩ => show win0_0.index t (0 : Fin 1) * 16 + 1 * h.val = h.val; omega

/-- The queries' window. -/
theorem iblk1_apply (c : Dev nD) (t : Fin cfg0.N) (r : Fin 256) (l : Fin 512) :
    (iblk m c 1 t : FVec Ideal S256x512 .bf16) (ix2 r l) = argQ m c
      (ix4 (seqOf (grid0.coords t)) (⟨256 * (rowOf (grid0.coords t)).val + r.val, by omega⟩ : Fin 8192)
        (⟨8 * (halfOf (grid0.coords t)).val + l.val / 64, by omega⟩ : Fin 16) (⟨l.val % 64, by omega⟩ : Fin 64)) * (((1 / 8 : ℝ)) : EReal) := by
  have hb : (seqOf (grid0.coords t)).val < 8 := (seqOf (grid0.coords t)).isLt
  have hi : (rowOf (grid0.coords t)).val < 32 := (rowOf (grid0.coords t)).isLt
  have hg : (halfOf (grid0.coords t)).val < 2 := (halfOf (grid0.coords t)).isLt
  have hr := r.isLt
  have hl := l.isLt
  obtain ⟨e0, e1⟩ := map1 t
  have key : (((cfg0.win 1).blk t).view.emb (ix2 r l) : S65536x1024.Idx)
      = ix2 (⟨8192 * (seqOf (grid0.coords t)).val + (256 * (rowOf (grid0.coords t)).val + r.val), by omega⟩ : Fin 65536)
          (⟨512 * (halfOf (grid0.coords t)).val + l.val, by omega⟩ : Fin 1024) := by
    funext a
    apply Fin.ext
    match a with
    | ⟨0, _⟩ => show win0_1.index t (0 : Fin 2) * 256 + 1 * r.val = 8192 * (seqOf (grid0.coords t)).val + (256 * (rowOf (grid0.coords t)).val + r.val); omega
    | ⟨1, _⟩ => show win0_1.index t (1 : Fin 2) * 512 + 1 * l.val = 512 * (halfOf (grid0.coords t)).val + l.val; omega
  show V m c main_v3 (((cfg0.win 1).blk t).view.emb (ix2 r l)) = _
  rw [key, V_main_v3]
  refine (rows_apply _ (seqOf (grid0.coords t)) (⟨256 * (rowOf (grid0.coords t)).val + r.val, by omega⟩ : Fin 8192) _).trans ?_
  congr 3
  · exact Fin.ext (by show (512 * (halfOf (grid0.coords t)).val + l.val) / 64 = _; dsimp only; omega)
  · exact Fin.ext (by show (512 * (halfOf (grid0.coords t)).val + l.val) % 64 = _; dsimp only; omega)

/-- The keys' window. -/
theorem iblk2_apply (c : Dev nD) (t : Fin cfg0.N) (j : Fin 32) (f : Fin 512) (e : Fin 256) :
    (iblk m c 2 t : FVec Ideal S1x32x512x256 .bf16) (ix4 (0 : Fin 1) j f e) = argK m c
      (ix4 (seqOf (grid0.coords t)) (⟨256 * j.val + e.val, by omega⟩ : Fin 8192)
        (⟨8 * (halfOf (grid0.coords t)).val + f.val / 64, by omega⟩ : Fin 16) (⟨f.val % 64, by omega⟩ : Fin 64)) := by
  have hg : (halfOf (grid0.coords t)).val < 2 := (halfOf (grid0.coords t)).isLt
  have hf := f.isLt
  obtain ⟨e0, e1, e2, e3⟩ := map2 t
  have key : (((cfg0.win 2).blk t).view.emb (ix4 (0 : Fin 1) j f e) : S8x32x1024x256.Idx)
      = ix4 (seqOf (grid0.coords t)) j (⟨512 * (halfOf (grid0.coords t)).val + f.val, by omega⟩ : Fin 1024) e := by
    funext a
    apply Fin.ext
    match a with
    | ⟨0, _⟩ => show win0_2.index t (0 : Fin 4) * 1 + 1 * 0 = (seqOf (grid0.coords t)).val; omega
    | ⟨1, _⟩ => show win0_2.index t (1 : Fin 4) * 32 + 1 * j.val = j.val; omega
    | ⟨2, _⟩ => show win0_2.index t (2 : Fin 4) * 512 + 1 * f.val = 512 * (halfOf (grid0.coords t)).val + f.val; omega
    | ⟨3, _⟩ => show win0_2.index t (3 : Fin 4) * 256 + 1 * e.val = e.val; omega
  show V m c main_v6 (((cfg0.win 2).blk t).view.emb (ix4 (0 : Fin 1) j f e)) = _
  rw [key, V_main_v6, blocks_apply]
  congr 2
  · exact Fin.ext (by show (512 * (halfOf (grid0.coords t)).val + f.val) / 64 = _; dsimp only; omega)
  · exact Fin.ext (by show (512 * (halfOf (grid0.coords t)).val + f.val) % 64 = _; dsimp only; omega)

/-- The values' window. -/
theorem iblk3_apply (c : Dev nD) (t : Fin cfg0.N) (j : Fin 32) (f : Fin 512) (e : Fin 256) :
    (iblk m c 3 t : FVec Ideal S1x32x512x256 .bf16) (ix4 (0 : Fin 1) j f e) = argV m c
      (ix4 (seqOf (grid0.coords t)) (⟨256 * j.val + e.val, by omega⟩ : Fin 8192)
        (⟨8 * (halfOf (grid0.coords t)).val + f.val / 64, by omega⟩ : Fin 16) (⟨f.val % 64, by omega⟩ : Fin 64)) := by
  have hg : (halfOf (grid0.coords t)).val < 2 := (halfOf (grid0.coords t)).isLt
  have hf := f.isLt
  obtain ⟨e0, e1, e2, e3⟩ := map3 t
  have key : (((cfg0.win 3).blk t).view.emb (ix4 (0 : Fin 1) j f e) : S8x32x1024x256.Idx)
      = ix4 (seqOf (grid0.coords t)) j (⟨512 * (halfOf (grid0.coords t)).val + f.val, by omega⟩ : Fin 1024) e := by
    funext a
    apply Fin.ext
    match a with
    | ⟨0, _⟩ => show win0_3.index t (0 : Fin 4) * 1 + 1 * 0 = (seqOf (grid0.coords t)).val; omega
    | ⟨1, _⟩ => show win0_3.index t (1 : Fin 4) * 32 + 1 * j.val = j.val; omega
    | ⟨2, _⟩ => show win0_3.index t (2 : Fin 4) * 512 + 1 * f.val = 512 * (halfOf (grid0.coords t)).val + f.val; omega
    | ⟨3, _⟩ => show win0_3.index t (3 : Fin 4) * 256 + 1 * e.val = e.val; omega
  show V m c main_v9 (((cfg0.win 3).blk t).view.emb (ix4 (0 : Fin 1) j f e)) = _
  rw [key, V_main_v9, blocks_apply]
  congr 2
  · exact Fin.ext (by show (512 * (halfOf (grid0.coords t)).val + f.val) / 64 = _; dsimp only; omega)
  · exact Fin.ext (by show (512 * (halfOf (grid0.coords t)).val + f.val) % 64 = _; dsimp only; omega)

end Cert.KernelIdeal.Value

end
-- ==== Proof.OutA.lean ====
/-
  What the attention body leaves in its output block: the lanes of the running output after the diagonal's masked
  block and all the blocks below it.
-/
module

public import proofs.«01_k».proof.Proof.Final

@[expose] public section

set_option maxRecDepth 16384

noncomputable section

namespace Cert.KernelIdeal.Value

open Cert.KernelIdeal Cert.KernelIdeal.Gen Idealize.ShloMosaic Idealize.ShloMosaic.TcCoe

variable {F : FTy → Type} [FloatOps F] [Named F]
variable {a5 a6 : Memref sig .tc .vmem S1x32x512x256 .bf16} {a8 a9 : Memref sig .tc .vmem S4x512x128 .f32} {a10 : Memref sig .tc .vmem S128x256 .bf16}

set_option maxHeartbeats 4000000 in
/-- The body's output block. -/
theorem out_A (c : Dev nD) (i : grid0.Coords) a3 h3 a4 h4 a5 h5 a6 h6 a7 h7 a8 h8 a9 h9 a10 h10 x0 x1 x2 x3 :
    out0_A_4 (F := F) c i a3 h3 a4 h4 a5 h5 a6 h6 a7 h7 a8 h8 a9 h9 a10 h10 x0 x1 x2 x3 = View.canon (outPieces (last i x0 x1 x2 x3).o) := by
  unfold out0_A_4
  rw [View.read_writes_eq_canon _ _ _ (cover0_A_4 c i a3 h3 a4 h4 a5 h5 a6 h6 a7 h7 a8 h8 a9 h9 a10 h10 x0 x1 x2 x3)]
  unfold kernelRun0_A
  dsimp only
  sl_unfold_words
  have key : ∀ (X10 : a10.view.ty.Contents (Elt F)) (L8 L9), a10.view.read (Elt F) X10 = k0_pay273 →
      stOf (a8.view.writes (Elt F) a8.view.junk L8) (a9.view.writes (Elt F) a9.view.junk L9)
        = diag i (a3.view.read (Elt F) (h3.unread x0)) (a4.view.read (Elt F) (h4.unread x1)) (kv0 i (a5.view.read (Elt F) (h5.unread x2)) (a6.view.read (Elt F) (h6.unread x3))) →
      down k0_pay271 (onesLd X10) (qs i (a3.view.read (Elt F) (h3.unread x0)) (a4.view.read (Elt F) (h4.unread x1)))
          (a5.view.read (Elt F) (h5.unread x2)) (a6.view.read (Elt F) (h6.unread x3)) i
          (stOf (a8.view.writes (Elt F) a8.view.junk L8) (a9.view.writes (Elt F) a9.view.junk L9)) (i 2).val = last i x0 x1 x2 x3 := by
    intro X10 L8 L9 e10 es
    unfold onesLd
    rw [es, kv0_eq, e10, View.ld_unit_zero (S := S128x256) (by funext a; fin_cases a <;> rfl)]
    simp only [h3.read_unread, h4.read_unread, h5.read_unread, h6.read_unread]
    rfl
  simp only [pay2_eq, pay1_eq, pay275_eq, pay277_eq, pay279_eq]
  rw [load3, load2, load1, load0]
  refine congrArg (fun s : St F => View.canon (outPieces s.o)) (key _ _ _ ?_ ?_)
  · rw [View.read_writes_eq_canon, View.canon_unit_zero (S := S128x256) (by funext a; fin_cases a <;> rfl)]
    intro y
    refine ⟨_, List.mem_singleton_self _, ?_⟩
    rw [Rect.mem_set_unit]
    intro a
    refine ⟨?_, ?_⟩
    · match a with
      | 0 => exact Nat.zero_le _
      | 1 => exact Nat.zero_le _
    · match a with
      | 0 => show (y 0).val < 0 + 128; have h : (y 0).val < 128 := (y 0).isLt; omega
      | 1 => show (y 1).val < 0 + 256; have h : (y 1).val < 256 := (y 1).isLt; omega
  · simp (disch := decide) only [View.readCov_cons_toLoadRect, readCov_miss, readCov_zero, cat2_eq]
    refine Eq.trans ?_ (stOf_writes a8.view.junk a9.view.junk (diag i (a3.view.read (Elt F) (h3.unread x0)) (a4.view.read (Elt F) (h4.unread x1)) (kv0 i (a5.view.read (Elt F) (h5.unread x2)) (a6.view.read (Elt F) (h6.unread x3))))
      [⟨Rect.unit (s := S4x512x128) ![0, 0, 0] S4x512x128.size inb_S4x512x128_S4x512x128_0_0_0, k0_pay281⟩]
      [⟨Rect.unit (s := S4x512x128) ![0, 0, 0] S4x512x128.size inb_S4x512x128_S4x512x128_0_0_0, k0_pay281⟩])
    refine congrArg₂ stOf (congrArg (a8.view.writes (Elt F) a8.view.junk) ?_) (congrArg (a9.view.writes (Elt F) a9.view.junk) ?_)
    · rfl
    · rfl

end Cert.KernelIdeal.Value

end
-- ==== Proof.Array.lean ====
/-
  The call's result array over the extended reals, for finite queries, keys and biases: at every element the weighted
  sum of the values of the keys before the query.
-/
module

public import proofs.«01_k».proof.Proof.Windows
public import proofs.«01_k».proof.Proof.OutA

@[expose] public section

set_option maxRecDepth 16384

noncomputable section

namespace Cert.KernelIdeal.Value

open Cert.KernelIdeal Cert.KernelIdeal.Gen Idealize.ShloMosaic Idealize.ShloMosaic.TcCoe Cert.Stick

/-- A head of a group: two heads to a group, four groups to a half. -/
def headOf (t : grid0.Coords) (g : Fin 4) (a : ℕ) (h : a < 2) : Fin 16 :=
  ⟨8 * (halfOf t).val + 2 * g.val + a, by omega⟩

/-- The scores of a group's rows. -/
def zeta (q k : Heads) (b : PerHead) (t : grid0.Coords) (g : Fin 4) (r : Fin 512) : ℕ → ℝ :=
  score q k b (seqOf t) (headOf t g (r.val / 256) (by omega)) (⟨256 * (rowOf t).val + r.val % 256, by omega⟩ : Fin 8192)

/-- The values of a group's lanes. -/
def nu (v : Heads) (t : grid0.Coords) (g : Fin 4) (l : Fin 128) : ℕ → EReal :=
  vals v (seqOf t) (headOf t g (l.val / 64) (by omega)) (⟨l.val % 64, by omega⟩ : Fin 64)

/-- Which biases each group loads. -/
theorem off_bias : ∀ (i : grid0.Coords) (g : Fin 4),
    k0_off1 i (BitVec.ofNat 32 g.val) = ![8 * (i 1).val + 2 * g.val + 0] ∧ k0_off2 i (BitVec.ofNat 32 g.val) = ![8 * (i 1).val + 2 * g.val + 1] := by
  decide +kernel

/-- A load of one bias. -/
theorem biasAt_eq (x0 : Vec Ideal S16 .f32) {off : Fin 1 → ℕ} (n : Fin 16) (h : off = ![n.val]) (inb : ∀ a, off a + S1.size a ≤ S16.size a) :
    biasAt x0 inb = x0 (ix1 n) := by
  subst h
  show x0 _ = x0 _
  congr 1
  funext a
  apply Fin.ext
  match a with
  | ⟨0, _⟩ => rfl

/-- A load of a group's queries. -/
theorem ld_q (x1 : Vec Ideal S256x512 .bf16) (n : ℕ) (hn : n ≤ 384) (inb) (r : Fin 256) (l : Fin 128) :
    View.ld x1 (Rect.unit (s := S256x512) ![0, n] S256x128.size inb) (ix2 r l) = x1 (ix2 r (⟨n + l.val, by omega⟩ : Fin 512)) := by
  unfold View.ld
  congr 1
  funext a
  apply Fin.ext
  match a with
  | ⟨0, _⟩ => show 0 + 1 * r.val = r.val; omega
  | ⟨1, _⟩ => show n + 1 * l.val = n + l.val; omega

/-- What a point's windows hold. -/
structure Holds (q k v : Heads) (b : PerHead) (t : grid0.Coords) (x0 : Vec Ideal S16 .f32) (x1 : Vec Ideal S256x512 .bf16)
    (x2 x3 : Vec Ideal S1x32x512x256 .bf16) : Prop where
  h0 : ∀ h, x0 (ix1 h) = b (ix1 h)
  h1 : ∀ (g : Fin 4) (r : Fin 256) (a : ℕ) (ha : a < 2) (d : Fin 64), x1 (ix2 r (⟨128 * g.val + (64 * a + d.val), by omega⟩ : Fin 512))
      = q (ix4 (seqOf t) (⟨256 * (rowOf t).val + r.val, by omega⟩ : Fin 8192) (headOf t g a ha) d) * (((1 / 8 : ℝ)) : EReal)
  h2 : ∀ (j : Fin 32) (g : Fin 4) (a : ℕ) (ha : a < 2) (d : Fin 64) (e : Fin 256), x2 (ix4 (0 : Fin 1) j (⟨128 * g.val + (64 * a + d.val), by omega⟩ : Fin 512) e)
      = k (ix4 (seqOf t) (⟨256 * j.val + e.val, by omega⟩ : Fin 8192) (headOf t g a ha) d)
  h3 : ∀ (j : Fin 32) (g : Fin 4) (a : ℕ) (ha : a < 2) (d : Fin 64) (e : Fin 256), x3 (ix4 (0 : Fin 1) j (⟨128 * g.val + (64 * a + d.val), by omega⟩ : Fin 512) e)
      = v (ix4 (seqOf t) (⟨256 * j.val + e.val, by omega⟩ : Fin 8192) (headOf t g a ha) d)

variable {q k v : Heads} {b : PerHead} {t : grid0.Coords} {x0 : Vec Ideal S16 .f32} {x1 : Vec Ideal S256x512 .bf16} {x2 x3 : Vec Ideal S1x32x512x256 .bf16}

/-- A group's scores against block `j`. -/
theorem z_of (hx : Holds q k v b t x0 x1 x2 x3) (hq : ∀ i, ((q i).toReal : EReal) = q i) (hk : ∀ i, ((k i).toReal : EReal) = k i)
    (hb : ∀ i, ((b i).toReal : EReal) = b i) (j : Fin 32) (g : Fin 4) (xq : Vec Ideal S256x128 .bf16) (β β' : Elt Ideal .f32)
    (hxq : ∀ (r : Fin 256) (l : Fin 128), xq (ix2 r l) = x1 (ix2 r (⟨128 * g.val + l.val, by omega⟩ : Fin 512)))
    (hβ : β = b (ix1 (headOf t g 0 (by omega)))) (hβ' : β' = b (ix1 (headOf t g 1 (by omega)))) (r : Fin 512) (c : Fin 256) :
    zB (qB xq β β') (blkAt x2 j g) (k0_pay273 (F := Ideal)) (ix2 r c) = ((zeta q k b t g r (256 * j.val + c.val) : ℝ) : EReal) := by
  have hr := r.isLt
  have hsum : ∀ d : Fin 64, xq (ix2 (⟨r.val % 256, by omega⟩ : Fin 256) (⟨64 * (r.val / 256) + d.val, by omega⟩ : Fin 128))
        * blkAt x2 j g (ix4 (0 : Fin 1) (0 : Fin 1) (⟨64 * (r.val / 256) + d.val, by omega⟩ : Fin 128) c)
      = (((q (ix4 (seqOf t) (⟨256 * (rowOf t).val + r.val % 256, by omega⟩ : Fin 8192) (headOf t g (r.val / 256) (by omega)) d)).toReal
          * (k (ix4 (seqOf t) (⟨256 * j.val + c.val, by omega⟩ : Fin 8192) (headOf t g (r.val / 256) (by omega)) d)).toReal * (1 / 8) : ℝ) : EReal) := fun d => by
    rw [hxq]
    have e1 := hx.h1 g (⟨r.val % 256, by omega⟩ : Fin 256) (r.val / 256) (by omega) d
    have e2 := hx.h2 j g (r.val / 256) (by omega) d c
    have e3 : blkAt x2 j g (ix4 (0 : Fin 1) (0 : Fin 1) (⟨64 * (r.val / 256) + d.val, by omega⟩ : Fin 128) c)
        = x2 (ix4 (0 : Fin 1) j (⟨128 * g.val + (64 * (r.val / 256) + d.val), by omega⟩ : Fin 512) c) := rfl
    rw [e3, e2]
    refine (congrArg (· * _) e1).trans ?_
    dsimp only
    rw [EReal.coe_mul, EReal.coe_mul, hq, hk]
    exact mul_right_comm _ _ _
  have hrow : rowBias β β' r = (((b (ix1 (headOf t g (r.val / 256) (by omega)))).toReal : ℝ) : EReal) := by
    rw [hb]
    unfold rowBias
    split
    · rename_i h
      rw [hβ]
      exact congrArg (fun n => b (ix1 n)) (Fin.ext (by unfold headOf; dsimp only; omega))
    · rename_i h
      rw [hβ']
      exact congrArg (fun n => b (ix1 n)) (Fin.ext (by unfold headOf; dsimp only; omega))
  rw [zB_apply _ _ _ (by rw [hβ]; exact hb _) (by rw [hβ']; exact hb _), hrow, Finset.sum_congr rfl fun d _ => hsum d, ← coe_sum, ← EReal.coe_add,
    ← Finset.sum_mul]
  unfold zeta score
  rw [dif_pos (show 256 * j.val + c.val < 8192 by omega)]

/-- Block `j` as the sweep wants it. -/
theorem blk_of (hx : Holds q k v b t x0 x1 x2 x3) (hq : ∀ i, ((q i).toReal : EReal) = q i) (hk : ∀ i, ((k i).toReal : EReal) = k i)
    (hb : ∀ i, ((b i).toReal : EReal) = b i) (j : Fin 32) : Blk (zeta q k b t) (nu v t) j.val (qs t x0 x1) (kvAt x2 x3 j) where
  z g r c := by
    have hβ : ∀ g : Fin 4, biasAt x0 (k0_off1_inb t g) = b (ix1 (headOf t g 0 (by omega))) := fun g =>
      (biasAt_eq x0 (headOf t g 0 (by omega)) (off_bias t g).1 _).trans (hx.h0 _)
    have hβ' : ∀ g : Fin 4, biasAt x0 (k0_off2_inb t g) = b (ix1 (headOf t g 1 (by omega))) := fun g =>
      (biasAt_eq x0 (headOf t g 1 (by omega)) (off_bias t g).2 _).trans (hx.h0 _)
    match g with
    | 0 => exact z_of hx hq hk hb j 0 _ _ _ (fun r l => ld_q x1 0 (by omega) _ r l) (hβ 0) (hβ' 0) r c
    | 1 => exact z_of hx hq hk hb j 1 _ _ _ (fun r l => ld_q x1 128 (by omega) _ r l) (hβ 1) (hβ' 1) r c
    | 2 => exact z_of hx hq hk hb j 2 _ _ _ (fun r l => ld_q x1 256 (by omega) _ r l) (hβ 2) (hβ' 2) r c
    | 3 => exact z_of hx hq hk hb j 3 _ _ _ (fun r l => ld_q x1 384 (by omega) _ r l) (hβ 3) (hβ' 3) r c
  v g l c := by
    have hl := l.isLt
    have e := hx.h3 j g (l.val / 64) (by omega) (⟨l.val % 64, by omega⟩ : Fin 64) c
    unfold nu vals
    rw [dif_pos (show 256 * j.val + c.val < 8192 by omega), ← e]
    show x3 _ = x3 _
    refine congrArg (fun f : Fin 512 => x3 (ix4 (0 : Fin 1) j f c)) (Fin.ext ?_)
    show 128 * g.val + l.val = 128 * g.val + (64 * (l.val / 64) + l.val % 64)
    omega

/-- The specification at an element named by its sequence, position, head and lane. -/
theorem out_at (q k v : Heads) (b : PerHead) (n : Fin 8) (p : Fin 8192) (h : Fin 16) (d : Fin 64) (R : Fin 65536) (L : Fin 1024)
    (hR : R.val = 8192 * n.val + p.val) (hL : L.val = 64 * h.val + d.val) :
    out q k v b R L = part (score q k b n h p) p.val (vals v n h d) 0 8192 := by
  unfold out
  rw [show (⟨R.val / 8192, by omega⟩ : Fin 8) = n from Fin.ext (by dsimp only; omega),
    show (⟨L.val / 64, by omega⟩ : Fin 16) = h from Fin.ext (by dsimp only; omega),
    show (⟨R.val % 8192, by omega⟩ : Fin 8192) = p from Fin.ext (by dsimp only; omega),
    show (⟨L.val % 64, by omega⟩ : Fin 64) = d from Fin.ext (by dsimp only; omega),
    show R.val % 8192 = p.val by omega]

/-- A group's part of the block a point writes. -/
theorem fin_of (hx : Holds q k v b t x0 x1 x2 x3) (hq : ∀ i, ((q i).toReal : EReal) = q i) (hk : ∀ i, ((k i).toReal : EReal) = k i)
    (hb : ∀ i, ((b i).toReal : EReal) = b i) (g : Fin 4) (r : Fin 256) (l : Fin 128) :
    finB ((last t x0 x1 x2 x3).o g) (ix2 r l)
      = out q k v b (⟨8192 * (seqOf t).val + (256 * (rowOf t).val + r.val), by omega⟩ : Fin 65536)
          (⟨512 * (halfOf t).val + (128 * g.val + l.val), by omega⟩ : Fin 1024) := by
  have hr := r.isLt
  have hl := l.isLt
  have hi := (rowOf t).isLt
  have hh : ((rowOf t).val : ℕ) = (t 2).val := rfl
  rw [finB_apply, last_o (ζ := zeta q k b t) (ν := nu v t) t x0 x1 x2 x3 (blk_of hx hq hk hb),
    out_at q k v b (seqOf t) (⟨256 * (rowOf t).val + r.val, by omega⟩ : Fin 8192) (headOf t g (l.val / 64) (by omega)) (⟨l.val % 64, by omega⟩ : Fin 64) _ _ rfl
      (by unfold headOf; dsimp only; omega)]
  have e1 : pos (t 2).val (⟨256 * (l.val / 64) + r.val, by omega⟩ : Fin 512) = 256 * (rowOf t).val + r.val := by
    unfold pos
    dsimp only
    omega
  have e2 : zeta q k b t g (⟨256 * (l.val / 64) + r.val, by omega⟩ : Fin 512)
      = score q k b (seqOf t) (headOf t g (l.val / 64) (by omega)) (⟨256 * (rowOf t).val + r.val, by omega⟩ : Fin 8192) := by
    unfold zeta
    rw [show headOf t g ((⟨256 * (l.val / 64) + r.val, by omega⟩ : Fin 512).val / 256) (by dsimp only; omega) = headOf t g (l.val / 64) (by omega) from
      Fin.ext (by unfold headOf; dsimp only; omega),
      show (⟨256 * (rowOf t).val + (⟨256 * (l.val / 64) + r.val, by omega⟩ : Fin 512).val % 256, by omega⟩ : Fin 8192) = ⟨256 * (rowOf t).val + r.val, by omega⟩ from
      Fin.ext (by dsimp only; omega)]
  rw [e1, e2, ← part_add _ _ _ (Nat.zero_le (256 * ((t 2).val + 1))) (show 256 * ((t 2).val + 1) ≤ 8192 by omega),
    part_past (a := 256 * ((t 2).val + 1)) (b := 8192) _ _ _ (by show 256 * (rowOf t).val + r.val ≤ _; omega), add_zero]
  rfl

/-- An index of a two-axis array is its two coordinates. -/
theorem eta2 {n₀ n₁ : ℕ} (x : (⟨2, ![n₀, n₁]⟩ : Shape).Idx) : x = ix2 (x 0) (x 1) := by
  funext a
  match a with
  | ⟨0, _⟩ => rfl
  | ⟨1, _⟩ => rfl

/-- The block a point writes. -/
theorem point_of (hx : Holds q k v b t x0 x1 x2 x3) (hq : ∀ i, ((q i).toReal : EReal) = q i) (hk : ∀ i, ((k i).toReal : EReal) = k i)
    (hb : ∀ i, ((b i).toReal : EReal) = b i) (r : Fin 256) (l : Fin 512) :
    View.canon (outPieces (last t x0 x1 x2 x3).o) (ix2 r l)
      = out q k v b (⟨8192 * (seqOf t).val + (256 * (rowOf t).val + r.val), by omega⟩ : Fin 65536)
          (⟨512 * (halfOf t).val + l.val, by omega⟩ : Fin 1024) := by
  let G : S256x512.Idx → EReal := fun y => out q k v b
    (⟨8192 * (seqOf t).val + (256 * (rowOf t).val + (y 0).val), by have h : (y 0).val < 256 := (y 0).isLt; omega⟩ : Fin 65536)
    (⟨512 * (halfOf t).val + (y 1).val, by have h : (y 1).val < 512 := (y 1).isLt; omega⟩ : Fin 1024)
  have piece : ∀ (g : Fin 4) (n : ℕ) (hn : n = 128 * g.val) (inb) (x : S256x128.Idx),
      finB ((last t x0 x1 x2 x3).o g) x = G ((Rect.unit (s := S256x512) ![0, n] S256x128.size inb).emb x) := fun g n hn inb x => by
    subst hn
    rw [eta2 x]
    refine (fin_of hx hq hk hb g (x 0) (x 1)).trans ?_
    show out q k v b _ _ = out q k v b _ _
    congr 1
    · apply Fin.ext
      show _ = 8192 * (seqOf t).val + (256 * (rowOf t).val + (0 + 1 * (x 0).val))
      dsimp only
      omega
    · apply Fin.ext
      show _ = 512 * (halfOf t).val + (128 * g.val + 1 * (x 1).val)
      dsimp only
      omega
  refine (View.canon_apply_of_pieces (Val := Elt Ideal) (S := S256x512) (e := .bf16) G _ ?_ (ix2 r l) ?_).trans rfl
  · intro p hp
    simp only [List.mem_cons, List.not_mem_nil, or_false] at hp
    obtain rfl | rfl | rfl | rfl := hp
    · exact piece 3 384 rfl inb_S256x512_S256x128_0_384
    · exact piece 2 256 rfl inb_S256x512_S256x128_0_256
    · exact piece 1 128 rfl inb_S256x512_S256x128_0_128
    · exact piece 0 0 rfl inb_S256x512_S256x128_0_0
  · have hr := r.isLt
    have hl := l.isLt
    have inside : ∀ (n : ℕ) (inb), n ≤ l.val → l.val < n + 128 → ix2 r l ∈ (Rect.unit (s := S256x512) ![0, n] S256x128.size inb).set := fun n inb h h' => by
      rw [Rect.mem_set_unit]
      intro a
      match a with
      | ⟨0, _⟩ => exact ⟨Nat.zero_le _, by show r.val < 0 + 256; omega⟩
      | ⟨1, _⟩ => exact ⟨h, h'⟩
    by_cases h3 : 384 ≤ l.val
    · exact ⟨_, .head _, inside 384 inb_S256x512_S256x128_0_384 h3 (by omega)⟩
    by_cases h2 : 256 ≤ l.val
    · exact ⟨_, .tail _ (.head _), inside 256 inb_S256x512_S256x128_0_256 h2 (by omega)⟩
    by_cases h1 : 128 ≤ l.val
    · exact ⟨_, .tail _ (.tail _ (.head _)), inside 128 inb_S256x512_S256x128_0_128 h1 (by omega)⟩
    · exact ⟨_, .tail _ (.tail _ (.tail _ (.head _))), inside 0 inb_S256x512_S256x128_0_0 (Nat.zero_le _) (by omega)⟩

variable (m : (ℓ : Loc nD τ sig) → Buf (Elt Ideal) ℓ)

/-- The windows of a grid point hold the arguments' blocks. -/
theorem holds (c : Dev nD) (t : Fin cfg0.N) :
    Holds (argQ m c) (argK m c) (argV m c) (argB m c) (grid0.coords t) (iblk m c 0 t) (iblk m c 1 t) (iblk m c 2 t) (iblk m c 3 t) where
  h0 h := iblk0_apply m c t h
  h1 g r a ha d := by
    have hd := d.isLt
    refine (iblk1_apply m c t r (⟨128 * g.val + (64 * a + d.val), by omega⟩ : Fin 512)).trans ?_
    congr 3
    · exact Fin.ext (by unfold headOf; dsimp only; omega)
    · exact Fin.ext (by dsimp only; omega)
  h2 j g a ha d e := by
    have hd := d.isLt
    refine (iblk2_apply m c t j (⟨128 * g.val + (64 * a + d.val), by omega⟩ : Fin 512) e).trans ?_
    congr 2
    · exact Fin.ext (by unfold headOf; dsimp only; omega)
    · exact Fin.ext (by dsimp only; omega)
  h3 j g a ha d e := by
    have hd := d.isLt
    refine (iblk3_apply m c t j (⟨128 * g.val + (64 * a + d.val), by omega⟩ : Fin 512) e).trans ?_
    congr 2
    · exact Fin.ext (by unfold headOf; dsimp only; omega)
    · exact Fin.ext (by dsimp only; omega)

/-- The specification as an array. -/
def whole (q k v : Heads) (b : PerHead) : FVec Ideal S65536x1024 .bf16 := fun y => out q k v b (y 0) (y 1)

/-- Where the output's block lies. -/
theorem emb4 (t : Fin cfg0.N) (r : Fin 256) (l : Fin 512) :
    (((cfg0.win 4).blk t).view.emb (ix2 r l) : S65536x1024.Idx)
      = ix2 (⟨8192 * (seqOf (grid0.coords t)).val + (256 * (rowOf (grid0.coords t)).val + r.val), by omega⟩ : Fin 65536)
          (⟨512 * (halfOf (grid0.coords t)).val + l.val, by omega⟩ : Fin 1024) := by
  obtain ⟨e0, e1⟩ := map4 t
  funext a
  apply Fin.ext
  match a with
  | ⟨0, _⟩ => show win0_4.index t (0 : Fin 2) * 256 + 1 * r.val = 8192 * (seqOf (grid0.coords t)).val + (256 * (rowOf (grid0.coords t)).val + r.val); omega
  | ⟨1, _⟩ => show win0_4.index t (1 : Fin 2) * 512 + 1 * l.val = 512 * (halfOf (grid0.coords t)).val + l.val; omega

/-- Every grid point is one sequence, half and block of queries, and each occurs. -/
theorem points : ∀ (n : Fin 8) (h : Fin 2) (i : Fin 32), ∃ t : Fin grid0.N,
    (grid0.coords t 0).val = n.val ∧ (grid0.coords t 1).val = h.val ∧ (grid0.coords t 2).val = i.val := fun n h i =>
  have key : ∀ (n : Fin 8) (h : Fin 2) (i : Fin 32), (fun t : Fin grid0.N => (grid0.coords t 0).val = n.val ∧ (grid0.coords t 1).val = h.val ∧ (grid0.coords t 2).val = i.val)
      ⟨64 * n.val + 32 * h.val + i.val, N_0.symm ▸ (by omega)⟩ := by decide +kernel
  ⟨_, key n h i⟩

/-- What a point writes back is its block of the specification. -/
theorem flushed_eq (c : Dev nD) (hq : ∀ i, ((argQ m c i).toReal : EReal) = argQ m c i) (hk : ∀ i, ((argK m c i).toReal : EReal) = argK m c i)
    (hb : ∀ i, ((argB m c i).toReal : EReal) = argB m c i) (t : Fin cfg0.N) :
    (dats m 0 c).flushed 4 t = ((cfg0.win 4).blk t).view.read (Elt Ideal) (whole (argQ m c) (argK m c) (argV m c) (argB m c)) := by
  rw [flushed4_A, out_A]
  funext y
  show View.canon (outPieces (last (grid0.coords t) (iblk m c 0 t) (iblk m c 1 t) (iblk m c 2 t) (iblk m c 3 t)).o) (y : S256x512.Idx)
    = whole (argQ m c) (argK m c) (argV m c) (argB m c) (((cfg0.win 4).blk t).view.emb y)
  rw [eta2 (n₀ := 256) (n₁ := 512) y]
  exact (point_of (holds m c t) hq hk hb (y 0) (y 1)).trans
    (congrArg (whole (argQ m c) (argK m c) (argV m c) (argB m c)) (emb4 t (y 0) (y 1))).symm

/-- Every index is in some point's block. -/
theorem covered (y : S65536x1024.Idx) : ∃ t : Fin cfg0.N, (cfg0.win 4).flush t = true ∧ y ∈ ((cfg0.win 4).blk t).view.set := by
  have h0 : (y 0).val < 65536 := (y 0).isLt
  have h1 : (y 1).val < 1024 := (y 1).isLt
  obtain ⟨t, e0, e1, e2⟩ := points ⟨(y 0).val / 8192, by omega⟩ ⟨(y 1).val / 512, by omega⟩ ⟨(y 0).val % 8192 / 256, by omega⟩
  refine ⟨t, flush0_4 t, ?_⟩
  have h := ((cfg0.win 4).blk t).view.emb_mem_set (ix2 (⟨(y 0).val % 256, by omega⟩ : Fin 256) (⟨(y 1).val % 512, by omega⟩ : Fin 512))
  rw [emb4] at h
  have ey : y = ix2 (⟨8192 * (seqOf (grid0.coords t)).val + (256 * (rowOf (grid0.coords t)).val + (y 0).val % 256), by omega⟩ : Fin 65536)
      (⟨512 * (halfOf (grid0.coords t)).val + (y 1).val % 512, by omega⟩ : Fin 1024) := by
    have e0' : (seqOf (grid0.coords t)).val = (y 0).val / 8192 := e0
    have e1' : (halfOf (grid0.coords t)).val = (y 1).val / 512 := e1
    have e2' : (rowOf (grid0.coords t)).val = (y 0).val % 8192 / 256 := e2
    funext a
    apply Fin.ext
    match a with
    | ⟨0, _⟩ => show (y 0).val = 8192 * (seqOf (grid0.coords t)).val + (256 * (rowOf (grid0.coords t)).val + (y 0).val % 256); omega
    | ⟨1, _⟩ => show (y 1).val = 512 * (halfOf (grid0.coords t)).val + (y 1).val % 512; omega
  rw [ey]
  exact h

/-- The result array after the run. -/
theorem final (c : Dev nD) (hq : ∀ i, ((argQ m c i).toReal : EReal) = argQ m c i) (hk : ∀ i, ((argK m c i).toReal : EReal) = argK m c i)
    (hb : ∀ i, ((argB m c i).toReal : EReal) = argB m c i) :
    (dats m 0 c).arrAt 4 cfg0.N = whole (argQ m c) (argK m c) (argV m c) (argB m c) :=
  (dats m 0 c).arrAt_eq_of_cover 4 (whole (argQ m c) (argK m c) (argV m c) (argB m c)) (fun t _ => flushed_eq m c hq hk hb t) covered

end Cert.KernelIdeal.Value

end
-- ==== Proof.Algebraic.lean ====
/-
  The kernel and the reference compute the same function of finite queries, keys and biases over the extended reals.
-/
module

public import proofs.«01_k».proof.Defs
public import proofs.«01_k».proof.Proof.Gen.Kernel
public import proofs.«01_k».proof.Proof.Gen.Pre_finite
public import proofs.«01_k».proof.Proof.RefValue
public import proofs.«01_k».proof.Proof.Array

@[expose] public section

set_option maxRecDepth 16384

noncomputable section

namespace Cert.Proof

open Idealize.ShloMosaic Idealize.SL.Sem Cert.Stick

/-- Both of two bits are set when their conjunction is. -/
theorem both : ∀ a b : BitVec 1, IntOp.andi a b = 1#1 → a = 1#1 ∧ b = 1#1 := by decide

/-- Infinity, from its bits. -/
theorem infinity : Ideal.ofBits .f32 0x7F800000#32 = (⊤ : EReal) := by
  simp [Ideal.ofBits, Ideal.ieee]

/-- An extended real whose absolute value is below infinity is a real. -/
theorem finite_bit {x : EReal} (h : BitVec.ofBool (decide (FloatOps.absf (F := Ideal) (φ := .f32) x < Ideal.ofBits .f32 0x7F800000#32)) = 1#1) :
    ((x.toReal : ℝ) : EReal) = x := by
  rw [infinity, Ideal.absf_def] at h
  by_cases hx : max x (-x) < ⊤
  · exact coe_of_finite hx
  · rw [decide_eq_false hx] at h
    exact absurd h (by decide)

/-- An index of a four-axis array is its coordinates. -/
theorem eta4 {n₀ n₁ n₂ n₃ : ℕ} (x : (⟨4, ![n₀, n₁, n₂, n₃]⟩ : Shape).Idx) : x = ix4 (x 0) (x 1) (x 2) (x 3) := by
  funext a
  match a with
  | ⟨0, _⟩ => rfl
  | ⟨1, _⟩ => rfl
  | ⟨2, _⟩ => rfl
  | ⟨3, _⟩ => rfl

/-- An index of a two-axis array is its coordinates. -/
theorem eta2 {n₀ n₁ : ℕ} (x : (⟨2, ![n₀, n₁]⟩ : Shape).Idx) : x = ix2 (x 0) (x 1) := by
  funext a
  match a with
  | ⟨0, _⟩ => rfl
  | ⟨1, _⟩ => rfl

/-- An index of a one-axis array is its coordinate. -/
theorem eta1 {n₀ : ℕ} (x : (⟨1, ![n₀]⟩ : Shape).Idx) : x = ix1 (x 0) := by
  funext a
  match a with
  | ⟨0, _⟩ => rfl

/-- What the precondition says of the arguments. -/
theorem finite_of (q k v : FVec Ideal Cert.Pre_finite.S8x8192x16x64 .f32) (b : FVec Ideal Cert.Pre_finite.S16 .f32)
    (h : Cert.Pre_finite.fn (F := Ideal) q k v b = fun _ => 1#1) :
    (∀ i, ((q i).toReal : EReal) = q i) ∧ (∀ i, ((k i).toReal : EReal) = k i) ∧ (∀ i, ((b i).toReal : EReal) = b i) := by
  have key : ∀ (n : Fin 8) (p : Fin 8192) (h' : Fin 16) (d : Fin 64),
      (((q (ix4 n p h' d)).toReal : EReal) = q (ix4 n p h' d)) ∧ (((k (ix4 n p h' d)).toReal : EReal) = k (ix4 n p h' d))
        ∧ (((b (ix1 h')).toReal : EReal) = b (ix1 h')) := fun n p h' d => by
    have e := congrFun h (ix4 n p h' d)
    revert e
    pointwise [Cert.Pre_finite.fn]
    intro e
    obtain ⟨e12, e3⟩ := both _ _ e
    obtain ⟨e1, e2⟩ := both _ _ e12
    exact ⟨finite_bit e1, finite_bit e2, finite_bit e3⟩
  refine ⟨fun i => ?_, fun i => ?_, fun i => ?_⟩
  · rw [eta4 i]
    exact (key (i 0) (i 1) (i 2) (i 3)).1
  · rw [eta4 i]
    exact (key (i 0) (i 1) (i 2) (i 3)).2.1
  · rw [eta1 i]
    exact (key 0 0 (i 0) 0).2.2

/-- From equal finite arguments the kernel and the reference end with equal results. -/
theorem algebraic : Cert.algebraic_KernelIdeal_ReferenceIdeal_pre_finite := fun m g m' g' hpre hargs => by
  have fin : ∀ c, _ := fun c => finite_of _ _ _ _ (hpre c)
  refine ⟨fun c => Cert.KernelIdeal.Value.whole (Cert.KernelIdeal.Value.argQ m c) (Cert.KernelIdeal.Value.argK m c)
    (Cert.KernelIdeal.Value.argV m c) (Cert.KernelIdeal.Value.argB m c), ?_, ?_⟩
  · exact (θ_run _ _ _).mono (fun r h c => ⟨(h c).1.trans (Cert.KernelIdeal.Value.final m c (fin c).1 (fin c).2.1 (fin c).2.2), (h c).2⟩)
      (Cert.KernelIdeal.Value.run_blocks m g)
  · refine (θ_run _ _ _).mono (fun r h c => ⟨(h c).1.trans ?_, (h c).2⟩) (Cert.ReferenceIdeal.Value.run m' g')
    refine (Cert.ReferenceIdeal.Value.res_eq m' c).trans ?_
    obtain ⟨e0, e1, e2, e3⟩ := hargs c
    rw [e0, e1, e2, e3]
    funext y
    rw [eta2 (n₀ := 65536) (n₁ := 1024) y]
    exact Cert.ReferenceIdeal.Value.result_apply _ _ _ _ (fin c).1 (fin c).2.1 (fin c).2.2 (y 0) (y 1)

end Cert.Proof

end
-- ==== Proof.ProjSpec.lean ====
/-
  The projections as mathematics: the rows of the activations, normalized by their root mean square and modulated, their
  products with the columns of one wide matrix, and the ten arrays made of those products.
-/
module

public import Idealize.ShloMosaic.PureOps.Ideal
public import Idealize.ShloMosaic.Lib.IdealHost
public import Idealize.ShloMosaic.Lib.Pointwise

@[expose] public section

noncomputable section

namespace Cert.Proj

open Idealize.ShloMosaic

/-- The activations: sequence, position, feature. -/
abbrev Acts := (⟨3, ![8, 8192, 1024]⟩ : Shape).Idx → EReal

/-- A shift or a scale for each sequence. -/
abbrev Mods := (⟨2, ![8, 1024]⟩ : Shape).Idx → EReal

/-- A gain for each feature. -/
abbrev Gain := (⟨1, ![1024]⟩ : Shape).Idx → EReal

/-- The wide matrix: nine projections side by side. -/
abbrev Wide := (⟨2, ![1024, 9216]⟩ : Shape).Idx → EReal

/-- One number for each sequence, position and column of the wide matrix. -/
abbrev Lanes := Fin 8 → Fin 8192 → Fin 9216 → EReal

variable (x : Acts) (sh sc : Mods) (g : Gain) (w : Wide)

/-- One normalized and modulated feature: the feature over the root of the row's mean square plus epsilon, times its gain, times one plus the
scale, plus the shift. -/
def hid (n : Fin 8) (p : Fin 8192) (c : Fin 1024) : EReal :=
  x (ix3 n p c) * Ideal.rsqrt (Ideal.div (∑ k : Fin 1024, x (ix3 n p k) * x (ix3 n p k)) (Ideal.ofBits .f32 0x44800000#32) + Ideal.ofBits .f32 0x358637BD#32)
    * g (ix1 c) * (1 + sc (ix2 n c)) + sh (ix2 n c)

/-- A row's product with a column. -/
def lanes : Lanes := fun n p l => ∑ c : Fin 1024, hid x sh sc g n p c * w (ix2 c l)

/-- The logistic function. -/
def logi (y : EReal) : EReal := Ideal.div 1 (1 + Ideal.exp (-y))

variable (Y : Lanes)

/-- Column `l` of projection `j`, at a row counted through all sequences. -/
def at2 (j : Fin 9) (r : Fin 65536) (l : Fin 1024) : EReal :=
  Y (⟨r.val / 8192, by omega⟩ : Fin 8) (⟨r.val % 8192, by omega⟩ : Fin 8192) (⟨1024 * j.val + l.val, by omega⟩ : Fin 9216)

/-- The queries, scaled by one eighth. -/
def queries (r : Fin 65536) (l : Fin 1024) : EReal := at2 Y 0 r l * Ideal.ofBits .f32 0x3E000000#32

/-- Features by positions: the keys and the values. -/
def across (j : Fin 9) (n : Fin 8) (f : Fin 1024) (p : Fin 8192) : EReal := Y n p (⟨1024 * j.val + f.val, by omega⟩ : Fin 9216)

/-- The same in blocks of 256 positions. -/
def blocked (j : Fin 9) (n : Fin 8) (i : Fin 32) (f : Fin 1024) (e : Fin 256) : EReal :=
  across Y j n f (⟨256 * i.val + e.val, by omega⟩ : Fin 8192)

/-- A projection times its own logistic. -/
def silu (j : Fin 9) (r : Fin 65536) (l : Fin 1024) : EReal := at2 Y j r l * logi (at2 Y j r l)

/-- The fifth projection gated by the sixth. -/
def gated (r : Fin 65536) (l : Fin 1024) : EReal := at2 Y 4 r l * logi (at2 Y 5 r l)

/-- A projection's logistic. -/
def gate (j : Fin 9) (r : Fin 65536) (l : Fin 1024) : EReal := logi (at2 Y j r l)

/-- Arrays from functions of the coordinates. -/
def arr2 {a b : ℕ} (f : Fin a → Fin b → EReal) : (⟨2, ![a, b]⟩ : Shape).Idx → EReal := fun y => f (y 0) (y 1)

def arr3 {a b c : ℕ} (f : Fin a → Fin b → Fin c → EReal) : (⟨3, ![a, b, c]⟩ : Shape).Idx → EReal := fun y => f (y 0) (y 1) (y 2)

def arr4 {a b c d : ℕ} (f : Fin a → Fin b → Fin c → Fin d → EReal) : (⟨4, ![a, b, c, d]⟩ : Shape).Idx → EReal := fun y => f (y 0) (y 1) (y 2) (y 3)

theorem eta2 {a b : ℕ} (y : (⟨2, ![a, b]⟩ : Shape).Idx) : y = ix2 (y 0) (y 1) := by
  funext i
  match i with
  | ⟨0, _⟩ => rfl
  | ⟨1, _⟩ => rfl

theorem eta3 {a b c : ℕ} (y : (⟨3, ![a, b, c]⟩ : Shape).Idx) : y = ix3 (y 0) (y 1) (y 2) := by
  funext i
  match i with
  | ⟨0, _⟩ => rfl
  | ⟨1, _⟩ => rfl
  | ⟨2, _⟩ => rfl

theorem eta4 {a b c d : ℕ} (y : (⟨4, ![a, b, c, d]⟩ : Shape).Idx) : y = ix4 (y 0) (y 1) (y 2) (y 3) := by
  funext i
  match i with
  | ⟨0, _⟩ => rfl
  | ⟨1, _⟩ => rfl
  | ⟨2, _⟩ => rfl
  | ⟨3, _⟩ => rfl

/-- An array is known by its elements. -/
theorem ext2 {a b : ℕ} (A : (⟨2, ![a, b]⟩ : Shape).Idx → EReal) (f : Fin a → Fin b → EReal) (h : ∀ r l, A (ix2 r l) = f r l) : A = arr2 f :=
  funext fun y => (congrArg A (eta2 y)).trans (h (y 0) (y 1))

theorem ext3 {a b c : ℕ} (A : (⟨3, ![a, b, c]⟩ : Shape).Idx → EReal) (f : Fin a → Fin b → Fin c → EReal) (h : ∀ r s t, A (ix3 r s t) = f r s t) :
    A = arr3 f :=
  funext fun y => (congrArg A (eta3 y)).trans (h (y 0) (y 1) (y 2))

theorem ext4 {a b c d : ℕ} (A : (⟨4, ![a, b, c, d]⟩ : Shape).Idx → EReal) (f : Fin a → Fin b → Fin c → Fin d → EReal)
    (h : ∀ r s t u, A (ix4 r s t u) = f r s t u) : A = arr4 f :=
  funext fun y => (congrArg A (eta4 y)).trans (h (y 0) (y 1) (y 2) (y 3))

end Cert.Proj

end
-- ==== Proof.ProjRef.lean ====
/-
  The projections' reference, read element by element.
-/
module

public import proofs.«01_k».proof.Proof.Gen.ProjectedIdeal
public import proofs.«01_k».proof.Proof.ProjSpec

@[expose] public section

set_option maxRecDepth 16384

noncomputable section

namespace Cert.ProjectedIdeal.Value

open Cert.ProjectedIdeal Cert.ProjectedIdeal.Gen Idealize.ShloMosaic Idealize.ShloMosaic.TcCoe

/-- The normalized and modulated rows. -/
def hidden (x : FVec Ideal S8x8192x1024 .f32) (sh sc : FVec Ideal S8x1024 .f32) (g : FVec Ideal S1024 .f32) : FVec Ideal S8x8192x1024 .f32 :=
  addf (mulf (mulf (mulf x (broadcastInDim S8x8192x1024 ![0, 1, 2] bcast_S8x8192x1_S8x8192x1024_0_1_2
      (Host.rsqrt (addf (Host.divf (broadcastInDim S8x8192x1 ![0, 1] bcast_S8x8192_S8x8192x1_0_1
          (Host.reduceAdd (mulf x x) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32))))))
      (broadcastInDim S8x8192x1024 ![0, 1, 2] bcast_S1x1x1024_S8x8192x1024_0_1_2 (broadcastInDim S1x1x1024 ![2] bcast_S1024_S1x1x1024_2 g)))
      (broadcastInDim S8x8192x1024 ![0, 1, 2] bcast_S8x1x1024_S8x8192x1024_0_1_2
        (addf (broadcastInDim S8x1x1024 ![] bcast_S_S8x1x1024 (constant S_ .f32 0x3F800000#32)) (broadcastInDim S8x1x1024 ![0, 2] bcast_S8x1024_S8x1x1024_0_2 sc))))
    (broadcastInDim S8x8192x1024 ![0, 1, 2] bcast_S8x1x1024_S8x8192x1024_0_1_2 (broadcastInDim S8x1x1024 ![0, 2] bcast_S8x1024_S8x1x1024_0_2 sh))

/-- All nine projections of rows, side by side. -/
def lanes (h : FVec Ideal S8x8192x1024 .f32) (w : FVec Ideal S1024x9216 .f32) : FVec Ideal S8x8192x9216 .f32 :=
  Host.dotGeneral dot_S8x8192x1024_S1024x9216_S8x8192x9216_2_0_01_1_n_n none h w

def ones : FVec Ideal S8x8192x1024 .f32 := broadcastInDim S8x8192x1024 ![] bcast_S_S8x8192x1024 (constant S_ .f32 0x3F800000#32)

/-- The logistic function. -/
def logistic (y : FVec Ideal S8x8192x1024 .f32) : FVec Ideal S8x8192x1024 .f32 :=
  Host.divf ones (addf ones (Host.exp (Host.negf y)))

/-- One of the nine projections. -/
def col0 (P : FVec Ideal S8x8192x9216 .f32) : FVec Ideal S8x8192x1024 .f32 := extractStridedSlice S8x8192x1024 ![0, 0, 0] P slices_S8x8192x9216_S8x8192x1024_0_0_0
def col1 (P : FVec Ideal S8x8192x9216 .f32) : FVec Ideal S8x8192x1024 .f32 := extractStridedSlice S8x8192x1024 ![0, 0, 1024] P slices_S8x8192x9216_S8x8192x1024_0_0_1024
def col2 (P : FVec Ideal S8x8192x9216 .f32) : FVec Ideal S8x8192x1024 .f32 := extractStridedSlice S8x8192x1024 ![0, 0, 2048] P slices_S8x8192x9216_S8x8192x1024_0_0_2048
def col3 (P : FVec Ideal S8x8192x9216 .f32) : FVec Ideal S8x8192x1024 .f32 := extractStridedSlice S8x8192x1024 ![0, 0, 3072] P slices_S8x8192x9216_S8x8192x1024_0_0_3072
def col4 (P : FVec Ideal S8x8192x9216 .f32) : FVec Ideal S8x8192x1024 .f32 := extractStridedSlice S8x8192x1024 ![0, 0, 4096] P slices_S8x8192x9216_S8x8192x1024_0_0_4096
def col5 (P : FVec Ideal S8x8192x9216 .f32) : FVec Ideal S8x8192x1024 .f32 := extractStridedSlice S8x8192x1024 ![0, 0, 5120] P slices_S8x8192x9216_S8x8192x1024_0_0_5120
def col6 (P : FVec Ideal S8x8192x9216 .f32) : FVec Ideal S8x8192x1024 .f32 := extractStridedSlice S8x8192x1024 ![0, 0, 6144] P slices_S8x8192x9216_S8x8192x1024_0_0_6144
def col7 (P : FVec Ideal S8x8192x9216 .f32) : FVec Ideal S8x8192x1024 .f32 := extractStridedSlice S8x8192x1024 ![0, 0, 7168] P slices_S8x8192x9216_S8x8192x1024_0_0_7168
def col8 (P : FVec Ideal S8x8192x9216 .f32) : FVec Ideal S8x8192x1024 .f32 := extractStridedSlice S8x8192x1024 ![0, 0, 8192] P slices_S8x8192x9216_S8x8192x1024_0_0_8192

/-- All rows of all sequences, one after another. -/
def flat (y : FVec Ideal S8x8192x1024 .f32) : FVec Ideal S65536x1024 .f32 := shapeCast _ y shapeCasts_S8x8192x1024_S65536x1024

def narrow (y : FVec Ideal S65536x1024 .f32) : FVec Ideal S65536x1024 .bf16 := truncf .bf16 y bitsLt_bf16_f32

def eighth (y : FVec Ideal S8x8192x1024 .f32) : FVec Ideal S8x8192x1024 .f32 :=
  mulf y (broadcastInDim S8x8192x1024 ![] bcast_S_S8x8192x1024 (constant S_ .f32 0x3E000000#32))

/-- Features by positions. -/
def turned (y : FVec Ideal S8x8192x1024 .f32) : FVec Ideal S8x1024x8192 .f32 :=
  transpose S8x1024x8192 [0, 2, 1] y transposes_S8x8192x1024_S8x1024x8192_0_2_1

/-- Features by positions in blocks. -/
def turnedBlocks (y : FVec Ideal S8x8192x1024 .f32) : FVec Ideal S8x32x1024x256 .bf16 :=
  truncf .bf16 (transpose S8x32x1024x256 [0, 1, 3, 2] (shapeCast _ y shapeCasts_S8x8192x1024_S8x32x256x1024) transposes_S8x32x256x1024_S8x32x1024x256_0_1_3_2) bitsLt_bf16_f32

variable (x : FVec Ideal S8x8192x1024 .f32) (sh sc : FVec Ideal S8x1024 .f32) (g : FVec Ideal S1024 .f32) (w : FVec Ideal S1024x9216 .f32)

theorem hidden_apply (n : Fin 8) (p : Fin 8192) (c : Fin 1024) : hidden x sh sc g (ix3 n p c) = Proj.hid x sh sc g n p c := by
  pointwise [hidden]
  rfl

theorem lanes_apply (n : Fin 8) (p : Fin 8192) (c : Fin 9216) : lanes (hidden x sh sc g) w (ix3 n p c) = Proj.lanes x sh sc g w n p c := by
  have e : ∀ h : FVec Ideal S8x8192x1024 .f32, lanes h w (ix3 n p c) = ∑ k : Fin 1024, h (ix3 n p k) * w (ix2 k c) := fun h => by
    pointwise [lanes]
  rw [e, Finset.sum_congr rfl fun k _ => by rw [hidden_apply]]
  rfl

variable (y : FVec Ideal S8x8192x1024 .f32) (P : FVec Ideal S8x8192x9216 .f32)

theorem logistic_apply (n : Fin 8) (p : Fin 8192) (c : Fin 1024) : logistic y (ix3 n p c) = Proj.logi (y (ix3 n p c)) := by
  pointwise [logistic, ones]
  rfl

theorem flat_apply (r : Fin 65536) (l : Fin 1024) :
    flat y (ix2 r l) = y (ix3 (⟨r.val / 8192, by omega⟩ : Fin 8) (⟨r.val % 8192, by omega⟩ : Fin 8192) l) := by
  pointwise [flat]

theorem narrow_apply (z : FVec Ideal S65536x1024 .f32) (r : Fin 65536) (l : Fin 1024) : narrow z (ix2 r l) = z (ix2 r l) := by
  pointwise [narrow]

theorem eighth_apply (n : Fin 8) (p : Fin 8192) (c : Fin 1024) : eighth y (ix3 n p c) = y (ix3 n p c) * Ideal.ofBits .f32 0x3E000000#32 := by
  pointwise [eighth]

theorem mulf_apply (z : FVec Ideal S8x8192x1024 .f32) (n : Fin 8) (p : Fin 8192) (c : Fin 1024) : mulf y z (ix3 n p c) = y (ix3 n p c) * z (ix3 n p c) := by
  pointwise

theorem turned_apply (n : Fin 8) (f : Fin 1024) (p : Fin 8192) : turned y (ix3 n f p) = y (ix3 n p f) := by
  pointwise [turned]

theorem turnedBlocks_apply (n : Fin 8) (i : Fin 32) (f : Fin 1024) (e : Fin 256) :
    turnedBlocks y (ix4 n i f e) = y (ix3 n (⟨256 * i.val + e.val, by omega⟩ : Fin 8192) f) := by
  pointwise [turnedBlocks]
  exact congrArg (fun p : Fin 8192 => y (ix3 n p f)) (Fin.ext (by dsimp only; omega))

theorem col0_apply (n : Fin 8) (p : Fin 8192) (c : Fin 1024) : col0 P (ix3 n p c) = P (ix3 n p (⟨1024 * 0 + c.val, by omega⟩ : Fin 9216)) := by
  pointwise [col0]

theorem col1_apply (n : Fin 8) (p : Fin 8192) (c : Fin 1024) : col1 P (ix3 n p c) = P (ix3 n p (⟨1024 * 1 + c.val, by omega⟩ : Fin 9216)) := by
  pointwise [col1]

theorem col2_apply (n : Fin 8) (p : Fin 8192) (c : Fin 1024) : col2 P (ix3 n p c) = P (ix3 n p (⟨1024 * 2 + c.val, by omega⟩ : Fin 9216)) := by
  pointwise [col2]

theorem col3_apply (n : Fin 8) (p : Fin 8192) (c : Fin 1024) : col3 P (ix3 n p c) = P (ix3 n p (⟨1024 * 3 + c.val, by omega⟩ : Fin 9216)) := by
  pointwise [col3]

theorem col4_apply (n : Fin 8) (p : Fin 8192) (c : Fin 1024) : col4 P (ix3 n p c) = P (ix3 n p (⟨1024 * 4 + c.val, by omega⟩ : Fin 9216)) := by
  pointwise [col4]

theorem col5_apply (n : Fin 8) (p : Fin 8192) (c : Fin 1024) : col5 P (ix3 n p c) = P (ix3 n p (⟨1024 * 5 + c.val, by omega⟩ : Fin 9216)) := by
  pointwise [col5]

theorem col6_apply (n : Fin 8) (p : Fin 8192) (c : Fin 1024) : col6 P (ix3 n p c) = P (ix3 n p (⟨1024 * 6 + c.val, by omega⟩ : Fin 9216)) := by
  pointwise [col6]

theorem col7_apply (n : Fin 8) (p : Fin 8192) (c : Fin 1024) : col7 P (ix3 n p c) = P (ix3 n p (⟨1024 * 7 + c.val, by omega⟩ : Fin 9216)) := by
  pointwise [col7]

theorem col8_apply (n : Fin 8) (p : Fin 8192) (c : Fin 1024) : col8 P (ix3 n p c) = P (ix3 n p (⟨1024 * 8 + c.val, by omega⟩ : Fin 9216)) := by
  pointwise [col8]

/-- The products of the arguments. -/
def prods : FVec Ideal S8x8192x9216 .f32 := lanes (hidden x sh sc g) w

theorem prods_apply (n : Fin 8) (p : Fin 8192) (c : Fin 9216) : prods x sh sc g w (ix3 n p c) = Proj.lanes x sh sc g w n p c :=
  lanes_apply x sh sc g w n p c

theorem res0 : narrow (flat (eighth (col0 (prods x sh sc g w)))) = Proj.arr2 (Proj.queries (Proj.lanes x sh sc g w)) := by
  refine Proj.ext2 (a := 65536) (b := 1024) _ _ fun r l => ?_
  rw [narrow_apply, flat_apply, eighth_apply, col0_apply, prods_apply]
  rfl

theorem res1 : turned (col1 (prods x sh sc g w)) = Proj.arr3 (Proj.across (Proj.lanes x sh sc g w) 1) := by
  refine Proj.ext3 (a := 8) (b := 1024) (c := 8192) _ _ fun n f p => ?_
  rw [turned_apply, col1_apply, prods_apply]
  rfl

theorem res2 : turnedBlocks (col1 (prods x sh sc g w)) = Proj.arr4 (Proj.blocked (Proj.lanes x sh sc g w) 1) := by
  refine Proj.ext4 (a := 8) (b := 32) (c := 1024) (d := 256) _ _ fun n i f e => ?_
  rw [turnedBlocks_apply, col1_apply, prods_apply]
  rfl

theorem res3 : turned (col2 (prods x sh sc g w)) = Proj.arr3 (Proj.across (Proj.lanes x sh sc g w) 2) := by
  refine Proj.ext3 (a := 8) (b := 1024) (c := 8192) _ _ fun n f p => ?_
  rw [turned_apply, col2_apply, prods_apply]
  rfl

theorem res4 : turnedBlocks (col2 (prods x sh sc g w)) = Proj.arr4 (Proj.blocked (Proj.lanes x sh sc g w) 2) := by
  refine Proj.ext4 (a := 8) (b := 32) (c := 1024) (d := 256) _ _ fun n i f e => ?_
  rw [turnedBlocks_apply, col2_apply, prods_apply]
  rfl

theorem res5 : narrow (flat (mulf (col3 (prods x sh sc g w)) (logistic (col3 (prods x sh sc g w))))) = Proj.arr2 (Proj.silu (Proj.lanes x sh sc g w) 3) := by
  refine Proj.ext2 (a := 65536) (b := 1024) _ _ fun r l => ?_
  rw [narrow_apply, flat_apply, mulf_apply, logistic_apply, col3_apply, prods_apply]
  rfl

theorem res7 : narrow (flat (mulf (col6 (prods x sh sc g w)) (logistic (col6 (prods x sh sc g w))))) = Proj.arr2 (Proj.silu (Proj.lanes x sh sc g w) 6) := by
  refine Proj.ext2 (a := 65536) (b := 1024) _ _ fun r l => ?_
  rw [narrow_apply, flat_apply, mulf_apply, logistic_apply, col6_apply, prods_apply]
  rfl

theorem res6 : flat (mulf (col4 (prods x sh sc g w)) (logistic (col5 (prods x sh sc g w)))) = Proj.arr2 (Proj.gated (Proj.lanes x sh sc g w)) := by
  refine Proj.ext2 (a := 65536) (b := 1024) _ _ fun r l => ?_
  rw [flat_apply, mulf_apply, logistic_apply, col4_apply, col5_apply, prods_apply, prods_apply]
  rfl

theorem res8 : narrow (flat (logistic (col7 (prods x sh sc g w)))) = Proj.arr2 (Proj.gate (Proj.lanes x sh sc g w) 7) := by
  refine Proj.ext2 (a := 65536) (b := 1024) _ _ fun r l => ?_
  rw [narrow_apply, flat_apply, logistic_apply, col7_apply, prods_apply]
  rfl

theorem res9 : narrow (flat (logistic (col8 (prods x sh sc g w)))) = Proj.arr2 (Proj.gate (Proj.lanes x sh sc g w) 8) := by
  refine Proj.ext2 (a := 65536) (b := 1024) _ _ fun r l => ?_
  rw [narrow_apply, flat_apply, logistic_apply, col8_apply, prods_apply]
  rfl

end Cert.ProjectedIdeal.Value

end
-- ==== Proof.ProjPay.lean ====
/-
  What one point of the projection kernel computes from its blocks, read at an index.
-/
module

public import proofs.«01_k».proof.Proof.Gen.ProjectionIdeal.Skeleton
public import proofs.«01_k».proof.Proof.ProjSpec

@[expose] public section

set_option maxRecDepth 16384

noncomputable section

namespace Cert.ProjectionIdeal.Value

open Cert.ProjectionIdeal Cert.ProjectionIdeal.Gen Idealize.ShloMosaic Idealize.ShloMosaic.TcCoe Cert.Proj

variable (x : FVec Ideal S256x1024 .f32) (g : FVec Ideal S1x1024 .f32) (sc sh : FVec Ideal S1x1x1024 .f32)
  (h : FVec Ideal S256x1024 .bf16) (w w' : FVec Ideal S1x1024x1024 .bf16)

theorem pay3_apply (r : Fin 256) (c : Fin 1024) : k0_pay3 (F := Ideal) x g sc sh (ix2 r c)
      = x (ix2 r c) * Ideal.rsqrt (Ideal.div (∑ k : Fin 1024, x (ix2 r k) * x (ix2 r k)) (Ideal.ofBits .f32 0x44800000#32) + Ideal.ofBits .f32 0x358637BD#32)
          * g (ix2 (0 : Fin 1) c) * (1 + sc (ix3 (0 : Fin 1) (0 : Fin 1) c)) + sh (ix3 (0 : Fin 1) (0 : Fin 1) c) := by
  pointwise [k0_pay3]

theorem q_apply (r : Fin 256) (c : Fin 1024) : k0_pay6 (F := Ideal) (k0_pay4 h w) k0_pay5 (ix2 r c)
      = (∑ k : Fin 1024, h (ix2 r k) * w (ix3 (0 : Fin 1) k c)) * Ideal.ofBits .f32 0x3E000000#32 := by
  pointwise [k0_pay6, k0_pay4, k0_pay5]

theorem kt_apply (f : Fin 1024) (r : Fin 256) : k0_pay8 (F := Ideal) w h (ix3 (0 : Fin 1) f r)
      = ∑ k : Fin 1024, h (ix2 r k) * w (ix3 (0 : Fin 1) f k) := by
  pointwise [k0_pay8, k0_pay7]
  exact Finset.sum_congr rfl fun k _ => mul_comm _ _

theorem ktb_apply (f : Fin 1024) (r : Fin 256) : k0_pay9 (F := Ideal) w h (ix4 (0 : Fin 1) (0 : Fin 1) f r)
      = ∑ k : Fin 1024, h (ix2 r k) * w (ix3 (0 : Fin 1) f k) := by
  pointwise [k0_pay9, k0_pay7]
  exact Finset.sum_congr rfl fun k _ => mul_comm _ _

theorem vt_apply (f : Fin 1024) (r : Fin 256) : k0_pay11 (F := Ideal) w h (ix3 (0 : Fin 1) f r)
      = ∑ k : Fin 1024, h (ix2 r k) * w (ix3 (0 : Fin 1) f k) := by
  pointwise [k0_pay11, k0_pay10]
  exact Finset.sum_congr rfl fun k _ => mul_comm _ _

theorem vtb_apply (f : Fin 1024) (r : Fin 256) : k0_pay12 (F := Ideal) w h (ix4 (0 : Fin 1) (0 : Fin 1) f r)
      = ∑ k : Fin 1024, h (ix2 r k) * w (ix3 (0 : Fin 1) f k) := by
  pointwise [k0_pay12, k0_pay10]
  exact Finset.sum_congr rfl fun k _ => mul_comm _ _

theorem sga_apply (r : Fin 256) (c : Fin 1024) : k0_pay13 (F := Ideal) h w (ix2 r c)
      = (∑ k : Fin 1024, h (ix2 r k) * w (ix3 (0 : Fin 1) k c)) * logi (∑ k : Fin 1024, h (ix2 r k) * w (ix3 (0 : Fin 1) k c)) := by
  pointwise [k0_pay13]
  rw [zero_sub]
  rfl

theorem glu0_apply (r : Fin 256) (c : Fin 512) : k0_pay14 (F := Ideal) h w (ix2 r c)
      = (∑ k : Fin 1024, h (ix2 r k) * w (ix3 (0 : Fin 1) k (⟨c.val, by omega⟩ : Fin 1024))) * logi (∑ k : Fin 1024, h (ix2 r k) * w (ix3 (0 : Fin 1) k (⟨512 + c.val, by omega⟩ : Fin 1024))) := by
  pointwise [k0_pay14]
  rw [zero_sub]
  rfl

theorem glu1_apply (r : Fin 256) (c : Fin 512) : k0_pay16 (F := Ideal) h (k0_pay15 w) (constant S256x1024 .f32 0x00000000#32) (ix2 r c)
      = (∑ k : Fin 1024, h (ix2 r k) * w (ix3 (0 : Fin 1) k (⟨c.val, by omega⟩ : Fin 1024))) * logi (∑ k : Fin 1024, h (ix2 r k) * w (ix3 (0 : Fin 1) k (⟨512 + c.val, by omega⟩ : Fin 1024))) := by
  pointwise [k0_pay16, k0_pay15]
  rw [zero_sub]
  rfl

theorem sgc_apply (r : Fin 256) (c : Fin 1024) : k0_pay17 (F := Ideal) h w (ix2 r c)
      = (∑ k : Fin 1024, h (ix2 r k) * w (ix3 (0 : Fin 1) k c)) * logi (∑ k : Fin 1024, h (ix2 r k) * w (ix3 (0 : Fin 1) k c)) := by
  pointwise [k0_pay17]
  rw [zero_sub]
  rfl

theorem sma_apply (r : Fin 256) (c : Fin 1024) : k0_pay1 (F := Ideal) (k0_pay18 h w) k0_pay19 (ix2 r c)
      = logi (∑ k : Fin 1024, h (ix2 r k) * w (ix3 (0 : Fin 1) k c)) := by
  pointwise [k0_pay1, k0_pay18, k0_pay19]
  rw [zero_sub]
  rfl

theorem smc_apply (r : Fin 256) (c : Fin 1024) : k0_pay2 (F := Ideal) h w (ix2 r c)
      = logi (∑ k : Fin 1024, h (ix2 r k) * w (ix3 (0 : Fin 1) k c)) := by
  pointwise [k0_pay2]
  rw [zero_sub]
  rfl

end Cert.ProjectionIdeal.Value

end
-- ==== Proof.ProjWindows.lean ====
/-
  What a grid point's input windows hold, in terms of the arguments: 256 rows of one sequence, that sequence's shift and
  scale, the gains, and the nine matrices.
-/
module

public import proofs.«01_k».proof.Proof.ProjPay
public import proofs.«01_k».proof.Proof.Gen.ProjectionIdeal.Value

@[expose] public section

set_option maxRecDepth 16384

noncomputable section

namespace Cert.ProjectionIdeal.Value

open Cert.ProjectionIdeal Cert.ProjectionIdeal.Gen Idealize.ShloMosaic Idealize.ShloMosaic.TcCoe Cert.Proj

/-- One of the wide matrix's nine parts, as a slice. -/
def part0 (w : FVec Ideal S1024x9216 .f32) : FVec Ideal S1024x1024 .f32 := extractStridedSlice S1024x1024 ![0, 0] w slices_S1024x9216_S1024x1024_0_0
def part1 (w : FVec Ideal S1024x9216 .f32) : FVec Ideal S1024x1024 .f32 := extractStridedSlice S1024x1024 ![0, 1024] w slices_S1024x9216_S1024x1024_0_1024
def part2 (w : FVec Ideal S1024x9216 .f32) : FVec Ideal S1024x1024 .f32 := extractStridedSlice S1024x1024 ![0, 2048] w slices_S1024x9216_S1024x1024_0_2048
def part3 (w : FVec Ideal S1024x9216 .f32) : FVec Ideal S1024x1024 .f32 := extractStridedSlice S1024x1024 ![0, 3072] w slices_S1024x9216_S1024x1024_0_3072
def part4 (w : FVec Ideal S1024x9216 .f32) : FVec Ideal S1024x1024 .f32 := extractStridedSlice S1024x1024 ![0, 4096] w slices_S1024x9216_S1024x1024_0_4096
def part5 (w : FVec Ideal S1024x9216 .f32) : FVec Ideal S1024x1024 .f32 := extractStridedSlice S1024x1024 ![0, 5120] w slices_S1024x9216_S1024x1024_0_5120
def part6 (w : FVec Ideal S1024x9216 .f32) : FVec Ideal S1024x1024 .f32 := extractStridedSlice S1024x1024 ![0, 6144] w slices_S1024x9216_S1024x1024_0_6144
def part7 (w : FVec Ideal S1024x9216 .f32) : FVec Ideal S1024x1024 .f32 := extractStridedSlice S1024x1024 ![0, 7168] w slices_S1024x9216_S1024x1024_0_7168
def part8 (w : FVec Ideal S1024x9216 .f32) : FVec Ideal S1024x1024 .f32 := extractStridedSlice S1024x1024 ![0, 8192] w slices_S1024x9216_S1024x1024_0_8192

/-- The left halves and the right halves of two parts, side by side. -/
def pairL (u v : FVec Ideal S1024x1024 .f32) : FVec Ideal S1024x1024 .f32 :=
  concatenate S1024x1024 1 [⟨S1024x512, extractStridedSlice S1024x512 ![0, 0] u slices_S1024x1024_S1024x512_0_0⟩,
    ⟨S1024x512, extractStridedSlice S1024x512 ![0, 0] v slices_S1024x1024_S1024x512_0_0⟩] concatenates_S1024x512_S1024x512_S1024x1024_d1

def pairR (u v : FVec Ideal S1024x1024 .f32) : FVec Ideal S1024x1024 .f32 :=
  concatenate S1024x1024 1 [⟨S1024x512, extractStridedSlice S1024x512 ![0, 512] u slices_S1024x1024_S1024x512_0_512⟩,
    ⟨S1024x512, extractStridedSlice S1024x512 ![0, 512] v slices_S1024x1024_S1024x512_0_512⟩] concatenates_S1024x512_S1024x512_S1024x1024_d1

def turn (u : FVec Ideal S1024x1024 .f32) : FVec Ideal S1024x1024 .f32 := transpose S1024x1024 [1, 0] u transposes_S1024x1024_S1024x1024_1_0

def lift (u : FVec Ideal S1024x1024 .f32) : FVec Ideal S1x1024x1024 .f32 := broadcastInDim S1x1024x1024 ![1, 2] bcast_S1024x1024_S1x1024x1024_1_2 u

/-- Nine matrices, one above another. -/
def pile (a b c d e f g h i : FVec Ideal S1024x1024 .f32) : FVec Ideal S9x1024x1024 .bf16 :=
  truncf .bf16 (concatenate S9x1024x1024 0 [⟨S1x1024x1024, lift a⟩, ⟨S1x1024x1024, lift b⟩, ⟨S1x1024x1024, lift c⟩, ⟨S1x1024x1024, lift d⟩,
    ⟨S1x1024x1024, lift e⟩, ⟨S1x1024x1024, lift f⟩, ⟨S1x1024x1024, lift g⟩, ⟨S1x1024x1024, lift h⟩, ⟨S1x1024x1024, lift i⟩]
    concatenates_S1x1024x1024_S1x1024x1024_S1x1024x1024_S1x1024x1024_S1x1024x1024_S1x1024x1024_S1x1024x1024_S1x1024x1024_S1x1024x1024_S9x1024x1024_d0) bitsLt_bf16_f32

/-- The nine matrices as the call finds them. -/
def stack (w : FVec Ideal S1024x9216 .f32) : FVec Ideal S9x1024x1024 .bf16 :=
  pile (part0 w) (turn (part1 w)) (turn (part2 w)) (part3 w) (pairL (part4 w) (part5 w)) (pairR (part4 w) (part5 w)) (part6 w) (part7 w) (part8 w)

def rows (x : FVec Ideal S8x8192x1024 .f32) : FVec Ideal S65536x1024 .f32 := shapeCast S65536x1024 x shapeCasts_S8x8192x1024_S65536x1024

def mids (y : FVec Ideal S8x1024 .f32) : FVec Ideal S8x1x1024 .f32 := broadcastInDim S8x1x1024 ![0, 2] bcast_S8x1024_S8x1x1024_0_2 y

def gains (g : FVec Ideal S1024 .f32) : FVec Ideal S1x1024 .f32 := broadcastInDim S1x1024 ![1] bcast_S1024_S1x1024_1 g

variable (w : FVec Ideal S1024x9216 .f32) (u v : FVec Ideal S1024x1024 .f32) (k c : Fin 1024)

theorem turn_apply : turn u (ix2 k c) = u (ix2 c k) := by
  pointwise [turn]

theorem pairL_left (l : Fin 512) : pairL u v (ix2 k (⟨l.val, by omega⟩ : Fin 1024)) = u (ix2 k (⟨l.val, by omega⟩ : Fin 1024)) := by
  have hl := l.isLt
  pointwise [pairL]

theorem pairL_right (l : Fin 512) : pairL u v (ix2 k (⟨512 + l.val, by omega⟩ : Fin 1024)) = v (ix2 k (⟨l.val, by omega⟩ : Fin 1024)) := by
  have hl := l.isLt
  pointwise [pairL]

theorem pairR_left (l : Fin 512) : pairR u v (ix2 k (⟨l.val, by omega⟩ : Fin 1024)) = u (ix2 k (⟨512 + l.val, by omega⟩ : Fin 1024)) := by
  have hl := l.isLt
  pointwise [pairR]

theorem pairR_right (l : Fin 512) : pairR u v (ix2 k (⟨512 + l.val, by omega⟩ : Fin 1024)) = v (ix2 k (⟨512 + l.val, by omega⟩ : Fin 1024)) := by
  have hl := l.isLt
  pointwise [pairR]

theorem part0_apply : part0 w (ix2 k c) = w (ix2 k (⟨1024 * 0 + c.val, by omega⟩ : Fin 9216)) := by
  pointwise [part0]

theorem pile0 (a0 a1 a2 a3 a4 a5 a6 a7 a8 : FVec Ideal S1024x1024 .f32) : pile a0 a1 a2 a3 a4 a5 a6 a7 a8 (ix3 (0 : Fin 9) k c) = a0 (ix2 k c) := by
  pointwise [pile, lift]

theorem part1_apply : part1 w (ix2 k c) = w (ix2 k (⟨1024 * 1 + c.val, by omega⟩ : Fin 9216)) := by
  pointwise [part1]

theorem pile1 (a0 a1 a2 a3 a4 a5 a6 a7 a8 : FVec Ideal S1024x1024 .f32) : pile a0 a1 a2 a3 a4 a5 a6 a7 a8 (ix3 (1 : Fin 9) k c) = a1 (ix2 k c) := by
  pointwise [pile, lift]

theorem part2_apply : part2 w (ix2 k c) = w (ix2 k (⟨1024 * 2 + c.val, by omega⟩ : Fin 9216)) := by
  pointwise [part2]

theorem pile2 (a0 a1 a2 a3 a4 a5 a6 a7 a8 : FVec Ideal S1024x1024 .f32) : pile a0 a1 a2 a3 a4 a5 a6 a7 a8 (ix3 (2 : Fin 9) k c) = a2 (ix2 k c) := by
  pointwise [pile, lift]

theorem part3_apply : part3 w (ix2 k c) = w (ix2 k (⟨1024 * 3 + c.val, by omega⟩ : Fin 9216)) := by
  pointwise [part3]

theorem pile3 (a0 a1 a2 a3 a4 a5 a6 a7 a8 : FVec Ideal S1024x1024 .f32) : pile a0 a1 a2 a3 a4 a5 a6 a7 a8 (ix3 (3 : Fin 9) k c) = a3 (ix2 k c) := by
  pointwise [pile, lift]

theorem part4_apply : part4 w (ix2 k c) = w (ix2 k (⟨1024 * 4 + c.val, by omega⟩ : Fin 9216)) := by
  pointwise [part4]

theorem pile4 (a0 a1 a2 a3 a4 a5 a6 a7 a8 : FVec Ideal S1024x1024 .f32) : pile a0 a1 a2 a3 a4 a5 a6 a7 a8 (ix3 (4 : Fin 9) k c) = a4 (ix2 k c) := by
  pointwise [pile, lift]

theorem part5_apply : part5 w (ix2 k c) = w (ix2 k (⟨1024 * 5 + c.val, by omega⟩ : Fin 9216)) := by
  pointwise [part5]

theorem pile5 (a0 a1 a2 a3 a4 a5 a6 a7 a8 : FVec Ideal S1024x1024 .f32) : pile a0 a1 a2 a3 a4 a5 a6 a7 a8 (ix3 (5 : Fin 9) k c) = a5 (ix2 k c) := by
  pointwise [pile, lift]

theorem part6_apply : part6 w (ix2 k c) = w (ix2 k (⟨1024 * 6 + c.val, by omega⟩ : Fin 9216)) := by
  pointwise [part6]

theorem pile6 (a0 a1 a2 a3 a4 a5 a6 a7 a8 : FVec Ideal S1024x1024 .f32) : pile a0 a1 a2 a3 a4 a5 a6 a7 a8 (ix3 (6 : Fin 9) k c) = a6 (ix2 k c) := by
  pointwise [pile, lift]

theorem part7_apply : part7 w (ix2 k c) = w (ix2 k (⟨1024 * 7 + c.val, by omega⟩ : Fin 9216)) := by
  pointwise [part7]

theorem pile7 (a0 a1 a2 a3 a4 a5 a6 a7 a8 : FVec Ideal S1024x1024 .f32) : pile a0 a1 a2 a3 a4 a5 a6 a7 a8 (ix3 (7 : Fin 9) k c) = a7 (ix2 k c) := by
  pointwise [pile, lift]

theorem part8_apply : part8 w (ix2 k c) = w (ix2 k (⟨1024 * 8 + c.val, by omega⟩ : Fin 9216)) := by
  pointwise [part8]

theorem pile8 (a0 a1 a2 a3 a4 a5 a6 a7 a8 : FVec Ideal S1024x1024 .f32) : pile a0 a1 a2 a3 a4 a5 a6 a7 a8 (ix3 (8 : Fin 9) k c) = a8 (ix2 k c) := by
  pointwise [pile, lift]

theorem rows_apply (x : FVec Ideal S8x8192x1024 .f32) (n : Fin 8) (p : Fin 8192) :
    rows x (ix2 (⟨8192 * n.val + p.val, by omega⟩ : Fin 65536) c) = x (ix3 n p c) := by
  have h1 := n.isLt
  have h2 := p.isLt
  pointwise [rows]

theorem mids_apply (y : FVec Ideal S8x1024 .f32) (n : Fin 8) : mids y (ix3 n (0 : Fin 1) c) = y (ix2 n c) := by
  pointwise [mids]

theorem gains_apply (g : FVec Ideal S1024 .f32) : gains g (ix2 (0 : Fin 1) c) = g (ix1 c) := by
  pointwise [gains]

variable (m : (ℓ : Loc nD τ sig) → Buf (Elt Ideal) ℓ)

/-- The arguments: activations, shifts, scales, gains and the wide matrix. -/
abbrev argX (c : Dev nD) : FVec Ideal S8x8192x1024 .f32 := m ((c : Thread nD τ).loc main_arg0)
abbrev argSh (c : Dev nD) : FVec Ideal S8x1024 .f32 := m ((c : Thread nD τ).loc main_arg1)
abbrev argSc (c : Dev nD) : FVec Ideal S8x1024 .f32 := m ((c : Thread nD τ).loc main_arg2)
abbrev argG (c : Dev nD) : FVec Ideal S1024 .f32 := m ((c : Thread nD τ).loc main_arg3)
abbrev argW (c : Dev nD) : FVec Ideal S1024x9216 .f32 := m ((c : Thread nD τ).loc main_arg4)

theorem V_main_v27 (c : Dev nD) : V m c main_v27 = stack (argW m c) := by
  unfold_abbrev_sides
  after_results
  try rfl

theorem V_main_v28 (c : Dev nD) : V m c main_v28 = rows (argX m c) := by
  unfold_abbrev_sides
  after_results
  try rfl

theorem V_main_v29 (c : Dev nD) : V m c main_v29 = mids (argSh m c) := by
  unfold_abbrev_sides
  after_results
  try rfl

theorem V_main_v30 (c : Dev nD) : V m c main_v30 = mids (argSc m c) := by
  unfold_abbrev_sides
  after_results
  try rfl

theorem V_main_v31 (c : Dev nD) : V m c main_v31 = gains (argG m c) := by
  unfold_abbrev_sides
  after_results
  try rfl

/-- A grid point's sequence, and which block of that sequence's rows. -/
def seqOf (t : Fin cfg0.N) : Fin 8 := ⟨t.val / 32, by have h : t.val < 256 := lt_of_lt_of_eq t.isLt N_0; omega⟩
def rowOf (t : Fin cfg0.N) : Fin 32 := ⟨t.val % 32, by omega⟩

theorem point (t : Fin cfg0.N) : t.val = 32 * (seqOf t).val + (rowOf t).val := by
  show t.val = 32 * (t.val / 32) + t.val % 32
  omega

/-- Where the windows' blocks start. -/
theorem map0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem map1 (t : Fin cfg0.N) : win0_1.index t (0 : Fin 3) = t.val / 32 ∧ win0_1.index t (1 : Fin 3) = 0 ∧ win0_1.index t (2 : Fin 3) = 0 :=
  (by decide +kernel : ∀ t : Fin grid0.N, win0_1.index t (0 : Fin 3) = t.val / 32 ∧ win0_1.index t (1 : Fin 3) = 0 ∧ win0_1.index t (2 : Fin 3) = 0) t

theorem map2 (t : Fin cfg0.N) : win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0) t

theorem map3 (t : Fin cfg0.N) : win0_3.index t (0 : Fin 2) = 0 ∧ win0_3.index t (1 : Fin 2) = 0 := ⟨rfl, rfl⟩

theorem map4 (t : Fin cfg0.N) : win0_4.index t (0 : Fin 3) = 0 ∧ win0_4.index t (1 : Fin 3) = 0 ∧ win0_4.index t (2 : Fin 3) = 0 := ⟨rfl, rfl, rfl⟩

theorem iblk0_apply (c : Dev nD) (t : Fin cfg0.N) (r : Fin 256) (l : Fin 1024) :
    (iblk m c 0 t : FVec Ideal S256x1024 .f32) (ix2 r l) = argX m c (ix3 (seqOf t) (⟨256 * (rowOf t).val + r.val, by omega⟩ : Fin 8192) l) := by
  obtain ⟨e0, e1⟩ := map0 t
  have et := point t
  have key : (((cfg0.win 0).blk t).view.emb (ix2 r l) : S65536x1024.Idx)
      = ix2 (⟨8192 * (seqOf t).val + (⟨256 * (rowOf t).val + r.val, by omega⟩ : Fin 8192).val, by dsimp only; omega⟩ : Fin 65536) l := by
    funext a
    apply Fin.ext
    match a with
    | ⟨0, _⟩ => show win0_0.index t (0 : Fin 2) * 256 + 1 * r.val = 8192 * (seqOf t).val + (256 * (rowOf t).val + r.val); omega
    | ⟨1, _⟩ => show win0_0.index t (1 : Fin 2) * 1024 + 1 * l.val = l.val; omega
  show V m c main_v28 (((cfg0.win 0).blk t).view.emb (ix2 r l)) = _
  rw [key, V_main_v28, rows_apply]

theorem iblk1_apply (c : Dev nD) (t : Fin cfg0.N) (l : Fin 1024) :
    (iblk m c 1 t : FVec Ideal S1x1x1024 .f32) (ix3 (0 : Fin 1) (0 : Fin 1) l) = argSh m c (ix2 (seqOf t) l) := by
  obtain ⟨e0, e1, e2⟩ := map1 t
  have key : (((cfg0.win 1).blk t).view.emb (ix3 (0 : Fin 1) (0 : Fin 1) l) : S8x1x1024.Idx) = ix3 (seqOf t) (0 : Fin 1) l := by
    funext a
    apply Fin.ext
    match a with
    | ⟨0, _⟩ => show win0_1.index t (0 : Fin 3) * 1 + 1 * 0 = t.val / 32; omega
    | ⟨1, _⟩ => show win0_1.index t (1 : Fin 3) * 1 + 1 * 0 = 0; omega
    | ⟨2, _⟩ => show win0_1.index t (2 : Fin 3) * 1024 + 1 * l.val = l.val; omega
  show V m c main_v29 (((cfg0.win 1).blk t).view.emb (ix3 (0 : Fin 1) (0 : Fin 1) l)) = _
  rw [key, V_main_v29, mids_apply]

theorem iblk2_apply (c : Dev nD) (t : Fin cfg0.N) (l : Fin 1024) :
    (iblk m c 2 t : FVec Ideal S1x1x1024 .f32) (ix3 (0 : Fin 1) (0 : Fin 1) l) = argSc m c (ix2 (seqOf t) l) := by
  obtain ⟨e0, e1, e2⟩ := map2 t
  have key : (((cfg0.win 2).blk t).view.emb (ix3 (0 : Fin 1) (0 : Fin 1) l) : S8x1x1024.Idx) = ix3 (seqOf t) (0 : Fin 1) l := by
    funext a
    apply Fin.ext
    match a with
    | ⟨0, _⟩ => show win0_2.index t (0 : Fin 3) * 1 + 1 * 0 = t.val / 32; omega
    | ⟨1, _⟩ => show win0_2.index t (1 : Fin 3) * 1 + 1 * 0 = 0; omega
    | ⟨2, _⟩ => show win0_2.index t (2 : Fin 3) * 1024 + 1 * l.val = l.val; omega
  show V m c main_v30 (((cfg0.win 2).blk t).view.emb (ix3 (0 : Fin 1) (0 : Fin 1) l)) = _
  rw [key, V_main_v30, mids_apply]

theorem iblk3_apply (c : Dev nD) (t : Fin cfg0.N) (l : Fin 1024) :
    (iblk m c 3 t : FVec Ideal S1x1024 .f32) (ix2 (0 : Fin 1) l) = argG m c (ix1 l) := by
  obtain ⟨e0, e1⟩ := map3 t
  have key : (((cfg0.win 3).blk t).view.emb (ix2 (0 : Fin 1) l) : S1x1024.Idx) = ix2 (0 : Fin 1) l := by
    funext a
    apply Fin.ext
    match a with
    | ⟨0, _⟩ => show win0_3.index t (0 : Fin 2) * 1 + 1 * 0 = 0; omega
    | ⟨1, _⟩ => show win0_3.index t (1 : Fin 2) * 1024 + 1 * l.val = l.val; omega
  show V m c main_v31 (((cfg0.win 3).blk t).view.emb (ix2 (0 : Fin 1) l)) = _
  rw [key, V_main_v31, gains_apply]

theorem iblk4_apply (c : Dev nD) (t : Fin cfg0.N) (j : Fin 9) (a b : Fin 1024) :
    (iblk m c 4 t : FVec Ideal S9x1024x1024 .bf16) (ix3 j a b) = stack (argW m c) (ix3 j a b) := by
  obtain ⟨e0, e1, e2⟩ := map4 t
  have key : (((cfg0.win 4).blk t).view.emb (ix3 j a b) : S9x1024x1024.Idx) = ix3 j a b := by
    funext i
    apply Fin.ext
    match i with
    | ⟨0, _⟩ => show win0_4.index t (0 : Fin 3) * 9 + 1 * j.val = j.val; omega
    | ⟨1, _⟩ => show win0_4.index t (1 : Fin 3) * 1024 + 1 * a.val = a.val; omega
    | ⟨2, _⟩ => show win0_4.index t (2 : Fin 3) * 1024 + 1 * b.val = b.val; omega
  show V m c main_v27 (((cfg0.win 4).blk t).view.emb (ix3 j a b)) = _
  rw [key, V_main_v27]

end Cert.ProjectionIdeal.Value

end
-- ==== Proof.ProjBody.lean ====
/-
  What the projection body leaves in its ten output blocks, as its payloads of the blocks it reads.
-/
module

public import proofs.«01_k».proof.Proof.ProjWindows

@[expose] public section

set_option maxRecDepth 16384

noncomputable section

namespace Cert.ProjectionIdeal.Value

open Cert.ProjectionIdeal Cert.ProjectionIdeal.Gen Idealize.ShloMosaic Idealize.ShloMosaic.TcCoe Cert.Proj

variable {F : FTy → Type} [FloatOps F]

/-- One of the nine matrices of a block. -/
def slot (x4 : Vec F S9x1024x1024 .bf16) {off : Fin 3 → ℕ} (inb : ∀ a, off a + S1x1024x1024.size a ≤ S9x1024x1024.size a) : Vec F S1x1024x1024 .bf16 :=
  View.ld x4 (Rect.unit (s := S9x1024x1024) off S1x1024x1024.size inb)

theorem read_rows (a : Memref sig .tc .vmem S256x1024 .f32) (h : a.IsWhole) (x : Vec F S256x1024 .f32) (inb : ∀ i, (![0, 0] : Fin 2 → ℕ) i + S256x1024.size i ≤ S256x1024.size i) :
    View.readAt (Elt F) a.view (Rect.unit (s := S256x1024) ![0, 0] ![256, 1024] inb).toLoadRect (h.unread x) = x := by
  show View.ld (a.view.read (Elt F) (h.unread x)) (Rect.unit (s := S256x1024) ![0, 0] S256x1024.size inb) = x
  rw [h.read_unread, View.ld_unit_zero (S := S256x1024) (by funext i; fin_cases i <;> rfl)]

theorem read_gain (a : Memref sig .tc .vmem S1x1024 .f32) (h : a.IsWhole) (x : Vec F S1x1024 .f32) (inb : ∀ i, (![0, 0] : Fin 2 → ℕ) i + S1x1024.size i ≤ S1x1024.size i) :
    View.readAt (Elt F) a.view (Rect.unit (s := S1x1024) ![0, 0] ![1, 1024] inb).toLoadRect (h.unread x) = x := by
  show View.ld (a.view.read (Elt F) (h.unread x)) (Rect.unit (s := S1x1024) ![0, 0] S1x1024.size inb) = x
  rw [h.read_unread, View.ld_unit_zero (S := S1x1024) (by funext i; fin_cases i <;> rfl)]

theorem read_mid (a : Memref sig .tc .vmem S1x1x1024 .f32) (h : a.IsWhole) (x : Vec F S1x1x1024 .f32) (inb : ∀ i, (![0, 0, 0] : Fin 3 → ℕ) i + S1x1x1024.size i ≤ S1x1x1024.size i) :
    View.readAt (Elt F) a.view (Rect.unit (s := S1x1x1024) ![0, 0, 0] ![1, 1, 1024] inb).toLoadRect (h.unread x) = x := by
  show View.ld (a.view.read (Elt F) (h.unread x)) (Rect.unit (s := S1x1x1024) ![0, 0, 0] S1x1x1024.size inb) = x
  rw [h.read_unread, View.ld_unit_zero (S := S1x1x1024) (by funext i; fin_cases i <;> rfl)]

theorem read_slot (a : Memref sig .tc .vmem S9x1024x1024 .bf16) (h : a.IsWhole) (x : Vec F S9x1024x1024 .bf16) {off : Fin 3 → ℕ}
    (inb : ∀ i, off i + S1x1024x1024.size i ≤ S9x1024x1024.size i) :
    View.readAt (Elt F) a.view (Rect.unit (s := S9x1024x1024) off ![1, 1024, 1024] inb).toLoadRect (h.unread x) = slot x inb := by
  show View.ld (a.view.read (Elt F) (h.unread x)) (Rect.unit (s := S9x1024x1024) off S1x1024x1024.size inb) = _
  rw [h.read_unread]
  rfl

set_option maxHeartbeats 2000000 in
theorem out_5 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_5 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay6 (k0_pay4 (k0_pay3 x0 x3 x2 x1) (slot x4 inb_S9x1024x1024_S1x1024x1024_0_0_0)) k0_pay5 := by
  unfold out0_A_5
  rw [View.read_writes_eq_canon _ _ _ (cover0_A_5 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_6 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_6 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay8 (slot x4 inb_S9x1024x1024_S1x1024x1024_1_0_0) (k0_pay3 x0 x3 x2 x1) := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1024x256) (by funext a; fin_cases a <;> rfl)]
  simp only [View.readCov_cons_toLoadRect, read_rows, read_gain, read_mid, read_slot]

set_option maxHeartbeats 2000000 in
theorem out_7 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_7 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay9 (slot x4 inb_S9x1024x1024_S1x1024x1024_1_0_0) (k0_pay3 x0 x3 x2 x1) := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1x1024x256) (by funext a; fin_cases a <;> rfl)]
  simp only [View.readCov_cons_toLoadRect, read_rows, read_gain, read_mid, read_slot]

set_option maxHeartbeats 2000000 in
theorem out_8 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_8 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay11 (slot x4 inb_S9x1024x1024_S1x1024x1024_2_0_0) (k0_pay3 x0 x3 x2 x1) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1024x256) (by funext a; fin_cases a <;> rfl)]
  simp only [View.readCov_cons_toLoadRect, read_rows, read_gain, read_mid, read_slot]

set_option maxHeartbeats 2000000 in
theorem out_9 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_9 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay12 (slot x4 inb_S9x1024x1024_S1x1024x1024_2_0_0) (k0_pay3 x0 x3 x2 x1) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1x1024x256) (by funext a; fin_cases a <;> rfl)]
  simp only [View.readCov_cons_toLoadRect, read_rows, read_gain, read_mid, read_slot]

set_option maxHeartbeats 2000000 in
theorem out_10 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_10 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay13 (k0_pay3 x0 x3 x2 x1) (slot x4 inb_S9x1024x1024_S1x1024x1024_3_0_0) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_12 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_12 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay17 (k0_pay3 x0 x3 x2 x1) (slot x4 inb_S9x1024x1024_S1x1024x1024_6_0_0) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_13 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_13 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay1 (k0_pay18 (k0_pay3 x0 x3 x2 x1) (slot x4 inb_S9x1024x1024_S1x1024x1024_7_0_0)) k0_pay19 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_14 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_14 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay2 (k0_pay3 x0 x3 x2 x1) (slot x4 inb_S9x1024x1024_S1x1024x1024_8_0_0) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_11 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_11 (F := F) c i a1 h1 a2 h2 a3 h3 a4 h4 a5 h5 a6 h6 a7 h7 a8 h8 a9 h9 a10 h10 a11 h11 a12 h12 a13 h13 a14 h14 a15 h15 a16 h16 x0 x1 x2 x3 x4 = View.canon [(⟨Rect.unit (s := S256x1024) ![0, 512] S256x512.size inb_S256x1024_S256x512_0_512, k0_pay16 (k0_pay3 x0 x3 x2 x1) (k0_pay15 (slot x4 inb_S9x1024x1024_S1x1024x1024_5_0_0)) (constant S256x1024 .f32 0x00000000#32)⟩ : View.Piece (Elt F) S256x1024 .f32),
        ⟨Rect.unit (s := S256x1024) ![0, 0] S256x512.size inb_S256x1024_S256x512_0_0, k0_pay14 (k0_pay3 x0 x3 x2 x1) (slot x4 inb_S9x1024x1024_S1x1024x1024_4_0_0)⟩] := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  simp only [View.readCov_cons_toLoadRect, read_rows, read_gain, read_mid, read_slot]

end Cert.ProjectionIdeal.Value

end
-- ==== Proof.ProjArray.lean ====
/-
  The call's ten result arrays over the extended reals: each is the array of `Proj`'s function of the arguments.
-/
module

public import proofs.«01_k».proof.Proof.ProjBody

@[expose] public section

set_option maxRecDepth 16384

noncomputable section

namespace Cert.ProjectionIdeal.Value

open Cert.ProjectionIdeal Cert.ProjectionIdeal.Gen Idealize.ShloMosaic Idealize.ShloMosaic.TcCoe Cert.Proj

/-- A loaded matrix, at an element. -/
theorem slot_apply (x4 : FVec Ideal S9x1024x1024 .bf16) {off : Fin 3 → ℕ} (j : Fin 9) (h : off = ![j.val, 0, 0])
    (inb : ∀ a, off a + S1x1024x1024.size a ≤ S9x1024x1024.size a) (a b : Fin 1024) :
    slot (F := Ideal) x4 inb (ix3 (0 : Fin 1) a b) = x4 (ix3 j a b) := by
  subst h
  show x4 _ = x4 _
  congr 1
  funext i
  apply Fin.ext
  match i with
  | ⟨0, _⟩ => show j.val + 1 * 0 = j.val; omega
  | ⟨1, _⟩ => show 0 + 1 * a.val = a.val; omega
  | ⟨2, _⟩ => show 0 + 1 * b.val = b.val; omega

variable (m : (ℓ : Loc nD τ sig) → Buf (Elt Ideal) ℓ) (c : Dev nD) (t : Fin cfg0.N)

/-- The products of the arguments. -/
def prods : Lanes := Proj.lanes (argX m c) (argSh m c) (argSc m c) (argG m c) (argW m c)

theorem pt (n : ℕ) (h : n < 256) : ∃ t : Fin cfg0.N, t.val = n := ⟨⟨n, lt_of_lt_of_eq h N_0.symm⟩, rfl⟩

/-- The position of a block's row in its sequence, and its place among all the rows. -/
def posOf (r : Fin 256) : Fin 8192 := ⟨256 * (rowOf t).val + r.val, by omega⟩
def flatOf (r : Fin 256) : Fin 65536 := ⟨256 * t.val + r.val, by have h : t.val < 256 := lt_of_lt_of_eq t.isLt N_0; omega⟩

theorem at2_flat (Y : Lanes) (j : Fin 9) (r : Fin 256) (l : Fin 1024) (q : Fin 9216) (hq : q.val = 1024 * j.val + l.val) :
    at2 Y j (flatOf t r) l = Y (seqOf t) (posOf t r) q := by
  have hr := r.isLt
  have et := point t
  unfold at2
  rw [show (⟨(flatOf t r).val / 8192, by omega⟩ : Fin 8) = seqOf t from Fin.ext (by show (256 * t.val + r.val) / 8192 = t.val / 32; omega),
    show (⟨(flatOf t r).val % 8192, by omega⟩ : Fin 8192) = posOf t r from
      Fin.ext (by show (256 * t.val + r.val) % 8192 = 256 * (t.val % 32) + r.val; omega),
    show (⟨1024 * j.val + l.val, by omega⟩ : Fin 9216) = q from Fin.ext hq.symm]

/-- The normalized and modulated rows of a point. -/
abbrev rowsAt : FVec Ideal S256x1024 .bf16 := k0_pay3 (F := Ideal) (iblk m c 0 t) (iblk m c 3 t) (iblk m c 2 t) (iblk m c 1 t)

/-- A matrix of a point. -/
abbrev matAt {off : Fin 3 → ℕ} (inb : ∀ a, off a + S1x1024x1024.size a ≤ S9x1024x1024.size a) : FVec Ideal S1x1024x1024 .bf16 :=
  slot (F := Ideal) (iblk m c 4 t) inb

theorem rowsAt_apply (r : Fin 256) (k : Fin 1024) :
    rowsAt m c t (ix2 r k) = hid (argX m c) (argSh m c) (argSc m c) (argG m c) (seqOf t) (posOf t r) k := by
  refine (pay3_apply _ _ _ _ r k).trans ?_
  rw [iblk0_apply, iblk1_apply, iblk2_apply, iblk3_apply, Finset.sum_congr rfl fun k _ => by rw [iblk0_apply]]
  rfl

/-- A row's product with what holds one column of the wide matrix. -/
theorem dot_eq (r : Fin 256) (e : Fin 1024 → EReal) (q : Fin 9216) (he : ∀ k, e k = argW m c (ix2 k q)) :
    ∑ k : Fin 1024, rowsAt m c t (ix2 r k) * e k = prods m c (seqOf t) (posOf t r) q := by
  unfold prods Proj.lanes
  exact Finset.sum_congr rfl fun k _ => by rw [rowsAt_apply, he]

theorem matAt_apply {off : Fin 3 → ℕ} (inb : ∀ a, off a + S1x1024x1024.size a ≤ S9x1024x1024.size a) (j : Fin 9) (h : off = ![j.val, 0, 0])
    (a b : Fin 1024) : matAt m c t inb (ix3 (0 : Fin 1) a b) = stack (argW m c) (ix3 j a b) :=
  (slot_apply _ j h inb a b).trans (iblk4_apply m c t j a b)

theorem dot0 (r : Fin 256) (l : Fin 1024) :
    ∑ k : Fin 1024, rowsAt m c t (ix2 r k) * matAt m c t inb_S9x1024x1024_S1x1024x1024_0_0_0 (ix3 (0 : Fin 1) k l) = at2 (prods m c) 0 (flatOf t r) l :=
  (dot_eq m c t r _ (⟨1024 * 0 + l.val, by omega⟩ : Fin 9216) fun k => by rw [matAt_apply m c t _ 0 rfl]; unfold stack; rw [pile0, part0_apply]).trans
    (at2_flat t _ 0 r l _ rfl).symm

theorem dot3 (r : Fin 256) (l : Fin 1024) :
    ∑ k : Fin 1024, rowsAt m c t (ix2 r k) * matAt m c t inb_S9x1024x1024_S1x1024x1024_3_0_0 (ix3 (0 : Fin 1) k l) = at2 (prods m c) 3 (flatOf t r) l :=
  (dot_eq m c t r _ (⟨1024 * 3 + l.val, by omega⟩ : Fin 9216) fun k => by rw [matAt_apply m c t _ 3 rfl]; unfold stack; rw [pile3, part3_apply]).trans
    (at2_flat t _ 3 r l _ rfl).symm

theorem dot6 (r : Fin 256) (l : Fin 1024) :
    ∑ k : Fin 1024, rowsAt m c t (ix2 r k) * matAt m c t inb_S9x1024x1024_S1x1024x1024_6_0_0 (ix3 (0 : Fin 1) k l) = at2 (prods m c) 6 (flatOf t r) l :=
  (dot_eq m c t r _ (⟨1024 * 6 + l.val, by omega⟩ : Fin 9216) fun k => by rw [matAt_apply m c t _ 6 rfl]; unfold stack; rw [pile6, part6_apply]).trans
    (at2_flat t _ 6 r l _ rfl).symm

theorem dot7 (r : Fin 256) (l : Fin 1024) :
    ∑ k : Fin 1024, rowsAt m c t (ix2 r k) * matAt m c t inb_S9x1024x1024_S1x1024x1024_7_0_0 (ix3 (0 : Fin 1) k l) = at2 (prods m c) 7 (flatOf t r) l :=
  (dot_eq m c t r _ (⟨1024 * 7 + l.val, by omega⟩ : Fin 9216) fun k => by rw [matAt_apply m c t _ 7 rfl]; unfold stack; rw [pile7, part7_apply]).trans
    (at2_flat t _ 7 r l _ rfl).symm

theorem dot8 (r : Fin 256) (l : Fin 1024) :
    ∑ k : Fin 1024, rowsAt m c t (ix2 r k) * matAt m c t inb_S9x1024x1024_S1x1024x1024_8_0_0 (ix3 (0 : Fin 1) k l) = at2 (prods m c) 8 (flatOf t r) l :=
  (dot_eq m c t r _ (⟨1024 * 8 + l.val, by omega⟩ : Fin 9216) fun k => by rw [matAt_apply m c t _ 8 rfl]; unfold stack; rw [pile8, part8_apply]).trans
    (at2_flat t _ 8 r l _ rfl).symm

theorem dot1 (r : Fin 256) (f : Fin 1024) :
    ∑ k : Fin 1024, rowsAt m c t (ix2 r k) * matAt m c t inb_S9x1024x1024_S1x1024x1024_1_0_0 (ix3 (0 : Fin 1) f k) = across (prods m c) 1 (seqOf t) f (posOf t r) :=
  dot_eq m c t r _ (⟨1024 * 1 + f.val, by omega⟩ : Fin 9216) fun k => by rw [matAt_apply m c t _ 1 rfl]; unfold stack; rw [pile1, turn_apply, part1_apply]

theorem dot2 (r : Fin 256) (f : Fin 1024) :
    ∑ k : Fin 1024, rowsAt m c t (ix2 r k) * matAt m c t inb_S9x1024x1024_S1x1024x1024_2_0_0 (ix3 (0 : Fin 1) f k) = across (prods m c) 2 (seqOf t) f (posOf t r) :=
  dot_eq m c t r _ (⟨1024 * 2 + f.val, by omega⟩ : Fin 9216) fun k => by rw [matAt_apply m c t _ 2 rfl]; unfold stack; rw [pile2, turn_apply, part2_apply]

theorem dot4_left (r : Fin 256) (l : Fin 512) :
    ∑ k : Fin 1024, rowsAt m c t (ix2 r k) * matAt m c t inb_S9x1024x1024_S1x1024x1024_4_0_0 (ix3 (0 : Fin 1) k (⟨l.val, by omega⟩ : Fin 1024))
      = at2 (prods m c) 4 (flatOf t r) (⟨l.val, by omega⟩ : Fin 1024) :=
  (dot_eq m c t r _ (⟨1024 * 4 + (⟨l.val, by omega⟩ : Fin 1024).val, by dsimp only; omega⟩ : Fin 9216) fun k => by
    rw [matAt_apply m c t _ 4 rfl]; unfold stack; rw [pile4, pairL_left, part4_apply]).trans
    (at2_flat t _ 4 r _ _ rfl).symm

theorem dot4_right (r : Fin 256) (l : Fin 512) :
    ∑ k : Fin 1024, rowsAt m c t (ix2 r k) * matAt m c t inb_S9x1024x1024_S1x1024x1024_4_0_0 (ix3 (0 : Fin 1) k (⟨512 + l.val, by omega⟩ : Fin 1024))
      = at2 (prods m c) 5 (flatOf t r) (⟨l.val, by omega⟩ : Fin 1024) :=
  (dot_eq m c t r _ (⟨1024 * 5 + (⟨l.val, by omega⟩ : Fin 1024).val, by dsimp only; omega⟩ : Fin 9216) fun k => by
    rw [matAt_apply m c t _ 4 rfl]; unfold stack; rw [pile4, pairL_right, part5_apply]).trans
    (at2_flat t _ 5 r _ _ rfl).symm

theorem dot5_left (r : Fin 256) (l : Fin 512) :
    ∑ k : Fin 1024, rowsAt m c t (ix2 r k) * matAt m c t inb_S9x1024x1024_S1x1024x1024_5_0_0 (ix3 (0 : Fin 1) k (⟨l.val, by omega⟩ : Fin 1024))
      = at2 (prods m c) 4 (flatOf t r) (⟨512 + l.val, by omega⟩ : Fin 1024) :=
  (dot_eq m c t r _ (⟨1024 * 4 + (⟨512 + l.val, by omega⟩ : Fin 1024).val, by dsimp only; omega⟩ : Fin 9216) fun k => by
    rw [matAt_apply m c t _ 5 rfl]; unfold stack; rw [pile5, pairR_left, part4_apply]).trans
    (at2_flat t _ 4 r _ _ rfl).symm

theorem dot5_right (r : Fin 256) (l : Fin 512) :
    ∑ k : Fin 1024, rowsAt m c t (ix2 r k) * matAt m c t inb_S9x1024x1024_S1x1024x1024_5_0_0 (ix3 (0 : Fin 1) k (⟨512 + l.val, by omega⟩ : Fin 1024))
      = at2 (prods m c) 5 (flatOf t r) (⟨512 + l.val, by omega⟩ : Fin 1024) :=
  (dot_eq m c t r _ (⟨1024 * 5 + (⟨512 + l.val, by omega⟩ : Fin 1024).val, by dsimp only; omega⟩ : Fin 9216) fun k => by
    rw [matAt_apply m c t _ 5 rfl]; unfold stack; rw [pile5, pairR_right, part5_apply]).trans
    (at2_flat t _ 5 r _ _ rfl).symm

theorem map5 (t : Fin cfg0.N) : win0_5.index t (0 : Fin 2) = t.val ∧ win0_5.index t (1 : Fin 2) = 0 :=
  (by decide +kernel : ∀ t : Fin grid0.N, win0_5.index t (0 : Fin 2) = t.val ∧ win0_5.index t (1 : Fin 2) = 0) t

theorem emb5 (r : Fin 256) (l : Fin 1024) : (((cfg0.win 5).blk t).view.emb (ix2 r l) : S65536x1024.Idx) = ix2 (flatOf t r) l := by
  obtain ⟨e0, e1⟩ := map5 t
  funext a
  apply Fin.ext
  match a with
  | ⟨0, _⟩ => show win0_5.index t (0 : Fin 2) * 256 + 1 * r.val = 256 * t.val + r.val; omega
  | ⟨1, _⟩ => show win0_5.index t (1 : Fin 2) * 1024 + 1 * l.val = l.val; omega

theorem covered5 (y : S65536x1024.Idx) : ∃ t : Fin cfg0.N, (cfg0.win 5).flush t = true ∧ y ∈ ((cfg0.win 5).blk t).view.set := by
  have h0 : (y 0).val < 65536 := (y 0).isLt
  have h1 : (y 1).val < 1024 := (y 1).isLt
  obtain ⟨t, ht⟩ := pt ((y 0).val / 256) (by omega)
  refine ⟨t, flush0_5 _, ?_⟩
  have h := ((cfg0.win 5).blk t).view.emb_mem_set (ix2 (⟨(y 0).val % 256, by omega⟩ : Fin 256) (⟨(y 1).val, h1⟩ : Fin 1024))
  rw [emb5] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map10 (t : Fin cfg0.N) : win0_10.index t (0 : Fin 2) = t.val ∧ win0_10.index t (1 : Fin 2) = 0 :=
  (by decide +kernel : ∀ t : Fin grid0.N, win0_10.index t (0 : Fin 2) = t.val ∧ win0_10.index t (1 : Fin 2) = 0) t

theorem emb10 (r : Fin 256) (l : Fin 1024) : (((cfg0.win 10).blk t).view.emb (ix2 r l) : S65536x1024.Idx) = ix2 (flatOf t r) l := by
  obtain ⟨e0, e1⟩ := map10 t
  funext a
  apply Fin.ext
  match a with
  | ⟨0, _⟩ => show win0_10.index t (0 : Fin 2) * 256 + 1 * r.val = 256 * t.val + r.val; omega
  | ⟨1, _⟩ => show win0_10.index t (1 : Fin 2) * 1024 + 1 * l.val = l.val; omega

theorem covered10 (y : S65536x1024.Idx) : ∃ t : Fin cfg0.N, (cfg0.win 10).flush t = true ∧ y ∈ ((cfg0.win 10).blk t).view.set := by
  have h0 : (y 0).val < 65536 := (y 0).isLt
  have h1 : (y 1).val < 1024 := (y 1).isLt
  obtain ⟨t, ht⟩ := pt ((y 0).val / 256) (by omega)
  refine ⟨t, flush0_10 _, ?_⟩
  have h := ((cfg0.win 10).blk t).view.emb_mem_set (ix2 (⟨(y 0).val % 256, by omega⟩ : Fin 256) (⟨(y 1).val, h1⟩ : Fin 1024))
  rw [emb10] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map11 (t : Fin cfg0.N) : win0_11.index t (0 : Fin 2) = t.val ∧ win0_11.index t (1 : Fin 2) = 0 :=
  (by decide +kernel : ∀ t : Fin grid0.N, win0_11.index t (0 : Fin 2) = t.val ∧ win0_11.index t (1 : Fin 2) = 0) t

theorem emb11 (r : Fin 256) (l : Fin 1024) : (((cfg0.win 11).blk t).view.emb (ix2 r l) : S65536x1024.Idx) = ix2 (flatOf t r) l := by
  obtain ⟨e0, e1⟩ := map11 t
  funext a
  apply Fin.ext
  match a with
  | ⟨0, _⟩ => show win0_11.index t (0 : Fin 2) * 256 + 1 * r.val = 256 * t.val + r.val; omega
  | ⟨1, _⟩ => show win0_11.index t (1 : Fin 2) * 1024 + 1 * l.val = l.val; omega

theorem covered11 (y : S65536x1024.Idx) : ∃ t : Fin cfg0.N, (cfg0.win 11).flush t = true ∧ y ∈ ((cfg0.win 11).blk t).view.set := by
  have h0 : (y 0).val < 65536 := (y 0).isLt
  have h1 : (y 1).val < 1024 := (y 1).isLt
  obtain ⟨t, ht⟩ := pt ((y 0).val / 256) (by omega)
  refine ⟨t, flush0_11 _, ?_⟩
  have h := ((cfg0.win 11).blk t).view.emb_mem_set (ix2 (⟨(y 0).val % 256, by omega⟩ : Fin 256) (⟨(y 1).val, h1⟩ : Fin 1024))
  rw [emb11] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map12 (t : Fin cfg0.N) : win0_12.index t (0 : Fin 2) = t.val ∧ win0_12.index t (1 : Fin 2) = 0 :=
  (by decide +kernel : ∀ t : Fin grid0.N, win0_12.index t (0 : Fin 2) = t.val ∧ win0_12.index t (1 : Fin 2) = 0) t

theorem emb12 (r : Fin 256) (l : Fin 1024) : (((cfg0.win 12).blk t).view.emb (ix2 r l) : S65536x1024.Idx) = ix2 (flatOf t r) l := by
  obtain ⟨e0, e1⟩ := map12 t
  funext a
  apply Fin.ext
  match a with
  | ⟨0, _⟩ => show win0_12.index t (0 : Fin 2) * 256 + 1 * r.val = 256 * t.val + r.val; omega
  | ⟨1, _⟩ => show win0_12.index t (1 : Fin 2) * 1024 + 1 * l.val = l.val; omega

theorem covered12 (y : S65536x1024.Idx) : ∃ t : Fin cfg0.N, (cfg0.win 12).flush t = true ∧ y ∈ ((cfg0.win 12).blk t).view.set := by
  have h0 : (y 0).val < 65536 := (y 0).isLt
  have h1 : (y 1).val < 1024 := (y 1).isLt
  obtain ⟨t, ht⟩ := pt ((y 0).val / 256) (by omega)
  refine ⟨t, flush0_12 _, ?_⟩
  have h := ((cfg0.win 12).blk t).view.emb_mem_set (ix2 (⟨(y 0).val % 256, by omega⟩ : Fin 256) (⟨(y 1).val, h1⟩ : Fin 1024))
  rw [emb12] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map13 (t : Fin cfg0.N) : win0_13.index t (0 : Fin 2) = t.val ∧ win0_13.index t (1 : Fin 2) = 0 :=
  (by decide +kernel : ∀ t : Fin grid0.N, win0_13.index t (0 : Fin 2) = t.val ∧ win0_13.index t (1 : Fin 2) = 0) t

theorem emb13 (r : Fin 256) (l : Fin 1024) : (((cfg0.win 13).blk t).view.emb (ix2 r l) : S65536x1024.Idx) = ix2 (flatOf t r) l := by
  obtain ⟨e0, e1⟩ := map13 t
  funext a
  apply Fin.ext
  match a with
  | ⟨0, _⟩ => show win0_13.index t (0 : Fin 2) * 256 + 1 * r.val = 256 * t.val + r.val; omega
  | ⟨1, _⟩ => show win0_13.index t (1 : Fin 2) * 1024 + 1 * l.val = l.val; omega

theorem covered13 (y : S65536x1024.Idx) : ∃ t : Fin cfg0.N, (cfg0.win 13).flush t = true ∧ y ∈ ((cfg0.win 13).blk t).view.set := by
  have h0 : (y 0).val < 65536 := (y 0).isLt
  have h1 : (y 1).val < 1024 := (y 1).isLt
  obtain ⟨t, ht⟩ := pt ((y 0).val / 256) (by omega)
  refine ⟨t, flush0_13 _, ?_⟩
  have h := ((cfg0.win 13).blk t).view.emb_mem_set (ix2 (⟨(y 0).val % 256, by omega⟩ : Fin 256) (⟨(y 1).val, h1⟩ : Fin 1024))
  rw [emb13] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map14 (t : Fin cfg0.N) : win0_14.index t (0 : Fin 2) = t.val ∧ win0_14.index t (1 : Fin 2) = 0 :=
  (by decide +kernel : ∀ t : Fin grid0.N, win0_14.index t (0 : Fin 2) = t.val ∧ win0_14.index t (1 : Fin 2) = 0) t

theorem emb14 (r : Fin 256) (l : Fin 1024) : (((cfg0.win 14).blk t).view.emb (ix2 r l) : S65536x1024.Idx) = ix2 (flatOf t r) l := by
  obtain ⟨e0, e1⟩ := map14 t
  funext a
  apply Fin.ext
  match a with
  | ⟨0, _⟩ => show win0_14.index t (0 : Fin 2) * 256 + 1 * r.val = 256 * t.val + r.val; omega
  | ⟨1, _⟩ => show win0_14.index t (1 : Fin 2) * 1024 + 1 * l.val = l.val; omega

theorem covered14 (y : S65536x1024.Idx) : ∃ t : Fin cfg0.N, (cfg0.win 14).flush t = true ∧ y ∈ ((cfg0.win 14).blk t).view.set := by
  have h0 : (y 0).val < 65536 := (y 0).isLt
  have h1 : (y 1).val < 1024 := (y 1).isLt
  obtain ⟨t, ht⟩ := pt ((y 0).val / 256) (by omega)
  refine ⟨t, flush0_14 _, ?_⟩
  have h := ((cfg0.win 14).blk t).view.emb_mem_set (ix2 (⟨(y 0).val % 256, by omega⟩ : Fin 256) (⟨(y 1).val, h1⟩ : Fin 1024))
  rw [emb14] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map6 (t : Fin cfg0.N) : win0_6.index t (0 : Fin 3) = t.val / 32 ∧ win0_6.index t (1 : Fin 3) = 0 ∧ win0_6.index t (2 : Fin 3) = t.val % 32 :=
  (by decide +kernel : ∀ t : Fin grid0.N, win0_6.index t (0 : Fin 3) = t.val / 32 ∧ win0_6.index t (1 : Fin 3) = 0 ∧ win0_6.index t (2 : Fin 3) = t.val % 32) t

theorem emb6 (f : Fin 1024) (r : Fin 256) :
    (((cfg0.win 6).blk t).view.emb (ix3 (0 : Fin 1) f r) : S8x1024x8192.Idx) = ix3 (seqOf t) f (posOf t r) := by
  obtain ⟨e0, e1, e2⟩ := map6 t
  funext a
  apply Fin.ext
  match a with
  | ⟨0, _⟩ => show win0_6.index t (0 : Fin 3) * 1 + 1 * 0 = t.val / 32; omega
  | ⟨1, _⟩ => show win0_6.index t (1 : Fin 3) * 1024 + 1 * f.val = f.val; omega
  | ⟨2, _⟩ => show win0_6.index t (2 : Fin 3) * 256 + 1 * r.val = 256 * (t.val % 32) + r.val; omega

theorem covered6 (y : S8x1024x8192.Idx) : ∃ t : Fin cfg0.N, (cfg0.win 6).flush t = true ∧ y ∈ ((cfg0.win 6).blk t).view.set := by
  have h0 : (y 0).val < 8 := (y 0).isLt
  have h1 : (y 1).val < 1024 := (y 1).isLt
  have h2 : (y 2).val < 8192 := (y 2).isLt
  obtain ⟨t, ht⟩ := pt (32 * (y 0).val + (y 2).val / 256) (by omega)
  refine ⟨t, flush0_6 _, ?_⟩
  have h := ((cfg0.win 6).blk t).view.emb_mem_set
    (ix3 (0 : Fin 1) (⟨(y 1).val, h1⟩ : Fin 1024) (⟨(y 2).val % 256, by omega⟩ : Fin 256))
  rw [emb6] at h
  have ey : y = ix3 (seqOf t) (⟨(y 1).val, h1⟩ : Fin 1024)
      (posOf t (⟨(y 2).val % 256, by omega⟩ : Fin 256)) := by
    funext a
    apply Fin.ext
    match a with
    | ⟨0, _⟩ => show (y 0).val = t.val / 32; omega
    | ⟨1, _⟩ => rfl
    | ⟨2, _⟩ => show (y 2).val = 256 * (t.val % 32) + (y 2).val % 256; omega
  rw [ey]
  exact h

theorem map8 (t : Fin cfg0.N) : win0_8.index t (0 : Fin 3) = t.val / 32 ∧ win0_8.index t (1 : Fin 3) = 0 ∧ win0_8.index t (2 : Fin 3) = t.val % 32 :=
  (by decide +kernel : ∀ t : Fin grid0.N, win0_8.index t (0 : Fin 3) = t.val / 32 ∧ win0_8.index t (1 : Fin 3) = 0 ∧ win0_8.index t (2 : Fin 3) = t.val % 32) t

theorem emb8 (f : Fin 1024) (r : Fin 256) :
    (((cfg0.win 8).blk t).view.emb (ix3 (0 : Fin 1) f r) : S8x1024x8192.Idx) = ix3 (seqOf t) f (posOf t r) := by
  obtain ⟨e0, e1, e2⟩ := map8 t
  funext a
  apply Fin.ext
  match a with
  | ⟨0, _⟩ => show win0_8.index t (0 : Fin 3) * 1 + 1 * 0 = t.val / 32; omega
  | ⟨1, _⟩ => show win0_8.index t (1 : Fin 3) * 1024 + 1 * f.val = f.val; omega
  | ⟨2, _⟩ => show win0_8.index t (2 : Fin 3) * 256 + 1 * r.val = 256 * (t.val % 32) + r.val; omega

theorem covered8 (y : S8x1024x8192.Idx) : ∃ t : Fin cfg0.N, (cfg0.win 8).flush t = true ∧ y ∈ ((cfg0.win 8).blk t).view.set := by
  have h0 : (y 0).val < 8 := (y 0).isLt
  have h1 : (y 1).val < 1024 := (y 1).isLt
  have h2 : (y 2).val < 8192 := (y 2).isLt
  obtain ⟨t, ht⟩ := pt (32 * (y 0).val + (y 2).val / 256) (by omega)
  refine ⟨t, flush0_8 _, ?_⟩
  have h := ((cfg0.win 8).blk t).view.emb_mem_set
    (ix3 (0 : Fin 1) (⟨(y 1).val, h1⟩ : Fin 1024) (⟨(y 2).val % 256, by omega⟩ : Fin 256))
  rw [emb8] at h
  have ey : y = ix3 (seqOf t) (⟨(y 1).val, h1⟩ : Fin 1024)
      (posOf t (⟨(y 2).val % 256, by omega⟩ : Fin 256)) := by
    funext a
    apply Fin.ext
    match a with
    | ⟨0, _⟩ => show (y 0).val = t.val / 32; omega
    | ⟨1, _⟩ => rfl
    | ⟨2, _⟩ => show (y 2).val = 256 * (t.val % 32) + (y 2).val % 256; omega
  rw [ey]
  exact h

theorem map7 (t : Fin cfg0.N) : win0_7.index t (0 : Fin 4) = t.val / 32 ∧ win0_7.index t (1 : Fin 4) = t.val % 32 ∧ win0_7.index t (2 : Fin 4) = 0
    ∧ win0_7.index t (3 : Fin 4) = 0 :=
  (by decide +kernel : ∀ t : Fin grid0.N, win0_7.index t (0 : Fin 4) = t.val / 32 ∧ win0_7.index t (1 : Fin 4) = t.val % 32 ∧ win0_7.index t (2 : Fin 4) = 0
    ∧ win0_7.index t (3 : Fin 4) = 0) t

theorem emb7 (f : Fin 1024) (r : Fin 256) :
    (((cfg0.win 7).blk t).view.emb (ix4 (0 : Fin 1) (0 : Fin 1) f r) : S8x32x1024x256.Idx) = ix4 (seqOf t) (rowOf t) f r := by
  obtain ⟨e0, e1, e2, e3⟩ := map7 t
  funext a
  apply Fin.ext
  match a with
  | ⟨0, _⟩ => show win0_7.index t (0 : Fin 4) * 1 + 1 * 0 = t.val / 32; omega
  | ⟨1, _⟩ => show win0_7.index t (1 : Fin 4) * 1 + 1 * 0 = t.val % 32; omega
  | ⟨2, _⟩ => show win0_7.index t (2 : Fin 4) * 1024 + 1 * f.val = f.val; omega
  | ⟨3, _⟩ => show win0_7.index t (3 : Fin 4) * 256 + 1 * r.val = r.val; omega

theorem covered7 (y : S8x32x1024x256.Idx) : ∃ t : Fin cfg0.N, (cfg0.win 7).flush t = true ∧ y ∈ ((cfg0.win 7).blk t).view.set := by
  have h0 : (y 0).val < 8 := (y 0).isLt
  have h1 : (y 1).val < 32 := (y 1).isLt
  have h2 : (y 2).val < 1024 := (y 2).isLt
  have h3 : (y 3).val < 256 := (y 3).isLt
  obtain ⟨t, ht⟩ := pt (32 * (y 0).val + (y 1).val) (by omega)
  refine ⟨t, flush0_7 _, ?_⟩
  have h := ((cfg0.win 7).blk t).view.emb_mem_set
    (ix4 (0 : Fin 1) (0 : Fin 1) (⟨(y 2).val, h2⟩ : Fin 1024) (⟨(y 3).val, h3⟩ : Fin 256))
  rw [emb7] at h
  have ey : y = ix4 (seqOf t) (rowOf t)
      (⟨(y 2).val, h2⟩ : Fin 1024) (⟨(y 3).val, h3⟩ : Fin 256) := by
    funext a
    apply Fin.ext
    match a with
    | ⟨0, _⟩ => show (y 0).val = t.val / 32; omega
    | ⟨1, _⟩ => show (y 1).val = (t.val % 32); omega
    | ⟨2, _⟩ => rfl
    | ⟨3, _⟩ => rfl
  rw [ey]
  exact h

theorem map9 (t : Fin cfg0.N) : win0_9.index t (0 : Fin 4) = t.val / 32 ∧ win0_9.index t (1 : Fin 4) = t.val % 32 ∧ win0_9.index t (2 : Fin 4) = 0
    ∧ win0_9.index t (3 : Fin 4) = 0 :=
  (by decide +kernel : ∀ t : Fin grid0.N, win0_9.index t (0 : Fin 4) = t.val / 32 ∧ win0_9.index t (1 : Fin 4) = t.val % 32 ∧ win0_9.index t (2 : Fin 4) = 0
    ∧ win0_9.index t (3 : Fin 4) = 0) t

theorem emb9 (f : Fin 1024) (r : Fin 256) :
    (((cfg0.win 9).blk t).view.emb (ix4 (0 : Fin 1) (0 : Fin 1) f r) : S8x32x1024x256.Idx) = ix4 (seqOf t) (rowOf t) f r := by
  obtain ⟨e0, e1, e2, e3⟩ := map9 t
  funext a
  apply Fin.ext
  match a with
  | ⟨0, _⟩ => show win0_9.index t (0 : Fin 4) * 1 + 1 * 0 = t.val / 32; omega
  | ⟨1, _⟩ => show win0_9.index t (1 : Fin 4) * 1 + 1 * 0 = t.val % 32; omega
  | ⟨2, _⟩ => show win0_9.index t (2 : Fin 4) * 1024 + 1 * f.val = f.val; omega
  | ⟨3, _⟩ => show win0_9.index t (3 : Fin 4) * 256 + 1 * r.val = r.val; omega

theorem covered9 (y : S8x32x1024x256.Idx) : ∃ t : Fin cfg0.N, (cfg0.win 9).flush t = true ∧ y ∈ ((cfg0.win 9).blk t).view.set := by
  have h0 : (y 0).val < 8 := (y 0).isLt
  have h1 : (y 1).val < 32 := (y 1).isLt
  have h2 : (y 2).val < 1024 := (y 2).isLt
  have h3 : (y 3).val < 256 := (y 3).isLt
  obtain ⟨t, ht⟩ := pt (32 * (y 0).val + (y 1).val) (by omega)
  refine ⟨t, flush0_9 _, ?_⟩
  have h := ((cfg0.win 9).blk t).view.emb_mem_set
    (ix4 (0 : Fin 1) (0 : Fin 1) (⟨(y 2).val, h2⟩ : Fin 1024) (⟨(y 3).val, h3⟩ : Fin 256))
  rw [emb9] at h
  have ey : y = ix4 (seqOf t) (rowOf t)
      (⟨(y 2).val, h2⟩ : Fin 1024) (⟨(y 3).val, h3⟩ : Fin 256) := by
    funext a
    apply Fin.ext
    match a with
    | ⟨0, _⟩ => show (y 0).val = t.val / 32; omega
    | ⟨1, _⟩ => show (y 1).val = (t.val % 32); omega
    | ⟨2, _⟩ => rfl
    | ⟨3, _⟩ => rfl
  rw [ey]
  exact h

/-- A block is its part of an array when it is so element by element. -/
theorem block2 (B : (⟨2, ![256, 1024]⟩ : Shape).Idx → EReal) (E : (⟨2, ![256, 1024]⟩ : Shape).Idx → (⟨2, ![65536, 1024]⟩ : Shape).Idx)
    (f : Fin 65536 → Fin 1024 → EReal) (hE : ∀ r l, E (ix2 r l) = ix2 (flatOf t r) l) (hB : ∀ r l, B (ix2 r l) = f (flatOf t r) l)
    (y : (⟨2, ![256, 1024]⟩ : Shape).Idx) : B y = arr2 f (E y) :=
  (congrArg B (eta2 y)).trans ((hB (y 0) (y 1)).trans (congrArg (arr2 f) ((congrArg E (eta2 y)).trans (hE (y 0) (y 1)))).symm)

theorem block3 (B : (⟨3, ![1, 1024, 256]⟩ : Shape).Idx → EReal) (E : (⟨3, ![1, 1024, 256]⟩ : Shape).Idx → (⟨3, ![8, 1024, 8192]⟩ : Shape).Idx)
    (f : Fin 8 → Fin 1024 → Fin 8192 → EReal) (hE : ∀ a r, E (ix3 (0 : Fin 1) a r) = ix3 (seqOf t) a (posOf t r))
    (hB : ∀ a r, B (ix3 (0 : Fin 1) a r) = f (seqOf t) a (posOf t r)) (y : (⟨3, ![1, 1024, 256]⟩ : Shape).Idx) : B y = arr3 f (E y) := by
  have ey : y = ix3 (0 : Fin 1) (y 1) (y 2) := by
    funext i
    match i with
    | ⟨0, _⟩ => exact Fin.ext (by have h : (y 0).val < 1 := (y 0).isLt; show (y 0).val = 0; omega)
    | ⟨1, _⟩ => rfl
    | ⟨2, _⟩ => rfl
  exact (congrArg B ey).trans ((hB (y 1) (y 2)).trans (congrArg (arr3 f) ((congrArg E ey).trans (hE (y 1) (y 2)))).symm)

theorem block4 (B : (⟨4, ![1, 1, 1024, 256]⟩ : Shape).Idx → EReal) (E : (⟨4, ![1, 1, 1024, 256]⟩ : Shape).Idx → (⟨4, ![8, 32, 1024, 256]⟩ : Shape).Idx)
    (f : Fin 8 → Fin 32 → Fin 1024 → Fin 256 → EReal) (hE : ∀ a r, E (ix4 (0 : Fin 1) (0 : Fin 1) a r) = ix4 (seqOf t) (rowOf t) a r)
    (hB : ∀ a r, B (ix4 (0 : Fin 1) (0 : Fin 1) a r) = f (seqOf t) (rowOf t) a r) (y : (⟨4, ![1, 1, 1024, 256]⟩ : Shape).Idx) : B y = arr4 f (E y) := by
  have ey : y = ix4 (0 : Fin 1) (0 : Fin 1) (y 2) (y 3) := by
    funext i
    match i with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  exact (congrArg B ey).trans ((hB (y 2) (y 3)).trans (congrArg (arr4 f) ((congrArg E ey).trans (hE (y 2) (y 3)))).symm)

/-- The gated block, as a function of a block's index. -/
def gatedAt (y : S256x1024.Idx) : EReal := gated (prods m c) (flatOf t (y 0)) (y 1)

theorem right (x : S256x512.Idx) :
    k0_pay16 (F := Ideal) (rowsAt m c t) (k0_pay15 (matAt m c t inb_S9x1024x1024_S1x1024x1024_5_0_0)) (constant S256x1024 .f32 0x00000000#32) x = gatedAt m c t ((Rect.unit (s := S256x1024) ![0, 512] S256x512.size inb_S256x1024_S256x512_0_512).emb x) := by
  have e0 : flatOf t (x 0) = flatOf t ((Rect.unit (s := S256x1024) ![0, 512] S256x512.size inb_S256x1024_S256x512_0_512).emb x 0) :=
    congrArg (flatOf t) (Fin.ext (by show (x 0).val = 0 + 1 * (x 0).val; omega))
  have key : ∀ (r : Fin 256) (l : Fin 512), k0_pay16 (F := Ideal) (rowsAt m c t) (k0_pay15 (matAt m c t inb_S9x1024x1024_S1x1024x1024_5_0_0)) (constant S256x1024 .f32 0x00000000#32) (ix2 r l)
      = gated (prods m c) (flatOf t r) (⟨512 + l.val, by omega⟩ : Fin 1024) := fun r l => by
    refine (glu1_apply _ _ r l).trans ?_
    rw [dot5_left, dot5_right]
    rfl

  refine (congrArg _ (eta2 (a := 256) (b := 512) x)).trans ((key (x 0) (x 1)).trans ?_)
  unfold gatedAt
  exact congrArg₂ (gated (prods m c)) e0 (Fin.ext (by show 512 + (x 1).val = 512 + 1 * (x 1).val; omega))

theorem left (x : S256x512.Idx) :
    k0_pay14 (F := Ideal) (rowsAt m c t) (matAt m c t inb_S9x1024x1024_S1x1024x1024_4_0_0) x = gatedAt m c t ((Rect.unit (s := S256x1024) ![0, 0] S256x512.size inb_S256x1024_S256x512_0_0).emb x) := by
  have e0 : flatOf t (x 0) = flatOf t ((Rect.unit (s := S256x1024) ![0, 0] S256x512.size inb_S256x1024_S256x512_0_0).emb x 0) :=
    congrArg (flatOf t) (Fin.ext (by show (x 0).val = 0 + 1 * (x 0).val; omega))
  have key : ∀ (r : Fin 256) (l : Fin 512), k0_pay14 (F := Ideal) (rowsAt m c t) (matAt m c t inb_S9x1024x1024_S1x1024x1024_4_0_0) (ix2 r l)
      = gated (prods m c) (flatOf t r) (⟨0 + l.val, by omega⟩ : Fin 1024) := fun r l => by
    refine (glu0_apply _ _ r l).trans ?_
    rw [dot4_left, dot4_right]
    unfold gated
    rw [show (⟨0 + l.val, by omega⟩ : Fin 1024) = ⟨l.val, by omega⟩ from Fin.ext (Nat.zero_add _)]
  refine (congrArg _ (eta2 (a := 256) (b := 512) x)).trans ((key (x 0) (x 1)).trans ?_)
  unfold gatedAt
  exact congrArg₂ (gated (prods m c)) e0 (Fin.ext (by show 0 + (x 1).val = 0 + 1 * (x 1).val; omega))

/-- The gated block, from its two halves. -/
theorem gated_apply (r : Fin 256) (l : Fin 1024) :
    View.canon (Val := Elt Ideal) [(⟨Rect.unit (s := S256x1024) ![0, 512] S256x512.size inb_S256x1024_S256x512_0_512,
          k0_pay16 (F := Ideal) (rowsAt m c t) (k0_pay15 (matAt m c t inb_S9x1024x1024_S1x1024x1024_5_0_0)) (constant S256x1024 .f32 0x00000000#32)⟩ : View.Piece (Elt Ideal) S256x1024 .f32),
        ⟨Rect.unit (s := S256x1024) ![0, 0] S256x512.size inb_S256x1024_S256x512_0_0, k0_pay14 (F := Ideal) (rowsAt m c t) (matAt m c t inb_S9x1024x1024_S1x1024x1024_4_0_0)⟩] (ix2 r l)
      = gated (prods m c) (flatOf t r) l := by
  refine (View.canon_apply_of_pieces (Val := Elt Ideal) (S := S256x1024) (e := .f32) (gatedAt m c t) _ ?_ (ix2 r l) ?_).trans rfl
  · intro p hp
    simp only [List.mem_cons, List.not_mem_nil, or_false] at hp
    obtain rfl | rfl := hp
    · exact right m c t
    · exact left m c t
  · have hr := r.isLt
    have hl := l.isLt
    have inside : ∀ (n : ℕ) (inb), n ≤ l.val → l.val < n + 512 → ix2 r l ∈ (Rect.unit (s := S256x1024) ![0, n] S256x512.size inb).set := fun n inb h h' => by
      rw [Rect.mem_set_unit]
      intro a
      match a with
      | ⟨0, _⟩ => exact ⟨Nat.zero_le _, by show r.val < 0 + 256; omega⟩
      | ⟨1, _⟩ => exact ⟨h, h'⟩
    by_cases h1 : 512 ≤ l.val
    · exact ⟨_, .head _, inside 512 inb_S256x1024_S256x512_0_512 h1 (by omega)⟩
    · exact ⟨_, .tail _ (.head _), inside 0 inb_S256x1024_S256x512_0_0 (Nat.zero_le _) (by omega)⟩

theorem flushed5_eq : (dats m 0 c).flushed 5 t = ((cfg0.win 5).blk t).view.read (Elt Ideal) (arr2 (queries (prods m c)) : FVec Ideal S65536x1024 .bf16) := by
  rw [flushed5_A, out_5]
  funext y
  exact block2 t _ (fun x => ((cfg0.win 5).blk t).view.emb x) (queries (prods m c)) (emb5 t) (fun r l => by
    refine (q_apply _ _ r l).trans ?_
    rw [dot0]
    rfl) y

theorem final5 : (dats m 0 c).arrAt 5 cfg0.N = (arr2 (queries (prods m c)) : FVec Ideal S65536x1024 .bf16) :=
  (dats m 0 c).arrAt_eq_of_cover 5 (arr2 (queries (prods m c)) : FVec Ideal S65536x1024 .bf16) (fun t _ => flushed5_eq m c t) covered5

theorem flushed6_eq : (dats m 0 c).flushed 6 t = ((cfg0.win 6).blk t).view.read (Elt Ideal) (arr3 (across (prods m c) 1) : FVec Ideal S8x1024x8192 .f32) := by
  rw [flushed6_A, out_6]
  funext y
  exact block3 t _ (fun x => ((cfg0.win 6).blk t).view.emb x) (across (prods m c) 1) (emb6 t) (fun r l => by
    refine (kt_apply _ _ r l).trans ?_
    rw [dot1]) y

theorem final6 : (dats m 0 c).arrAt 6 cfg0.N = (arr3 (across (prods m c) 1) : FVec Ideal S8x1024x8192 .f32) :=
  (dats m 0 c).arrAt_eq_of_cover 6 (arr3 (across (prods m c) 1) : FVec Ideal S8x1024x8192 .f32) (fun t _ => flushed6_eq m c t) covered6

theorem flushed7_eq : (dats m 0 c).flushed 7 t = ((cfg0.win 7).blk t).view.read (Elt Ideal) (arr4 (blocked (prods m c) 1) : FVec Ideal S8x32x1024x256 .bf16) := by
  rw [flushed7_A, out_7]
  funext y
  exact block4 t _ (fun x => ((cfg0.win 7).blk t).view.emb x) (blocked (prods m c) 1) (emb7 t) (fun r l => by
    refine (ktb_apply _ _ r l).trans ?_
    rw [dot1]
    rfl) y

theorem final7 : (dats m 0 c).arrAt 7 cfg0.N = (arr4 (blocked (prods m c) 1) : FVec Ideal S8x32x1024x256 .bf16) :=
  (dats m 0 c).arrAt_eq_of_cover 7 (arr4 (blocked (prods m c) 1) : FVec Ideal S8x32x1024x256 .bf16) (fun t _ => flushed7_eq m c t) covered7

theorem flushed8_eq : (dats m 0 c).flushed 8 t = ((cfg0.win 8).blk t).view.read (Elt Ideal) (arr3 (across (prods m c) 2) : FVec Ideal S8x1024x8192 .f32) := by
  rw [flushed8_A, out_8]
  funext y
  exact block3 t _ (fun x => ((cfg0.win 8).blk t).view.emb x) (across (prods m c) 2) (emb8 t) (fun r l => by
    refine (vt_apply _ _ r l).trans ?_
    rw [dot2]) y

theorem final8 : (dats m 0 c).arrAt 8 cfg0.N = (arr3 (across (prods m c) 2) : FVec Ideal S8x1024x8192 .f32) :=
  (dats m 0 c).arrAt_eq_of_cover 8 (arr3 (across (prods m c) 2) : FVec Ideal S8x1024x8192 .f32) (fun t _ => flushed8_eq m c t) covered8

theorem flushed9_eq : (dats m 0 c).flushed 9 t = ((cfg0.win 9).blk t).view.read (Elt Ideal) (arr4 (blocked (prods m c) 2) : FVec Ideal S8x32x1024x256 .bf16) := by
  rw [flushed9_A, out_9]
  funext y
  exact block4 t _ (fun x => ((cfg0.win 9).blk t).view.emb x) (blocked (prods m c) 2) (emb9 t) (fun r l => by
    refine (vtb_apply _ _ r l).trans ?_
    rw [dot2]
    rfl) y

theorem final9 : (dats m 0 c).arrAt 9 cfg0.N = (arr4 (blocked (prods m c) 2) : FVec Ideal S8x32x1024x256 .bf16) :=
  (dats m 0 c).arrAt_eq_of_cover 9 (arr4 (blocked (prods m c) 2) : FVec Ideal S8x32x1024x256 .bf16) (fun t _ => flushed9_eq m c t) covered9

theorem flushed10_eq : (dats m 0 c).flushed 10 t = ((cfg0.win 10).blk t).view.read (Elt Ideal) (arr2 (silu (prods m c) 3) : FVec Ideal S65536x1024 .bf16) := by
  rw [flushed10_A, out_10]
  funext y
  exact block2 t _ (fun x => ((cfg0.win 10).blk t).view.emb x) (silu (prods m c) 3) (emb10 t) (fun r l => by
    refine (sga_apply _ _ r l).trans ?_
    rw [dot3]
    rfl) y

theorem final10 : (dats m 0 c).arrAt 10 cfg0.N = (arr2 (silu (prods m c) 3) : FVec Ideal S65536x1024 .bf16) :=
  (dats m 0 c).arrAt_eq_of_cover 10 (arr2 (silu (prods m c) 3) : FVec Ideal S65536x1024 .bf16) (fun t _ => flushed10_eq m c t) covered10

theorem flushed11_eq : (dats m 0 c).flushed 11 t = ((cfg0.win 11).blk t).view.read (Elt Ideal) (arr2 (gated (prods m c)) : FVec Ideal S65536x1024 .f32) := by
  rw [flushed11_A, out_11]
  funext y
  exact block2 t _ (fun x => ((cfg0.win 11).blk t).view.emb x) (gated (prods m c)) (emb11 t) (fun r l => gated_apply m c t r l) y

theorem final11 : (dats m 0 c).arrAt 11 cfg0.N = (arr2 (gated (prods m c)) : FVec Ideal S65536x1024 .f32) :=
  (dats m 0 c).arrAt_eq_of_cover 11 (arr2 (gated (prods m c)) : FVec Ideal S65536x1024 .f32) (fun t _ => flushed11_eq m c t) covered11

theorem flushed12_eq : (dats m 0 c).flushed 12 t = ((cfg0.win 12).blk t).view.read (Elt Ideal) (arr2 (silu (prods m c) 6) : FVec Ideal S65536x1024 .bf16) := by
  rw [flushed12_A, out_12]
  funext y
  exact block2 t _ (fun x => ((cfg0.win 12).blk t).view.emb x) (silu (prods m c) 6) (emb12 t) (fun r l => by
    refine (sgc_apply _ _ r l).trans ?_
    rw [dot6]
    rfl) y

theorem final12 : (dats m 0 c).arrAt 12 cfg0.N = (arr2 (silu (prods m c) 6) : FVec Ideal S65536x1024 .bf16) :=
  (dats m 0 c).arrAt_eq_of_cover 12 (arr2 (silu (prods m c) 6) : FVec Ideal S65536x1024 .bf16) (fun t _ => flushed12_eq m c t) covered12

theorem flushed13_eq : (dats m 0 c).flushed 13 t = ((cfg0.win 13).blk t).view.read (Elt Ideal) (arr2 (gate (prods m c) 7) : FVec Ideal S65536x1024 .bf16) := by
  rw [flushed13_A, out_13]
  funext y
  exact block2 t _ (fun x => ((cfg0.win 13).blk t).view.emb x) (gate (prods m c) 7) (emb13 t) (fun r l => by
    refine (sma_apply _ _ r l).trans ?_
    rw [dot7]
    rfl) y

theorem final13 : (dats m 0 c).arrAt 13 cfg0.N = (arr2 (gate (prods m c) 7) : FVec Ideal S65536x1024 .bf16) :=
  (dats m 0 c).arrAt_eq_of_cover 13 (arr2 (gate (prods m c) 7) : FVec Ideal S65536x1024 .bf16) (fun t _ => flushed13_eq m c t) covered13

theorem flushed14_eq : (dats m 0 c).flushed 14 t = ((cfg0.win 14).blk t).view.read (Elt Ideal) (arr2 (gate (prods m c) 8) : FVec Ideal S65536x1024 .bf16) := by
  rw [flushed14_A, out_14]
  funext y
  exact block2 t _ (fun x => ((cfg0.win 14).blk t).view.emb x) (gate (prods m c) 8) (emb14 t) (fun r l => by
    refine (smc_apply _ _ r l).trans ?_
    rw [dot8]
    rfl) y

theorem final14 : (dats m 0 c).arrAt 14 cfg0.N = (arr2 (gate (prods m c) 8) : FVec Ideal S65536x1024 .bf16) :=
  (dats m 0 c).arrAt_eq_of_cover 14 (arr2 (gate (prods m c) 8) : FVec Ideal S65536x1024 .bf16) (fun t _ => flushed14_eq m c t) covered14

end Cert.ProjectionIdeal.Value

end
-- ==== Proof.ProjAlgebraic.lean ====
/-
  The projection kernel and its reference compute the same ten arrays over the extended reals.
-/
module

public import proofs.«01_k».proof.Defs
public import proofs.«01_k».proof.Proof.Gen.ProjectedIdeal.Run
public import proofs.«01_k».proof.Proof.ProjRef
public import proofs.«01_k».proof.Proof.ProjArray

@[expose] public section

set_option maxRecDepth 16384

noncomputable section

namespace Cert.Proof

open Idealize.ShloMosaic Idealize.SL.Sem

/-- From equal arguments the projection kernel and its reference end with equal results. -/
theorem algebraicProjection : Cert.algebraic_ProjectionIdeal_ProjectedIdeal := fun m g m' g' _ hargs => by
  refine ⟨fun c => Proj.arr2 (Proj.queries (Cert.ProjectionIdeal.Value.prods m c)),
    fun c => Proj.arr3 (Proj.across (Cert.ProjectionIdeal.Value.prods m c) 1),
    fun c => Proj.arr4 (Proj.blocked (Cert.ProjectionIdeal.Value.prods m c) 1),
    fun c => Proj.arr3 (Proj.across (Cert.ProjectionIdeal.Value.prods m c) 2),
    fun c => Proj.arr4 (Proj.blocked (Cert.ProjectionIdeal.Value.prods m c) 2),
    fun c => Proj.arr2 (Proj.silu (Cert.ProjectionIdeal.Value.prods m c) 3),
    fun c => Proj.arr2 (Proj.gated (Cert.ProjectionIdeal.Value.prods m c)),
    fun c => Proj.arr2 (Proj.silu (Cert.ProjectionIdeal.Value.prods m c) 6),
    fun c => Proj.arr2 (Proj.gate (Cert.ProjectionIdeal.Value.prods m c) 7),
    fun c => Proj.arr2 (Proj.gate (Cert.ProjectionIdeal.Value.prods m c) 8), ?_, ?_⟩
  · refine (θ_run _ _ _).mono (fun r h c => ?_) (Cert.ProjectionIdeal.Value.run_blocks m g)
    obtain ⟨h0, h1, h2, h3, h4, h5, h6, h7, h8, h9, ha⟩ := h c
    exact ⟨h0.trans (Cert.ProjectionIdeal.Value.final5 m c), h1.trans (Cert.ProjectionIdeal.Value.final6 m c), h2.trans (Cert.ProjectionIdeal.Value.final7 m c), h3.trans (Cert.ProjectionIdeal.Value.final8 m c), h4.trans (Cert.ProjectionIdeal.Value.final9 m c), h5.trans (Cert.ProjectionIdeal.Value.final10 m c), h6.trans (Cert.ProjectionIdeal.Value.final11 m c), h7.trans (Cert.ProjectionIdeal.Value.final12 m c), h8.trans (Cert.ProjectionIdeal.Value.final13 m c), h9.trans (Cert.ProjectionIdeal.Value.final14 m c), ha⟩
  · refine (θ_run _ _ _).mono (fun r h c => ?_) (Cert.ProjectedIdeal.Value.run m' g')
    have e : Proj.lanes (m' ((c.tc : Thread Cert.ProjectedIdeal.nD Cert.ProjectedIdeal.τ).loc Cert.ProjectedIdeal.main_arg0)) (m' ((c.tc : Thread Cert.ProjectedIdeal.nD Cert.ProjectedIdeal.τ).loc Cert.ProjectedIdeal.main_arg1)) (m' ((c.tc : Thread Cert.ProjectedIdeal.nD Cert.ProjectedIdeal.τ).loc Cert.ProjectedIdeal.main_arg2)) (m' ((c.tc : Thread Cert.ProjectedIdeal.nD Cert.ProjectedIdeal.τ).loc Cert.ProjectedIdeal.main_arg3)) (m' ((c.tc : Thread Cert.ProjectedIdeal.nD Cert.ProjectedIdeal.τ).loc Cert.ProjectedIdeal.main_arg4)) = Cert.ProjectionIdeal.Value.prods m c := by
      obtain ⟨e0, e1, e2, e3, e4⟩ := hargs c
      rw [e0, e1, e2, e3, e4]
      rfl
    obtain ⟨h0, h1, h2, h3, h4, h5, h6, h7, h8, h9, ha⟩ := h c
    exact ⟨(h0.trans (Cert.ProjectedIdeal.Value.res0 _ _ _ _ _)).trans (congrArg (fun P => Proj.arr2 (Proj.queries P)) e),
      (h1.trans (Cert.ProjectedIdeal.Value.res1 _ _ _ _ _)).trans (congrArg (fun P => Proj.arr3 (Proj.across P 1)) e),
      (h2.trans (Cert.ProjectedIdeal.Value.res2 _ _ _ _ _)).trans (congrArg (fun P => Proj.arr4 (Proj.blocked P 1)) e),
      (h3.trans (Cert.ProjectedIdeal.Value.res3 _ _ _ _ _)).trans (congrArg (fun P => Proj.arr3 (Proj.across P 2)) e),
      (h4.trans (Cert.ProjectedIdeal.Value.res4 _ _ _ _ _)).trans (congrArg (fun P => Proj.arr4 (Proj.blocked P 2)) e),
      (h5.trans (Cert.ProjectedIdeal.Value.res5 _ _ _ _ _)).trans (congrArg (fun P => Proj.arr2 (Proj.silu P 3)) e),
      (h6.trans (Cert.ProjectedIdeal.Value.res6 _ _ _ _ _)).trans (congrArg (fun P => Proj.arr2 (Proj.gated P)) e),
      (h7.trans (Cert.ProjectedIdeal.Value.res7 _ _ _ _ _)).trans (congrArg (fun P => Proj.arr2 (Proj.silu P 6)) e),
      (h8.trans (Cert.ProjectedIdeal.Value.res8 _ _ _ _ _)).trans (congrArg (fun P => Proj.arr2 (Proj.gate P 7)) e),
      (h9.trans (Cert.ProjectedIdeal.Value.res9 _ _ _ _ _)).trans (congrArg (fun P => Proj.arr2 (Proj.gate P 8)) e), ha⟩

end Cert.Proof

end
-- ==== Proof.SampSpec.lean ====
/-
  The projections of the sample group as mathematics. Four positions of each of 128 sequences stand one after another, all
  sequences' first positions before the second ones: row `r` is position `r / 128` of sequence `r % 128`. The ten arrays
  are those of the prompt, with all 512 rows as one sequence.
-/
module

public import proofs.«01_k».proof.Proof.ProjSpec

@[expose] public section

noncomputable section

namespace Cert.Samp

open Idealize.ShloMosaic
open Cert.Proj (Gain Wide logi)

/-- The activations: sequence, position, feature. -/
abbrev Acts := (⟨3, ![128, 4, 1024]⟩ : Shape).Idx → EReal

/-- A shift or a scale for each sequence. -/
abbrev Mods := (⟨2, ![128, 1024]⟩ : Shape).Idx → EReal

/-- One number for each row and column of the wide matrix. -/
abbrev Lanes := Fin 512 → Fin 9216 → EReal

variable (x : Acts) (sh sc : Mods) (g : Gain) (w : Wide)

/-- One normalized and modulated feature. -/
def hid (n : Fin 128) (p : Fin 4) (c : Fin 1024) : EReal :=
  x (ix3 n p c) * Ideal.rsqrt (Ideal.div (∑ k : Fin 1024, x (ix3 n p k) * x (ix3 n p k)) (Ideal.ofBits .f32 0x44800000#32) + Ideal.ofBits .f32 0x358637BD#32)
    * g (ix1 c) * (1 + sc (ix2 n c)) + sh (ix2 n c)

/-- A position's product with a column. -/
def prod (n : Fin 128) (p : Fin 4) (l : Fin 9216) : EReal := ∑ c : Fin 1024, hid x sh sc g n p c * w (ix2 c l)

/-- A row's sequence and position. -/
def seq (r : Fin 512) : Fin 128 := ⟨r.val % 128, by omega⟩
def pos (r : Fin 512) : Fin 4 := ⟨r.val / 128, by omega⟩

/-- The products, row by row. -/
def lanes : Lanes := fun r l => prod x sh sc g w (seq r) (pos r) l

variable (Y : Lanes)

/-- Column `l` of projection `j`. -/
def at2 (j : Fin 9) (r : Fin 512) (l : Fin 1024) : EReal := Y r (⟨1024 * j.val + l.val, by omega⟩ : Fin 9216)

/-- The queries, scaled by one eighth. -/
def queries (r : Fin 512) (l : Fin 1024) : EReal := at2 Y 0 r l * Ideal.ofBits .f32 0x3E000000#32

/-- Features by rows: the keys and the values. -/
def across (j : Fin 9) (_ : Fin 1) (f : Fin 1024) (r : Fin 512) : EReal := at2 Y j r f

/-- The same in blocks of 256 rows. -/
def blocked (j : Fin 9) (n : Fin 1) (i : Fin 2) (f : Fin 1024) (e : Fin 256) : EReal :=
  across Y j n f (⟨256 * i.val + e.val, by omega⟩ : Fin 512)

/-- A projection times its own logistic. -/
def silu (j : Fin 9) (r : Fin 512) (l : Fin 1024) : EReal := at2 Y j r l * logi (at2 Y j r l)

/-- The fifth projection gated by the sixth. -/
def gated (r : Fin 512) (l : Fin 1024) : EReal := at2 Y 4 r l * logi (at2 Y 5 r l)

/-- A projection's logistic. -/
def gate (j : Fin 9) (r : Fin 512) (l : Fin 1024) : EReal := logi (at2 Y j r l)

end Cert.Samp

end
-- ==== Proof.SampRef.lean ====
/-
  The projections' reference, read element by element.
-/
module

public import proofs.«01_k».proof.Proof.Gen.SampledIdeal
public import proofs.«01_k».proof.Proof.SampSpec

@[expose] public section

set_option maxRecDepth 16384

noncomputable section

namespace Cert.SampledIdeal.Value

open Cert.SampledIdeal Cert.SampledIdeal.Gen Idealize.ShloMosaic Idealize.ShloMosaic.TcCoe

/-- The normalized and modulated rows. -/
def hidden (x : FVec Ideal S128x4x1024 .f32) (sh sc : FVec Ideal S128x1024 .f32) (g : FVec Ideal S1024 .f32) : FVec Ideal S128x4x1024 .f32 :=
  addf (mulf (mulf (mulf x (broadcastInDim S128x4x1024 ![0, 1, 2] bcast_S128x4x1_S128x4x1024_0_1_2
      (Host.rsqrt (addf (Host.divf (broadcastInDim S128x4x1 ![0, 1] bcast_S128x4_S128x4x1_0_1
          (Host.reduceAdd (mulf x x) (constant S_ .f32 0x00000000#32) reducesTo_S128x4x1024_S128x4_d2 h_S_))
        (broadcastInDim S128x4x1 ![] bcast_S_S128x4x1 (constant S_ .f32 0x44800000#32)))
        (broadcastInDim S128x4x1 ![] bcast_S_S128x4x1 (constant S_ .f32 0x358637BD#32))))))
      (broadcastInDim S128x4x1024 ![0, 1, 2] bcast_S1x1x1024_S128x4x1024_0_1_2 (broadcastInDim S1x1x1024 ![2] bcast_S1024_S1x1x1024_2 g)))
      (broadcastInDim S128x4x1024 ![0, 1, 2] bcast_S128x1x1024_S128x4x1024_0_1_2
        (addf (broadcastInDim S128x1x1024 ![] bcast_S_S128x1x1024 (constant S_ .f32 0x3F800000#32)) (broadcastInDim S128x1x1024 ![0, 2] bcast_S128x1024_S128x1x1024_0_2 sc))))
    (broadcastInDim S128x4x1024 ![0, 1, 2] bcast_S128x1x1024_S128x4x1024_0_1_2 (broadcastInDim S128x1x1024 ![0, 2] bcast_S128x1024_S128x1x1024_0_2 sh))

/-- All nine projections of rows, side by side. -/
def lanes (h : FVec Ideal S128x4x1024 .f32) (w : FVec Ideal S1024x9216 .f32) : FVec Ideal S128x4x9216 .f32 :=
  Host.dotGeneral dot_S128x4x1024_S1024x9216_S128x4x9216_2_0_01_1_n_n none h w

def ones : FVec Ideal S128x4x1024 .f32 := broadcastInDim S128x4x1024 ![] bcast_S_S128x4x1024 (constant S_ .f32 0x3F800000#32)

/-- The logistic function. -/
def logistic (y : FVec Ideal S128x4x1024 .f32) : FVec Ideal S128x4x1024 .f32 :=
  Host.divf ones (addf ones (Host.exp (Host.negf y)))

/-- One of the nine projections. -/
def col0 (P : FVec Ideal S128x4x9216 .f32) : FVec Ideal S128x4x1024 .f32 := extractStridedSlice S128x4x1024 ![0, 0, 0] P slices_S128x4x9216_S128x4x1024_0_0_0
def col1 (P : FVec Ideal S128x4x9216 .f32) : FVec Ideal S128x4x1024 .f32 := extractStridedSlice S128x4x1024 ![0, 0, 1024] P slices_S128x4x9216_S128x4x1024_0_0_1024
def col2 (P : FVec Ideal S128x4x9216 .f32) : FVec Ideal S128x4x1024 .f32 := extractStridedSlice S128x4x1024 ![0, 0, 2048] P slices_S128x4x9216_S128x4x1024_0_0_2048
def col3 (P : FVec Ideal S128x4x9216 .f32) : FVec Ideal S128x4x1024 .f32 := extractStridedSlice S128x4x1024 ![0, 0, 3072] P slices_S128x4x9216_S128x4x1024_0_0_3072
def col4 (P : FVec Ideal S128x4x9216 .f32) : FVec Ideal S128x4x1024 .f32 := extractStridedSlice S128x4x1024 ![0, 0, 4096] P slices_S128x4x9216_S128x4x1024_0_0_4096
def col5 (P : FVec Ideal S128x4x9216 .f32) : FVec Ideal S128x4x1024 .f32 := extractStridedSlice S128x4x1024 ![0, 0, 5120] P slices_S128x4x9216_S128x4x1024_0_0_5120
def col6 (P : FVec Ideal S128x4x9216 .f32) : FVec Ideal S128x4x1024 .f32 := extractStridedSlice S128x4x1024 ![0, 0, 6144] P slices_S128x4x9216_S128x4x1024_0_0_6144
def col7 (P : FVec Ideal S128x4x9216 .f32) : FVec Ideal S128x4x1024 .f32 := extractStridedSlice S128x4x1024 ![0, 0, 7168] P slices_S128x4x9216_S128x4x1024_0_0_7168
def col8 (P : FVec Ideal S128x4x9216 .f32) : FVec Ideal S128x4x1024 .f32 := extractStridedSlice S128x4x1024 ![0, 0, 8192] P slices_S128x4x9216_S128x4x1024_0_0_8192

/-- All rows of all sequences, one after another. -/
def flat (y : FVec Ideal S128x4x1024 .f32) : FVec Ideal S512x1024 .f32 := shapeCast _ (transpose S4x128x1024 [1, 0, 2] y transposes_S128x4x1024_S4x128x1024_1_0_2) shapeCasts_S4x128x1024_S512x1024

def narrow (y : FVec Ideal S512x1024 .f32) : FVec Ideal S512x1024 .bf16 := truncf .bf16 y bitsLt_bf16_f32

def eighth (y : FVec Ideal S128x4x1024 .f32) : FVec Ideal S128x4x1024 .f32 :=
  mulf y (broadcastInDim S128x4x1024 ![] bcast_S_S128x4x1024 (constant S_ .f32 0x3E000000#32))

/-- Features by positions. -/
def turned (y : FVec Ideal S128x4x1024 .f32) : FVec Ideal S1x1024x512 .f32 :=
  shapeCast _ (transpose S1024x4x128 [2, 1, 0] y transposes_S128x4x1024_S1024x4x128_2_1_0) shapeCasts_S1024x4x128_S1x1024x512

/-- Features by positions in blocks. -/
def turnedBlocks (y : FVec Ideal S128x4x1024 .f32) : FVec Ideal S1x2x1024x256 .bf16 :=
  truncf .bf16 (transpose S1x2x1024x256 [0, 1, 3, 2] (shapeCast _ (flat y) shapeCasts_S512x1024_S1x2x256x1024) transposes_S1x2x256x1024_S1x2x1024x256_0_1_3_2) bitsLt_bf16_f32

variable (x : FVec Ideal S128x4x1024 .f32) (sh sc : FVec Ideal S128x1024 .f32) (g : FVec Ideal S1024 .f32) (w : FVec Ideal S1024x9216 .f32)

theorem hidden_apply (n : Fin 128) (p : Fin 4) (c : Fin 1024) : hidden x sh sc g (ix3 n p c) = Samp.hid x sh sc g n p c := by
  pointwise [hidden]
  rfl

theorem lanes_apply (n : Fin 128) (p : Fin 4) (c : Fin 9216) : lanes (hidden x sh sc g) w (ix3 n p c) = Samp.prod x sh sc g w n p c := by
  have e : ∀ h : FVec Ideal S128x4x1024 .f32, lanes h w (ix3 n p c) = ∑ k : Fin 1024, h (ix3 n p k) * w (ix2 k c) := fun h => by
    pointwise [lanes]
  rw [e, Finset.sum_congr rfl fun k _ => by rw [hidden_apply]]
  rfl

variable (y : FVec Ideal S128x4x1024 .f32) (P : FVec Ideal S128x4x9216 .f32)

theorem logistic_apply (n : Fin 128) (p : Fin 4) (c : Fin 1024) : logistic y (ix3 n p c) = Proj.logi (y (ix3 n p c)) := by
  pointwise [logistic, ones]
  rfl

theorem flat_apply (r : Fin 512) (l : Fin 1024) :
    flat y (ix2 r l) = y (ix3 (Samp.seq r) (Samp.pos r) l) := by
  pointwise [flat]
  rfl

theorem narrow_apply (z : FVec Ideal S512x1024 .f32) (r : Fin 512) (l : Fin 1024) : narrow z (ix2 r l) = z (ix2 r l) := by
  pointwise [narrow]

theorem eighth_apply (n : Fin 128) (p : Fin 4) (c : Fin 1024) : eighth y (ix3 n p c) = y (ix3 n p c) * Ideal.ofBits .f32 0x3E000000#32 := by
  pointwise [eighth]

theorem mulf_apply (z : FVec Ideal S128x4x1024 .f32) (n : Fin 128) (p : Fin 4) (c : Fin 1024) : mulf y z (ix3 n p c) = y (ix3 n p c) * z (ix3 n p c) := by
  pointwise

theorem turned_apply (n : Fin 1) (f : Fin 1024) (p : Fin 512) : turned y (ix3 n f p) = y (ix3 (Samp.seq p) (Samp.pos p) f) := by
  have hn := n.isLt
  have hp := p.isLt
  pointwise [turned]
  rfl

theorem turnedBlocks_apply (n : Fin 1) (i : Fin 2) (f : Fin 1024) (e : Fin 256) :
    turnedBlocks y (ix4 n i f e) = y (ix3 (Samp.seq (⟨256 * i.val + e.val, by omega⟩ : Fin 512)) (Samp.pos (⟨256 * i.val + e.val, by omega⟩ : Fin 512)) f) := by
  have hn := n.isLt
  have key : ∀ z : FVec Ideal S512x1024 .f32, truncf .bf16 (transpose S1x2x1024x256 [0, 1, 3, 2] (shapeCast _ z shapeCasts_S512x1024_S1x2x256x1024) transposes_S1x2x256x1024_S1x2x1024x256_0_1_3_2) bitsLt_bf16_f32 (ix4 n i f e)
      = z (ix2 (⟨256 * i.val + e.val, by omega⟩ : Fin 512) f) := fun z => by
    pointwise
    exact congrArg (fun p : Fin 512 => z (ix2 p f)) (Fin.ext (by dsimp only; omega))
  exact (key (flat y)).trans (flat_apply y _ f)

theorem col0_apply (n : Fin 128) (p : Fin 4) (c : Fin 1024) : col0 P (ix3 n p c) = P (ix3 n p (⟨1024 * 0 + c.val, by omega⟩ : Fin 9216)) := by
  pointwise [col0]

theorem col1_apply (n : Fin 128) (p : Fin 4) (c : Fin 1024) : col1 P (ix3 n p c) = P (ix3 n p (⟨1024 * 1 + c.val, by omega⟩ : Fin 9216)) := by
  pointwise [col1]

theorem col2_apply (n : Fin 128) (p : Fin 4) (c : Fin 1024) : col2 P (ix3 n p c) = P (ix3 n p (⟨1024 * 2 + c.val, by omega⟩ : Fin 9216)) := by
  pointwise [col2]

theorem col3_apply (n : Fin 128) (p : Fin 4) (c : Fin 1024) : col3 P (ix3 n p c) = P (ix3 n p (⟨1024 * 3 + c.val, by omega⟩ : Fin 9216)) := by
  pointwise [col3]

theorem col4_apply (n : Fin 128) (p : Fin 4) (c : Fin 1024) : col4 P (ix3 n p c) = P (ix3 n p (⟨1024 * 4 + c.val, by omega⟩ : Fin 9216)) := by
  pointwise [col4]

theorem col5_apply (n : Fin 128) (p : Fin 4) (c : Fin 1024) : col5 P (ix3 n p c) = P (ix3 n p (⟨1024 * 5 + c.val, by omega⟩ : Fin 9216)) := by
  pointwise [col5]

theorem col6_apply (n : Fin 128) (p : Fin 4) (c : Fin 1024) : col6 P (ix3 n p c) = P (ix3 n p (⟨1024 * 6 + c.val, by omega⟩ : Fin 9216)) := by
  pointwise [col6]

theorem col7_apply (n : Fin 128) (p : Fin 4) (c : Fin 1024) : col7 P (ix3 n p c) = P (ix3 n p (⟨1024 * 7 + c.val, by omega⟩ : Fin 9216)) := by
  pointwise [col7]

theorem col8_apply (n : Fin 128) (p : Fin 4) (c : Fin 1024) : col8 P (ix3 n p c) = P (ix3 n p (⟨1024 * 8 + c.val, by omega⟩ : Fin 9216)) := by
  pointwise [col8]

/-- The products of the arguments. -/
def prods : FVec Ideal S128x4x9216 .f32 := lanes (hidden x sh sc g) w

theorem prods_apply (n : Fin 128) (p : Fin 4) (c : Fin 9216) : prods x sh sc g w (ix3 n p c) = Samp.prod x sh sc g w n p c :=
  lanes_apply x sh sc g w n p c

theorem res0 : narrow (flat (eighth (col0 (prods x sh sc g w)))) = Proj.arr2 (Samp.queries (Samp.lanes x sh sc g w)) := by
  refine Proj.ext2 (a := 512) (b := 1024) _ _ fun r l => ?_
  rw [narrow_apply, flat_apply, eighth_apply, col0_apply, prods_apply]
  rfl

theorem res1 : turned (col1 (prods x sh sc g w)) = Proj.arr3 (Samp.across (Samp.lanes x sh sc g w) 1) := by
  refine Proj.ext3 (a := 1) (b := 1024) (c := 512) _ _ fun n f p => ?_
  rw [turned_apply, col1_apply, prods_apply]
  rfl

theorem res2 : turnedBlocks (col1 (prods x sh sc g w)) = Proj.arr4 (Samp.blocked (Samp.lanes x sh sc g w) 1) := by
  refine Proj.ext4 (a := 1) (b := 2) (c := 1024) (d := 256) _ _ fun n i f e => ?_
  rw [turnedBlocks_apply, col1_apply, prods_apply]
  rfl

theorem res3 : turned (col2 (prods x sh sc g w)) = Proj.arr3 (Samp.across (Samp.lanes x sh sc g w) 2) := by
  refine Proj.ext3 (a := 1) (b := 1024) (c := 512) _ _ fun n f p => ?_
  rw [turned_apply, col2_apply, prods_apply]
  rfl

theorem res4 : turnedBlocks (col2 (prods x sh sc g w)) = Proj.arr4 (Samp.blocked (Samp.lanes x sh sc g w) 2) := by
  refine Proj.ext4 (a := 1) (b := 2) (c := 1024) (d := 256) _ _ fun n i f e => ?_
  rw [turnedBlocks_apply, col2_apply, prods_apply]
  rfl

theorem res5 : narrow (flat (mulf (col3 (prods x sh sc g w)) (logistic (col3 (prods x sh sc g w))))) = Proj.arr2 (Samp.silu (Samp.lanes x sh sc g w) 3) := by
  refine Proj.ext2 (a := 512) (b := 1024) _ _ fun r l => ?_
  rw [narrow_apply, flat_apply, mulf_apply, logistic_apply, col3_apply, prods_apply]
  rfl

theorem res7 : narrow (flat (mulf (col6 (prods x sh sc g w)) (logistic (col6 (prods x sh sc g w))))) = Proj.arr2 (Samp.silu (Samp.lanes x sh sc g w) 6) := by
  refine Proj.ext2 (a := 512) (b := 1024) _ _ fun r l => ?_
  rw [narrow_apply, flat_apply, mulf_apply, logistic_apply, col6_apply, prods_apply]
  rfl

theorem res6 : flat (mulf (col4 (prods x sh sc g w)) (logistic (col5 (prods x sh sc g w)))) = Proj.arr2 (Samp.gated (Samp.lanes x sh sc g w)) := by
  refine Proj.ext2 (a := 512) (b := 1024) _ _ fun r l => ?_
  rw [flat_apply, mulf_apply, logistic_apply, col4_apply, col5_apply, prods_apply, prods_apply]
  rfl

theorem res8 : narrow (flat (logistic (col7 (prods x sh sc g w)))) = Proj.arr2 (Samp.gate (Samp.lanes x sh sc g w) 7) := by
  refine Proj.ext2 (a := 512) (b := 1024) _ _ fun r l => ?_
  rw [narrow_apply, flat_apply, logistic_apply, col7_apply, prods_apply]
  rfl

theorem res9 : narrow (flat (logistic (col8 (prods x sh sc g w)))) = Proj.arr2 (Samp.gate (Samp.lanes x sh sc g w) 8) := by
  refine Proj.ext2 (a := 512) (b := 1024) _ _ fun r l => ?_
  rw [narrow_apply, flat_apply, logistic_apply, col8_apply, prods_apply]
  rfl

end Cert.SampledIdeal.Value

end
-- ==== Proof.SampPay.lean ====
/-
  What one point of the projection kernel computes from its blocks, read at an index.
-/
module

public import proofs.«01_k».proof.Proof.Gen.SampleIdeal.Skeleton
public import proofs.«01_k».proof.Proof.SampSpec

@[expose] public section

set_option maxRecDepth 16384

noncomputable section

namespace Cert.SampleIdeal.Value

open Cert.SampleIdeal Cert.SampleIdeal.Gen Idealize.ShloMosaic Idealize.ShloMosaic.TcCoe Cert.Samp
open Cert.Proj (logi)

variable (x : FVec Ideal S256x1024 .f32) (g : FVec Ideal S1x1024 .f32) (sc sh : FVec Ideal S1x256x1024 .f32)
  (h : FVec Ideal S256x1024 .bf16) (w w' : FVec Ideal S1x1024x1024 .bf16)

theorem pay3_apply (r : Fin 256) (c : Fin 1024) : k0_pay3 (F := Ideal) x g sc sh (ix2 r c)
      = x (ix2 r c) * Ideal.rsqrt (Ideal.div (∑ k : Fin 1024, x (ix2 r k) * x (ix2 r k)) (Ideal.ofBits .f32 0x44800000#32) + Ideal.ofBits .f32 0x358637BD#32)
          * g (ix2 (0 : Fin 1) c) * (1 + sc (ix3 (0 : Fin 1) r c)) + sh (ix3 (0 : Fin 1) r c) := by
  pointwise [k0_pay3]

theorem q_apply (r : Fin 256) (c : Fin 1024) : k0_pay4 (F := Ideal) h w (ix2 r c)
      = (∑ k : Fin 1024, h (ix2 r k) * w (ix3 (0 : Fin 1) k c)) * Ideal.ofBits .f32 0x3E000000#32 := by
  pointwise [k0_pay4]

theorem kt_apply (f : Fin 1024) (r : Fin 256) : k0_pay6 (F := Ideal) w h (ix3 (0 : Fin 1) f r)
      = ∑ k : Fin 1024, h (ix2 r k) * w (ix3 (0 : Fin 1) f k) := by
  pointwise [k0_pay6, k0_pay5]
  exact Finset.sum_congr rfl fun k _ => mul_comm _ _

theorem ktb_apply (f : Fin 1024) (r : Fin 256) : k0_pay7 (F := Ideal) w h (ix4 (0 : Fin 1) (0 : Fin 1) f r)
      = ∑ k : Fin 1024, h (ix2 r k) * w (ix3 (0 : Fin 1) f k) := by
  pointwise [k0_pay7, k0_pay5]
  exact Finset.sum_congr rfl fun k _ => mul_comm _ _

theorem vt_apply (f : Fin 1024) (r : Fin 256) : k0_pay9 (F := Ideal) w h (ix3 (0 : Fin 1) f r)
      = ∑ k : Fin 1024, h (ix2 r k) * w (ix3 (0 : Fin 1) f k) := by
  pointwise [k0_pay9, k0_pay8]
  exact Finset.sum_congr rfl fun k _ => mul_comm _ _

theorem vtb_apply (f : Fin 1024) (r : Fin 256) : k0_pay10 (F := Ideal) w h (ix4 (0 : Fin 1) (0 : Fin 1) f r)
      = ∑ k : Fin 1024, h (ix2 r k) * w (ix3 (0 : Fin 1) f k) := by
  pointwise [k0_pay10, k0_pay8]
  exact Finset.sum_congr rfl fun k _ => mul_comm _ _

theorem sga_apply (r : Fin 256) (c : Fin 1024) : k0_pay11 (F := Ideal) h w (ix2 r c)
      = (∑ k : Fin 1024, h (ix2 r k) * w (ix3 (0 : Fin 1) k c)) * logi (∑ k : Fin 1024, h (ix2 r k) * w (ix3 (0 : Fin 1) k c)) := by
  pointwise [k0_pay11]
  rw [zero_sub]
  rfl

theorem glu0_apply (r : Fin 256) (c : Fin 512) : k0_pay12 (F := Ideal) h w (ix2 r c)
      = (∑ k : Fin 1024, h (ix2 r k) * w (ix3 (0 : Fin 1) k (⟨c.val, by omega⟩ : Fin 1024))) * logi (∑ k : Fin 1024, h (ix2 r k) * w (ix3 (0 : Fin 1) k (⟨512 + c.val, by omega⟩ : Fin 1024))) := by
  pointwise [k0_pay12]
  rw [zero_sub]
  rfl

theorem glu1_apply (r : Fin 256) (c : Fin 512) : k0_pay15 (F := Ideal) (k0_pay13 h w) (k0_pay14 h w) (ix2 r c)
      = (∑ k : Fin 1024, h (ix2 r k) * w (ix3 (0 : Fin 1) k (⟨c.val, by omega⟩ : Fin 1024))) * logi (∑ k : Fin 1024, h (ix2 r k) * w (ix3 (0 : Fin 1) k (⟨512 + c.val, by omega⟩ : Fin 1024))) := by
  pointwise [k0_pay15, k0_pay14, k0_pay13]
  rw [zero_sub]
  rfl

theorem sgc_apply (r : Fin 256) (c : Fin 1024) : k0_pay16 (F := Ideal) h w (ix2 r c)
      = (∑ k : Fin 1024, h (ix2 r k) * w (ix3 (0 : Fin 1) k c)) * logi (∑ k : Fin 1024, h (ix2 r k) * w (ix3 (0 : Fin 1) k c)) := by
  pointwise [k0_pay16]
  rw [zero_sub]
  rfl

theorem sma_apply (r : Fin 256) (c : Fin 1024) : k0_pay1 (F := Ideal) (k0_pay17 h w) (Scalar.ofBits .f32 0x3F800000#32) (ix2 r c)
      = logi (∑ k : Fin 1024, h (ix2 r k) * w (ix3 (0 : Fin 1) k c)) := by
  pointwise [k0_pay1, k0_pay17]
  rw [zero_sub]
  rfl

theorem smc_apply (r : Fin 256) (c : Fin 1024) : k0_pay2 (F := Ideal) h w (ix2 r c)
      = logi (∑ k : Fin 1024, h (ix2 r k) * w (ix3 (0 : Fin 1) k c)) := by
  pointwise [k0_pay2]
  rw [zero_sub]
  rfl

end Cert.SampleIdeal.Value

end
-- ==== Proof.SampWindows.lean ====
/-
  What a grid point's input windows hold, in terms of the arguments: 256 rows, each row's shift and scale,
  the gains, and the nine matrices.
-/
module

public import proofs.«01_k».proof.Proof.SampPay
public import proofs.«01_k».proof.Proof.Gen.SampleIdeal.Value

@[expose] public section

set_option maxRecDepth 16384

noncomputable section

namespace Cert.SampleIdeal.Value

open Cert.SampleIdeal Cert.SampleIdeal.Gen Idealize.ShloMosaic Idealize.ShloMosaic.TcCoe Cert.Samp

/-- One of the wide matrix's nine parts, as a slice. -/
def part0 (w : FVec Ideal S1024x9216 .f32) : FVec Ideal S1024x1024 .f32 := extractStridedSlice S1024x1024 ![0, 0] w slices_S1024x9216_S1024x1024_0_0
def part1 (w : FVec Ideal S1024x9216 .f32) : FVec Ideal S1024x1024 .f32 := extractStridedSlice S1024x1024 ![0, 1024] w slices_S1024x9216_S1024x1024_0_1024
def part2 (w : FVec Ideal S1024x9216 .f32) : FVec Ideal S1024x1024 .f32 := extractStridedSlice S1024x1024 ![0, 2048] w slices_S1024x9216_S1024x1024_0_2048
def part3 (w : FVec Ideal S1024x9216 .f32) : FVec Ideal S1024x1024 .f32 := extractStridedSlice S1024x1024 ![0, 3072] w slices_S1024x9216_S1024x1024_0_3072
def part4 (w : FVec Ideal S1024x9216 .f32) : FVec Ideal S1024x1024 .f32 := extractStridedSlice S1024x1024 ![0, 4096] w slices_S1024x9216_S1024x1024_0_4096
def part5 (w : FVec Ideal S1024x9216 .f32) : FVec Ideal S1024x1024 .f32 := extractStridedSlice S1024x1024 ![0, 5120] w slices_S1024x9216_S1024x1024_0_5120
def part6 (w : FVec Ideal S1024x9216 .f32) : FVec Ideal S1024x1024 .f32 := extractStridedSlice S1024x1024 ![0, 6144] w slices_S1024x9216_S1024x1024_0_6144
def part7 (w : FVec Ideal S1024x9216 .f32) : FVec Ideal S1024x1024 .f32 := extractStridedSlice S1024x1024 ![0, 7168] w slices_S1024x9216_S1024x1024_0_7168
def part8 (w : FVec Ideal S1024x9216 .f32) : FVec Ideal S1024x1024 .f32 := extractStridedSlice S1024x1024 ![0, 8192] w slices_S1024x9216_S1024x1024_0_8192

/-- The left halves and the right halves of two parts, side by side. -/
def pairL (u v : FVec Ideal S1024x1024 .f32) : FVec Ideal S1024x1024 .f32 :=
  concatenate S1024x1024 1 [⟨S1024x512, extractStridedSlice S1024x512 ![0, 0] u slices_S1024x1024_S1024x512_0_0⟩,
    ⟨S1024x512, extractStridedSlice S1024x512 ![0, 0] v slices_S1024x1024_S1024x512_0_0⟩] concatenates_S1024x512_S1024x512_S1024x1024_d1

def pairR (u v : FVec Ideal S1024x1024 .f32) : FVec Ideal S1024x1024 .f32 :=
  concatenate S1024x1024 1 [⟨S1024x512, extractStridedSlice S1024x512 ![0, 512] u slices_S1024x1024_S1024x512_0_512⟩,
    ⟨S1024x512, extractStridedSlice S1024x512 ![0, 512] v slices_S1024x1024_S1024x512_0_512⟩] concatenates_S1024x512_S1024x512_S1024x1024_d1

def turn (u : FVec Ideal S1024x1024 .f32) : FVec Ideal S1024x1024 .f32 := transpose S1024x1024 [1, 0] u transposes_S1024x1024_S1024x1024_1_0

def lift (u : FVec Ideal S1024x1024 .f32) : FVec Ideal S1x1024x1024 .f32 := broadcastInDim S1x1024x1024 ![1, 2] bcast_S1024x1024_S1x1024x1024_1_2 u

/-- Nine matrices, one above another. -/
def pile (a b c d e f g h i : FVec Ideal S1024x1024 .f32) : FVec Ideal S9x1024x1024 .bf16 :=
  truncf .bf16 (concatenate S9x1024x1024 0 [⟨S1x1024x1024, lift a⟩, ⟨S1x1024x1024, lift b⟩, ⟨S1x1024x1024, lift c⟩, ⟨S1x1024x1024, lift d⟩,
    ⟨S1x1024x1024, lift e⟩, ⟨S1x1024x1024, lift f⟩, ⟨S1x1024x1024, lift g⟩, ⟨S1x1024x1024, lift h⟩, ⟨S1x1024x1024, lift i⟩]
    concatenates_S1x1024x1024_S1x1024x1024_S1x1024x1024_S1x1024x1024_S1x1024x1024_S1x1024x1024_S1x1024x1024_S1x1024x1024_S1x1024x1024_S9x1024x1024_d0) bitsLt_bf16_f32

/-- The nine matrices as the call finds them. -/
def stack (w : FVec Ideal S1024x9216 .f32) : FVec Ideal S9x1024x1024 .bf16 :=
  pile (part0 w) (turn (part1 w)) (turn (part2 w)) (part3 w) (pairL (part4 w) (part5 w)) (pairR (part4 w) (part5 w)) (part6 w) (part7 w) (part8 w)

/-- The positions' rows, one position of all sequences after another. -/
def rows (x : FVec Ideal S128x4x1024 .f32) : FVec Ideal S512x1024 .f32 :=
  shapeCast S512x1024 (transpose S4x128x1024 [1, 0, 2] x transposes_S128x4x1024_S4x128x1024_1_0_2) shapeCasts_S4x128x1024_S512x1024

/-- A number of each sequence, at all its rows. -/
def mids (y : FVec Ideal S128x1024 .f32) : FVec Ideal S1x512x1024 .f32 :=
  broadcastInDim S1x512x1024 ![1, 2] bcast_S512x1024_S1x512x1024_1_2 (shapeCast S512x1024
    (broadcastInDim S4x128x1024 ![0, 1, 2] bcast_S1x128x1024_S4x128x1024_0_1_2 (broadcastInDim S1x128x1024 ![1, 2] bcast_S128x1024_S1x128x1024_1_2 y))
    shapeCasts_S4x128x1024_S512x1024)

def gains (g : FVec Ideal S1024 .f32) : FVec Ideal S1x1024 .f32 := broadcastInDim S1x1024 ![1] bcast_S1024_S1x1024_1 g

variable (w : FVec Ideal S1024x9216 .f32) (u v : FVec Ideal S1024x1024 .f32) (k c : Fin 1024)

theorem turn_apply : turn u (ix2 k c) = u (ix2 c k) := by
  pointwise [turn]

theorem pairL_left (l : Fin 512) : pairL u v (ix2 k (⟨l.val, by omega⟩ : Fin 1024)) = u (ix2 k (⟨l.val, by omega⟩ : Fin 1024)) := by
  have hl := l.isLt
  pointwise [pairL]

theorem pairL_right (l : Fin 512) : pairL u v (ix2 k (⟨512 + l.val, by omega⟩ : Fin 1024)) = v (ix2 k (⟨l.val, by omega⟩ : Fin 1024)) := by
  have hl := l.isLt
  pointwise [pairL]

theorem pairR_left (l : Fin 512) : pairR u v (ix2 k (⟨l.val, by omega⟩ : Fin 1024)) = u (ix2 k (⟨512 + l.val, by omega⟩ : Fin 1024)) := by
  have hl := l.isLt
  pointwise [pairR]

theorem pairR_right (l : Fin 512) : pairR u v (ix2 k (⟨512 + l.val, by omega⟩ : Fin 1024)) = v (ix2 k (⟨512 + l.val, by omega⟩ : Fin 1024)) := by
  have hl := l.isLt
  pointwise [pairR]

theorem part0_apply : part0 w (ix2 k c) = w (ix2 k (⟨1024 * 0 + c.val, by omega⟩ : Fin 9216)) := by
  pointwise [part0]

theorem pile0 (a0 a1 a2 a3 a4 a5 a6 a7 a8 : FVec Ideal S1024x1024 .f32) : pile a0 a1 a2 a3 a4 a5 a6 a7 a8 (ix3 (0 : Fin 9) k c) = a0 (ix2 k c) := by
  pointwise [pile, lift]

theorem part1_apply : part1 w (ix2 k c) = w (ix2 k (⟨1024 * 1 + c.val, by omega⟩ : Fin 9216)) := by
  pointwise [part1]

theorem pile1 (a0 a1 a2 a3 a4 a5 a6 a7 a8 : FVec Ideal S1024x1024 .f32) : pile a0 a1 a2 a3 a4 a5 a6 a7 a8 (ix3 (1 : Fin 9) k c) = a1 (ix2 k c) := by
  pointwise [pile, lift]

theorem part2_apply : part2 w (ix2 k c) = w (ix2 k (⟨1024 * 2 + c.val, by omega⟩ : Fin 9216)) := by
  pointwise [part2]

theorem pile2 (a0 a1 a2 a3 a4 a5 a6 a7 a8 : FVec Ideal S1024x1024 .f32) : pile a0 a1 a2 a3 a4 a5 a6 a7 a8 (ix3 (2 : Fin 9) k c) = a2 (ix2 k c) := by
  pointwise [pile, lift]

theorem part3_apply : part3 w (ix2 k c) = w (ix2 k (⟨1024 * 3 + c.val, by omega⟩ : Fin 9216)) := by
  pointwise [part3]

theorem pile3 (a0 a1 a2 a3 a4 a5 a6 a7 a8 : FVec Ideal S1024x1024 .f32) : pile a0 a1 a2 a3 a4 a5 a6 a7 a8 (ix3 (3 : Fin 9) k c) = a3 (ix2 k c) := by
  pointwise [pile, lift]

theorem part4_apply : part4 w (ix2 k c) = w (ix2 k (⟨1024 * 4 + c.val, by omega⟩ : Fin 9216)) := by
  pointwise [part4]

theorem pile4 (a0 a1 a2 a3 a4 a5 a6 a7 a8 : FVec Ideal S1024x1024 .f32) : pile a0 a1 a2 a3 a4 a5 a6 a7 a8 (ix3 (4 : Fin 9) k c) = a4 (ix2 k c) := by
  pointwise [pile, lift]

theorem part5_apply : part5 w (ix2 k c) = w (ix2 k (⟨1024 * 5 + c.val, by omega⟩ : Fin 9216)) := by
  pointwise [part5]

theorem pile5 (a0 a1 a2 a3 a4 a5 a6 a7 a8 : FVec Ideal S1024x1024 .f32) : pile a0 a1 a2 a3 a4 a5 a6 a7 a8 (ix3 (5 : Fin 9) k c) = a5 (ix2 k c) := by
  pointwise [pile, lift]

theorem part6_apply : part6 w (ix2 k c) = w (ix2 k (⟨1024 * 6 + c.val, by omega⟩ : Fin 9216)) := by
  pointwise [part6]

theorem pile6 (a0 a1 a2 a3 a4 a5 a6 a7 a8 : FVec Ideal S1024x1024 .f32) : pile a0 a1 a2 a3 a4 a5 a6 a7 a8 (ix3 (6 : Fin 9) k c) = a6 (ix2 k c) := by
  pointwise [pile, lift]

theorem part7_apply : part7 w (ix2 k c) = w (ix2 k (⟨1024 * 7 + c.val, by omega⟩ : Fin 9216)) := by
  pointwise [part7]

theorem pile7 (a0 a1 a2 a3 a4 a5 a6 a7 a8 : FVec Ideal S1024x1024 .f32) : pile a0 a1 a2 a3 a4 a5 a6 a7 a8 (ix3 (7 : Fin 9) k c) = a7 (ix2 k c) := by
  pointwise [pile, lift]

theorem part8_apply : part8 w (ix2 k c) = w (ix2 k (⟨1024 * 8 + c.val, by omega⟩ : Fin 9216)) := by
  pointwise [part8]

theorem pile8 (a0 a1 a2 a3 a4 a5 a6 a7 a8 : FVec Ideal S1024x1024 .f32) : pile a0 a1 a2 a3 a4 a5 a6 a7 a8 (ix3 (8 : Fin 9) k c) = a8 (ix2 k c) := by
  pointwise [pile, lift]

theorem rows_apply (x : FVec Ideal S128x4x1024 .f32) (r : Fin 512) : rows x (ix2 r c) = x (ix3 (seq r) (pos r) c) := by
  have h := r.isLt
  pointwise [rows]
  rfl

theorem mids_apply (y : FVec Ideal S128x1024 .f32) (r : Fin 512) : mids y (ix3 (0 : Fin 1) r c) = y (ix2 (seq r) c) := by
  have h := r.isLt
  pointwise [mids]
  rfl

theorem gains_apply (g : FVec Ideal S1024 .f32) : gains g (ix2 (0 : Fin 1) c) = g (ix1 c) := by
  pointwise [gains]

variable (m : (ℓ : Loc nD τ sig) → Buf (Elt Ideal) ℓ)

/-- The arguments: activations, shifts, scales, gains and the wide matrix. -/
abbrev argX (c : Dev nD) : FVec Ideal S128x4x1024 .f32 := m ((c : Thread nD τ).loc main_arg0)
abbrev argSh (c : Dev nD) : FVec Ideal S128x1024 .f32 := m ((c : Thread nD τ).loc main_arg1)
abbrev argSc (c : Dev nD) : FVec Ideal S128x1024 .f32 := m ((c : Thread nD τ).loc main_arg2)
abbrev argG (c : Dev nD) : FVec Ideal S1024 .f32 := m ((c : Thread nD τ).loc main_arg3)
abbrev argW (c : Dev nD) : FVec Ideal S1024x9216 .f32 := m ((c : Thread nD τ).loc main_arg4)

theorem V_main_v27 (c : Dev nD) : V m c main_v27 = stack (argW m c) := by
  unfold_abbrev_sides
  after_results
  try rfl

theorem V_main_v29 (c : Dev nD) : V m c main_v29 = rows (argX m c) := by
  unfold_abbrev_sides
  after_results
  try rfl

theorem V_main_v33 (c : Dev nD) : V m c main_v33 = mids (argSh m c) := by
  unfold_abbrev_sides
  after_results
  try rfl

theorem V_main_v37 (c : Dev nD) : V m c main_v37 = mids (argSc m c) := by
  unfold_abbrev_sides
  after_results
  try rfl

theorem V_main_v38 (c : Dev nD) : V m c main_v38 = gains (argG m c) := by
  unfold_abbrev_sides
  after_results
  try rfl

/-- The place among all the rows of a block's row. -/
def flatOf (t : Fin cfg0.N) (r : Fin 256) : Fin 512 := ⟨256 * t.val + r.val, by have h : t.val < 2 := lt_of_lt_of_eq t.isLt N_0; omega⟩

/-- Where the windows' blocks start. -/
theorem map0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem map1 (t : Fin cfg0.N) : win0_1.index t (0 : Fin 3) = 0 ∧ win0_1.index t (1 : Fin 3) = t.val ∧ win0_1.index t (2 : Fin 3) = 0 :=
  (by decide +kernel : ∀ t : Fin grid0.N, win0_1.index t (0 : Fin 3) = 0 ∧ win0_1.index t (1 : Fin 3) = t.val ∧ win0_1.index t (2 : Fin 3) = 0) t

theorem map2 (t : Fin cfg0.N) : win0_2.index t (0 : Fin 3) = 0 ∧ win0_2.index t (1 : Fin 3) = t.val ∧ win0_2.index t (2 : Fin 3) = 0 :=
  (by decide +kernel : ∀ t : Fin grid0.N, win0_2.index t (0 : Fin 3) = 0 ∧ win0_2.index t (1 : Fin 3) = t.val ∧ win0_2.index t (2 : Fin 3) = 0) t

theorem map3 (t : Fin cfg0.N) : win0_3.index t (0 : Fin 2) = 0 ∧ win0_3.index t (1 : Fin 2) = 0 := ⟨rfl, rfl⟩

theorem map4 (t : Fin cfg0.N) : win0_4.index t (0 : Fin 3) = 0 ∧ win0_4.index t (1 : Fin 3) = 0 ∧ win0_4.index t (2 : Fin 3) = 0 := ⟨rfl, rfl, rfl⟩

theorem iblk0_apply (c : Dev nD) (t : Fin cfg0.N) (r : Fin 256) (l : Fin 1024) :
    (iblk m c 0 t : FVec Ideal S256x1024 .f32) (ix2 r l) = argX m c (ix3 (seq (flatOf t r)) (pos (flatOf t r)) l) := by
  obtain ⟨e0, e1⟩ := map0 t
  have key : (((cfg0.win 0).blk t).view.emb (ix2 r l) : S512x1024.Idx) = ix2 (flatOf t r) l := by
    funext a
    apply Fin.ext
    match a with
    | ⟨0, _⟩ => show win0_0.index t (0 : Fin 2) * 256 + 1 * r.val = 256 * t.val + r.val; omega
    | ⟨1, _⟩ => show win0_0.index t (1 : Fin 2) * 1024 + 1 * l.val = l.val; omega
  show V m c main_v29 (((cfg0.win 0).blk t).view.emb (ix2 r l)) = _
  rw [key, V_main_v29, rows_apply]

theorem iblk1_apply (c : Dev nD) (t : Fin cfg0.N) (r : Fin 256) (l : Fin 1024) :
    (iblk m c 1 t : FVec Ideal S1x256x1024 .f32) (ix3 (0 : Fin 1) r l) = argSh m c (ix2 (seq (flatOf t r)) l) := by
  obtain ⟨e0, e1, e2⟩ := map1 t
  have key : (((cfg0.win 1).blk t).view.emb (ix3 (0 : Fin 1) r l) : S1x512x1024.Idx) = ix3 (0 : Fin 1) (flatOf t r) l := by
    funext a
    apply Fin.ext
    match a with
    | ⟨0, _⟩ => show win0_1.index t (0 : Fin 3) * 1 + 1 * 0 = 0; omega
    | ⟨1, _⟩ => show win0_1.index t (1 : Fin 3) * 256 + 1 * r.val = 256 * t.val + r.val; omega
    | ⟨2, _⟩ => show win0_1.index t (2 : Fin 3) * 1024 + 1 * l.val = l.val; omega
  show V m c main_v33 (((cfg0.win 1).blk t).view.emb (ix3 (0 : Fin 1) r l)) = _
  rw [key, V_main_v33, mids_apply]

theorem iblk2_apply (c : Dev nD) (t : Fin cfg0.N) (r : Fin 256) (l : Fin 1024) :
    (iblk m c 2 t : FVec Ideal S1x256x1024 .f32) (ix3 (0 : Fin 1) r l) = argSc m c (ix2 (seq (flatOf t r)) l) := by
  obtain ⟨e0, e1, e2⟩ := map2 t
  have key : (((cfg0.win 2).blk t).view.emb (ix3 (0 : Fin 1) r l) : S1x512x1024.Idx) = ix3 (0 : Fin 1) (flatOf t r) l := by
    funext a
    apply Fin.ext
    match a with
    | ⟨0, _⟩ => show win0_2.index t (0 : Fin 3) * 1 + 1 * 0 = 0; omega
    | ⟨1, _⟩ => show win0_2.index t (1 : Fin 3) * 256 + 1 * r.val = 256 * t.val + r.val; omega
    | ⟨2, _⟩ => show win0_2.index t (2 : Fin 3) * 1024 + 1 * l.val = l.val; omega
  show V m c main_v37 (((cfg0.win 2).blk t).view.emb (ix3 (0 : Fin 1) r l)) = _
  rw [key, V_main_v37, mids_apply]

theorem iblk3_apply (c : Dev nD) (t : Fin cfg0.N) (l : Fin 1024) :
    (iblk m c 3 t : FVec Ideal S1x1024 .f32) (ix2 (0 : Fin 1) l) = argG m c (ix1 l) := by
  obtain ⟨e0, e1⟩ := map3 t
  have key : (((cfg0.win 3).blk t).view.emb (ix2 (0 : Fin 1) l) : S1x1024.Idx) = ix2 (0 : Fin 1) l := by
    funext a
    apply Fin.ext
    match a with
    | ⟨0, _⟩ => show win0_3.index t (0 : Fin 2) * 1 + 1 * 0 = 0; omega
    | ⟨1, _⟩ => show win0_3.index t (1 : Fin 2) * 1024 + 1 * l.val = l.val; omega
  show V m c main_v38 (((cfg0.win 3).blk t).view.emb (ix2 (0 : Fin 1) l)) = _
  rw [key, V_main_v38, gains_apply]

theorem iblk4_apply (c : Dev nD) (t : Fin cfg0.N) (j : Fin 9) (a b : Fin 1024) :
    (iblk m c 4 t : FVec Ideal S9x1024x1024 .bf16) (ix3 j a b) = stack (argW m c) (ix3 j a b) := by
  obtain ⟨e0, e1, e2⟩ := map4 t
  have key : (((cfg0.win 4).blk t).view.emb (ix3 j a b) : S9x1024x1024.Idx) = ix3 j a b := by
    funext i
    apply Fin.ext
    match i with
    | ⟨0, _⟩ => show win0_4.index t (0 : Fin 3) * 9 + 1 * j.val = j.val; omega
    | ⟨1, _⟩ => show win0_4.index t (1 : Fin 3) * 1024 + 1 * a.val = a.val; omega
    | ⟨2, _⟩ => show win0_4.index t (2 : Fin 3) * 1024 + 1 * b.val = b.val; omega
  show V m c main_v27 (((cfg0.win 4).blk t).view.emb (ix3 j a b)) = _
  rw [key, V_main_v27]

end Cert.SampleIdeal.Value

end
-- ==== Proof.SampBody.lean ====
/-
  What the projection body leaves in its ten output blocks, as its payloads of the blocks it reads.
-/
module

public import proofs.«01_k».proof.Proof.SampWindows

@[expose] public section

set_option maxRecDepth 16384

noncomputable section

namespace Cert.SampleIdeal.Value

open Cert.SampleIdeal Cert.SampleIdeal.Gen Idealize.ShloMosaic Idealize.ShloMosaic.TcCoe Cert.Samp

variable {F : FTy → Type} [FloatOps F]

/-- One of the nine matrices of a block. -/
def slot (x4 : Vec F S9x1024x1024 .bf16) {off : Fin 3 → ℕ} (inb : ∀ a, off a + S1x1024x1024.size a ≤ S9x1024x1024.size a) : Vec F S1x1024x1024 .bf16 :=
  View.ld x4 (Rect.unit (s := S9x1024x1024) off S1x1024x1024.size inb)

theorem read_rows (a : Memref sig .tc .vmem S256x1024 .f32) (h : a.IsWhole) (x : Vec F S256x1024 .f32) (inb : ∀ i, (![0, 0] : Fin 2 → ℕ) i + S256x1024.size i ≤ S256x1024.size i) :
    View.readAt (Elt F) a.view (Rect.unit (s := S256x1024) ![0, 0] ![256, 1024] inb).toLoadRect (h.unread x) = x := by
  show View.ld (a.view.read (Elt F) (h.unread x)) (Rect.unit (s := S256x1024) ![0, 0] S256x1024.size inb) = x
  rw [h.read_unread, View.ld_unit_zero (S := S256x1024) (by funext i; fin_cases i <;> rfl)]

theorem read_gain (a : Memref sig .tc .vmem S1x1024 .f32) (h : a.IsWhole) (x : Vec F S1x1024 .f32) (inb : ∀ i, (![0, 0] : Fin 2 → ℕ) i + S1x1024.size i ≤ S1x1024.size i) :
    View.readAt (Elt F) a.view (Rect.unit (s := S1x1024) ![0, 0] ![1, 1024] inb).toLoadRect (h.unread x) = x := by
  show View.ld (a.view.read (Elt F) (h.unread x)) (Rect.unit (s := S1x1024) ![0, 0] S1x1024.size inb) = x
  rw [h.read_unread, View.ld_unit_zero (S := S1x1024) (by funext i; fin_cases i <;> rfl)]

theorem read_mid (a : Memref sig .tc .vmem S1x256x1024 .f32) (h : a.IsWhole) (x : Vec F S1x256x1024 .f32) (inb : ∀ i, (![0, 0, 0] : Fin 3 → ℕ) i + S1x256x1024.size i ≤ S1x256x1024.size i) :
    View.readAt (Elt F) a.view (Rect.unit (s := S1x256x1024) ![0, 0, 0] ![1, 256, 1024] inb).toLoadRect (h.unread x) = x := by
  show View.ld (a.view.read (Elt F) (h.unread x)) (Rect.unit (s := S1x256x1024) ![0, 0, 0] S1x256x1024.size inb) = x
  rw [h.read_unread, View.ld_unit_zero (S := S1x256x1024) (by funext i; fin_cases i <;> rfl)]

theorem read_slot (a : Memref sig .tc .vmem S9x1024x1024 .bf16) (h : a.IsWhole) (x : Vec F S9x1024x1024 .bf16) {off : Fin 3 → ℕ}
    (inb : ∀ i, off i + S1x1024x1024.size i ≤ S9x1024x1024.size i) :
    View.readAt (Elt F) a.view (Rect.unit (s := S9x1024x1024) off ![1, 1024, 1024] inb).toLoadRect (h.unread x) = slot x inb := by
  show View.ld (a.view.read (Elt F) (h.unread x)) (Rect.unit (s := S9x1024x1024) off S1x1024x1024.size inb) = _
  rw [h.read_unread]
  rfl

set_option maxHeartbeats 2000000 in
theorem out_5 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_5 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay4 (k0_pay3 x0 x3 x2 x1) (slot x4 inb_S9x1024x1024_S1x1024x1024_0_0_0) := by
  unfold out0_A_5
  rw [View.read_writes_eq_canon _ _ _ (cover0_A_5 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_6 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_6 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay6 (slot x4 inb_S9x1024x1024_S1x1024x1024_1_0_0) (k0_pay3 x0 x3 x2 x1) := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1024x256) (by funext a; fin_cases a <;> rfl)]
  simp only [View.readCov_cons_toLoadRect, read_rows, read_gain, read_mid, read_slot]

set_option maxHeartbeats 2000000 in
theorem out_7 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_7 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay7 (slot x4 inb_S9x1024x1024_S1x1024x1024_1_0_0) (k0_pay3 x0 x3 x2 x1) := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1x1024x256) (by funext a; fin_cases a <;> rfl)]
  simp only [View.readCov_cons_toLoadRect, read_rows, read_gain, read_mid, read_slot]

set_option maxHeartbeats 2000000 in
theorem out_8 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_8 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay9 (slot x4 inb_S9x1024x1024_S1x1024x1024_2_0_0) (k0_pay3 x0 x3 x2 x1) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1024x256) (by funext a; fin_cases a <;> rfl)]
  simp only [View.readCov_cons_toLoadRect, read_rows, read_gain, read_mid, read_slot]

set_option maxHeartbeats 2000000 in
theorem out_9 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_9 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay10 (slot x4 inb_S9x1024x1024_S1x1024x1024_2_0_0) (k0_pay3 x0 x3 x2 x1) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S1x1x1024x256) (by funext a; fin_cases a <;> rfl)]
  simp only [View.readCov_cons_toLoadRect, read_rows, read_gain, read_mid, read_slot]

set_option maxHeartbeats 2000000 in
theorem out_10 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_10 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay11 (k0_pay3 x0 x3 x2 x1) (slot x4 inb_S9x1024x1024_S1x1024x1024_3_0_0) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_12 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_12 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay16 (k0_pay3 x0 x3 x2 x1) (slot x4 inb_S9x1024x1024_S1x1024x1024_6_0_0) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_13 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_13 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay1 (k0_pay17 (k0_pay3 x0 x3 x2 x1) (slot x4 inb_S9x1024x1024_S1x1024x1024_7_0_0)) (Scalar.ofBits .f32 0x3F800000#32) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_14 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_14 (F := F) c i a1 h1 a2 h2 a3 h3 a4 h4 a5 h5 a6 h6 a7 h7 a8 h8 a9 h9 a10 h10 a11 h11 a12 h12 a13 h13 a14 h14 a15 h15 a16 h16 x0 x1 x2 x3 x4 = k0_pay2 (k0_pay3 x0 x3 x2 x1) (slot x4 inb_S9x1024x1024_S1x1024x1024_8_0_0) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  rw [View.canon_unit_zero (S := S256x1024) (by funext a; fin_cases a <;> rfl)]
  simp only [View.readCov_cons_toLoadRect, read_rows, read_gain, read_mid, read_slot]

set_option maxHeartbeats 2000000 in
theorem out_11 (c : Dev nD) (i : grid0.Coords) a1 h1 a2 h2 a3 h3 a4 h4 a5 h5 a6 h6 a7 h7 a8 h8 a9 h9 a10 h10 a11 h11 a12 h12 a13 h13 a14 h14 a15 h15 a16 h16 x0 x1 x2 x3 x4 :
    out0_A_11 (F := F) c i a1 h1 a2 h2 a3 h3 a4 h4 a5 h5 a6 h6 a7 h7 a8 h8 a9 h9 a10 h10 a11 h11 a12 h12 a13 h13 a14 h14 a15 h15 a16 h16 x0 x1 x2 x3 x4 = View.canon [(⟨Rect.unit (s := S256x1024) ![0, 512] S256x512.size inb_S256x1024_S256x512_0_512, k0_pay15 (k0_pay13 (k0_pay3 x0 x3 x2 x1) (slot x4 inb_S9x1024x1024_S1x1024x1024_5_0_0)) (k0_pay14 (k0_pay3 x0 x3 x2 x1) (slot x4 inb_S9x1024x1024_S1x1024x1024_5_0_0))⟩ : View.Piece (Elt F) S256x1024 .f32),
        ⟨Rect.unit (s := S256x1024) ![0, 0] S256x512.size inb_S256x1024_S256x512_0_0, k0_pay12 (k0_pay3 x0 x3 x2 x1) (slot x4 inb_S9x1024x1024_S1x1024x1024_4_0_0)⟩] := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 x0 x1 x2 x3 x4)]
  unfold kernelRun0_A
  dsimp only
  sl_unfold_words
  simp only [View.readCov_cons_toLoadRect, read_rows, read_gain, read_mid, read_slot]

end Cert.SampleIdeal.Value

end
-- ==== Proof.SampArray.lean ====
/-
  The call's ten result arrays over the extended reals: each is the array of `Samp`'s function of the arguments.
-/
module

public import proofs.«01_k».proof.Proof.SampBody

@[expose] public section

set_option maxRecDepth 16384

noncomputable section

namespace Cert.SampleIdeal.Value

open Cert.SampleIdeal Cert.SampleIdeal.Gen Idealize.ShloMosaic Idealize.ShloMosaic.TcCoe Cert.Samp
open Cert.Proj (arr2 arr3 arr4 eta2)

/-- A loaded matrix, at an element. -/
theorem slot_apply (x4 : FVec Ideal S9x1024x1024 .bf16) {off : Fin 3 → ℕ} (j : Fin 9) (h : off = ![j.val, 0, 0])
    (inb : ∀ a, off a + S1x1024x1024.size a ≤ S9x1024x1024.size a) (a b : Fin 1024) :
    slot (F := Ideal) x4 inb (ix3 (0 : Fin 1) a b) = x4 (ix3 j a b) := by
  subst h
  show x4 _ = x4 _
  congr 1
  funext i
  apply Fin.ext
  match i with
  | ⟨0, _⟩ => show j.val + 1 * 0 = j.val; omega
  | ⟨1, _⟩ => show 0 + 1 * a.val = a.val; omega
  | ⟨2, _⟩ => show 0 + 1 * b.val = b.val; omega

variable (m : (ℓ : Loc nD τ sig) → Buf (Elt Ideal) ℓ) (c : Dev nD) (t : Fin cfg0.N)

/-- The products of the arguments. -/
def prods : Lanes := Samp.lanes (argX m c) (argSh m c) (argSc m c) (argG m c) (argW m c)

theorem pt (n : ℕ) (h : n < 2) : ∃ t : Fin cfg0.N, t.val = n := ⟨⟨n, lt_of_lt_of_eq h N_0.symm⟩, rfl⟩

/-- The block of a point. -/
def rowOf : Fin 2 := ⟨t.val, lt_of_lt_of_eq t.isLt N_0⟩

theorem at2_flat (Y : Lanes) (j : Fin 9) (r : Fin 256) (l : Fin 1024) (q : Fin 9216) (hq : q.val = 1024 * j.val + l.val) :
    at2 Y j (flatOf t r) l = Y (flatOf t r) q := by
  unfold at2
  rw [show (⟨1024 * j.val + l.val, by omega⟩ : Fin 9216) = q from Fin.ext hq.symm]

/-- The normalized and modulated rows of a point. -/
abbrev rowsAt : FVec Ideal S256x1024 .bf16 := k0_pay3 (F := Ideal) (iblk m c 0 t) (iblk m c 3 t) (iblk m c 2 t) (iblk m c 1 t)

/-- A matrix of a point. -/
abbrev matAt {off : Fin 3 → ℕ} (inb : ∀ a, off a + S1x1024x1024.size a ≤ S9x1024x1024.size a) : FVec Ideal S1x1024x1024 .bf16 :=
  slot (F := Ideal) (iblk m c 4 t) inb

theorem rowsAt_apply (r : Fin 256) (k : Fin 1024) :
    rowsAt m c t (ix2 r k) = hid (argX m c) (argSh m c) (argSc m c) (argG m c) (seq (flatOf t r)) (pos (flatOf t r)) k := by
  refine (pay3_apply _ _ _ _ r k).trans ?_
  rw [iblk0_apply, iblk1_apply, iblk2_apply, iblk3_apply, Finset.sum_congr rfl fun k _ => by rw [iblk0_apply]]
  rfl

/-- A row's product with what holds one column of the wide matrix. -/
theorem dot_eq (r : Fin 256) (e : Fin 1024 → EReal) (q : Fin 9216) (he : ∀ k, e k = argW m c (ix2 k q)) :
    ∑ k : Fin 1024, rowsAt m c t (ix2 r k) * e k = prods m c (flatOf t r) q := by
  unfold prods Samp.lanes Samp.prod
  exact Finset.sum_congr rfl fun k _ => by rw [rowsAt_apply, he]

theorem matAt_apply {off : Fin 3 → ℕ} (inb : ∀ a, off a + S1x1024x1024.size a ≤ S9x1024x1024.size a) (j : Fin 9) (h : off = ![j.val, 0, 0])
    (a b : Fin 1024) : matAt m c t inb (ix3 (0 : Fin 1) a b) = stack (argW m c) (ix3 j a b) :=
  (slot_apply _ j h inb a b).trans (iblk4_apply m c t j a b)

theorem dot0 (r : Fin 256) (l : Fin 1024) :
    ∑ k : Fin 1024, rowsAt m c t (ix2 r k) * matAt m c t inb_S9x1024x1024_S1x1024x1024_0_0_0 (ix3 (0 : Fin 1) k l) = at2 (prods m c) 0 (flatOf t r) l :=
  (dot_eq m c t r _ (⟨1024 * 0 + l.val, by omega⟩ : Fin 9216) fun k => by rw [matAt_apply m c t _ 0 rfl]; unfold stack; rw [pile0, part0_apply]).trans
    (at2_flat t _ 0 r l _ rfl).symm

theorem dot3 (r : Fin 256) (l : Fin 1024) :
    ∑ k : Fin 1024, rowsAt m c t (ix2 r k) * matAt m c t inb_S9x1024x1024_S1x1024x1024_3_0_0 (ix3 (0 : Fin 1) k l) = at2 (prods m c) 3 (flatOf t r) l :=
  (dot_eq m c t r _ (⟨1024 * 3 + l.val, by omega⟩ : Fin 9216) fun k => by rw [matAt_apply m c t _ 3 rfl]; unfold stack; rw [pile3, part3_apply]).trans
    (at2_flat t _ 3 r l _ rfl).symm

theorem dot6 (r : Fin 256) (l : Fin 1024) :
    ∑ k : Fin 1024, rowsAt m c t (ix2 r k) * matAt m c t inb_S9x1024x1024_S1x1024x1024_6_0_0 (ix3 (0 : Fin 1) k l) = at2 (prods m c) 6 (flatOf t r) l :=
  (dot_eq m c t r _ (⟨1024 * 6 + l.val, by omega⟩ : Fin 9216) fun k => by rw [matAt_apply m c t _ 6 rfl]; unfold stack; rw [pile6, part6_apply]).trans
    (at2_flat t _ 6 r l _ rfl).symm

theorem dot7 (r : Fin 256) (l : Fin 1024) :
    ∑ k : Fin 1024, rowsAt m c t (ix2 r k) * matAt m c t inb_S9x1024x1024_S1x1024x1024_7_0_0 (ix3 (0 : Fin 1) k l) = at2 (prods m c) 7 (flatOf t r) l :=
  (dot_eq m c t r _ (⟨1024 * 7 + l.val, by omega⟩ : Fin 9216) fun k => by rw [matAt_apply m c t _ 7 rfl]; unfold stack; rw [pile7, part7_apply]).trans
    (at2_flat t _ 7 r l _ rfl).symm

theorem dot8 (r : Fin 256) (l : Fin 1024) :
    ∑ k : Fin 1024, rowsAt m c t (ix2 r k) * matAt m c t inb_S9x1024x1024_S1x1024x1024_8_0_0 (ix3 (0 : Fin 1) k l) = at2 (prods m c) 8 (flatOf t r) l :=
  (dot_eq m c t r _ (⟨1024 * 8 + l.val, by omega⟩ : Fin 9216) fun k => by rw [matAt_apply m c t _ 8 rfl]; unfold stack; rw [pile8, part8_apply]).trans
    (at2_flat t _ 8 r l _ rfl).symm

theorem dot1 (r : Fin 256) (f : Fin 1024) :
    ∑ k : Fin 1024, rowsAt m c t (ix2 r k) * matAt m c t inb_S9x1024x1024_S1x1024x1024_1_0_0 (ix3 (0 : Fin 1) f k) = across (prods m c) 1 (0 : Fin 1) f (flatOf t r) :=
  dot_eq m c t r _ (⟨1024 * 1 + f.val, by omega⟩ : Fin 9216) fun k => by rw [matAt_apply m c t _ 1 rfl]; unfold stack; rw [pile1, turn_apply, part1_apply]

theorem dot2 (r : Fin 256) (f : Fin 1024) :
    ∑ k : Fin 1024, rowsAt m c t (ix2 r k) * matAt m c t inb_S9x1024x1024_S1x1024x1024_2_0_0 (ix3 (0 : Fin 1) f k) = across (prods m c) 2 (0 : Fin 1) f (flatOf t r) :=
  dot_eq m c t r _ (⟨1024 * 2 + f.val, by omega⟩ : Fin 9216) fun k => by rw [matAt_apply m c t _ 2 rfl]; unfold stack; rw [pile2, turn_apply, part2_apply]

theorem dot4_left (r : Fin 256) (l : Fin 512) :
    ∑ k : Fin 1024, rowsAt m c t (ix2 r k) * matAt m c t inb_S9x1024x1024_S1x1024x1024_4_0_0 (ix3 (0 : Fin 1) k (⟨l.val, by omega⟩ : Fin 1024))
      = at2 (prods m c) 4 (flatOf t r) (⟨l.val, by omega⟩ : Fin 1024) :=
  (dot_eq m c t r _ (⟨1024 * 4 + (⟨l.val, by omega⟩ : Fin 1024).val, by dsimp only; omega⟩ : Fin 9216) fun k => by
    rw [matAt_apply m c t _ 4 rfl]; unfold stack; rw [pile4, pairL_left, part4_apply]).trans
    (at2_flat t _ 4 r _ _ rfl).symm

theorem dot4_right (r : Fin 256) (l : Fin 512) :
    ∑ k : Fin 1024, rowsAt m c t (ix2 r k) * matAt m c t inb_S9x1024x1024_S1x1024x1024_4_0_0 (ix3 (0 : Fin 1) k (⟨512 + l.val, by omega⟩ : Fin 1024))
      = at2 (prods m c) 5 (flatOf t r) (⟨l.val, by omega⟩ : Fin 1024) :=
  (dot_eq m c t r _ (⟨1024 * 5 + (⟨l.val, by omega⟩ : Fin 1024).val, by dsimp only; omega⟩ : Fin 9216) fun k => by
    rw [matAt_apply m c t _ 4 rfl]; unfold stack; rw [pile4, pairL_right, part5_apply]).trans
    (at2_flat t _ 5 r _ _ rfl).symm

theorem dot5_left (r : Fin 256) (l : Fin 512) :
    ∑ k : Fin 1024, rowsAt m c t (ix2 r k) * matAt m c t inb_S9x1024x1024_S1x1024x1024_5_0_0 (ix3 (0 : Fin 1) k (⟨l.val, by omega⟩ : Fin 1024))
      = at2 (prods m c) 4 (flatOf t r) (⟨512 + l.val, by omega⟩ : Fin 1024) :=
  (dot_eq m c t r _ (⟨1024 * 4 + (⟨512 + l.val, by omega⟩ : Fin 1024).val, by dsimp only; omega⟩ : Fin 9216) fun k => by
    rw [matAt_apply m c t _ 5 rfl]; unfold stack; rw [pile5, pairR_left, part4_apply]).trans
    (at2_flat t _ 4 r _ _ rfl).symm

theorem dot5_right (r : Fin 256) (l : Fin 512) :
    ∑ k : Fin 1024, rowsAt m c t (ix2 r k) * matAt m c t inb_S9x1024x1024_S1x1024x1024_5_0_0 (ix3 (0 : Fin 1) k (⟨512 + l.val, by omega⟩ : Fin 1024))
      = at2 (prods m c) 5 (flatOf t r) (⟨512 + l.val, by omega⟩ : Fin 1024) :=
  (dot_eq m c t r _ (⟨1024 * 5 + (⟨512 + l.val, by omega⟩ : Fin 1024).val, by dsimp only; omega⟩ : Fin 9216) fun k => by
    rw [matAt_apply m c t _ 5 rfl]; unfold stack; rw [pile5, pairR_right, part5_apply]).trans
    (at2_flat t _ 5 r _ _ rfl).symm

theorem map5 (t : Fin cfg0.N) : win0_5.index t (0 : Fin 2) = t.val ∧ win0_5.index t (1 : Fin 2) = 0 :=
  (by decide +kernel : ∀ t : Fin grid0.N, win0_5.index t (0 : Fin 2) = t.val ∧ win0_5.index t (1 : Fin 2) = 0) t

theorem emb5 (r : Fin 256) (l : Fin 1024) : (((cfg0.win 5).blk t).view.emb (ix2 r l) : S512x1024.Idx) = ix2 (flatOf t r) l := by
  obtain ⟨e0, e1⟩ := map5 t
  funext a
  apply Fin.ext
  match a with
  | ⟨0, _⟩ => show win0_5.index t (0 : Fin 2) * 256 + 1 * r.val = 256 * t.val + r.val; omega
  | ⟨1, _⟩ => show win0_5.index t (1 : Fin 2) * 1024 + 1 * l.val = l.val; omega

theorem covered5 (y : S512x1024.Idx) : ∃ t : Fin cfg0.N, (cfg0.win 5).flush t = true ∧ y ∈ ((cfg0.win 5).blk t).view.set := by
  have h0 : (y 0).val < 512 := (y 0).isLt
  have h1 : (y 1).val < 1024 := (y 1).isLt
  obtain ⟨t, ht⟩ := pt ((y 0).val / 256) (by omega)
  refine ⟨t, flush0_5 _, ?_⟩
  have h := ((cfg0.win 5).blk t).view.emb_mem_set (ix2 (⟨(y 0).val % 256, by omega⟩ : Fin 256) (⟨(y 1).val, h1⟩ : Fin 1024))
  rw [emb5] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map10 (t : Fin cfg0.N) : win0_10.index t (0 : Fin 2) = t.val ∧ win0_10.index t (1 : Fin 2) = 0 :=
  (by decide +kernel : ∀ t : Fin grid0.N, win0_10.index t (0 : Fin 2) = t.val ∧ win0_10.index t (1 : Fin 2) = 0) t

theorem emb10 (r : Fin 256) (l : Fin 1024) : (((cfg0.win 10).blk t).view.emb (ix2 r l) : S512x1024.Idx) = ix2 (flatOf t r) l := by
  obtain ⟨e0, e1⟩ := map10 t
  funext a
  apply Fin.ext
  match a with
  | ⟨0, _⟩ => show win0_10.index t (0 : Fin 2) * 256 + 1 * r.val = 256 * t.val + r.val; omega
  | ⟨1, _⟩ => show win0_10.index t (1 : Fin 2) * 1024 + 1 * l.val = l.val; omega

theorem covered10 (y : S512x1024.Idx) : ∃ t : Fin cfg0.N, (cfg0.win 10).flush t = true ∧ y ∈ ((cfg0.win 10).blk t).view.set := by
  have h0 : (y 0).val < 512 := (y 0).isLt
  have h1 : (y 1).val < 1024 := (y 1).isLt
  obtain ⟨t, ht⟩ := pt ((y 0).val / 256) (by omega)
  refine ⟨t, flush0_10 _, ?_⟩
  have h := ((cfg0.win 10).blk t).view.emb_mem_set (ix2 (⟨(y 0).val % 256, by omega⟩ : Fin 256) (⟨(y 1).val, h1⟩ : Fin 1024))
  rw [emb10] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map11 (t : Fin cfg0.N) : win0_11.index t (0 : Fin 2) = t.val ∧ win0_11.index t (1 : Fin 2) = 0 :=
  (by decide +kernel : ∀ t : Fin grid0.N, win0_11.index t (0 : Fin 2) = t.val ∧ win0_11.index t (1 : Fin 2) = 0) t

theorem emb11 (r : Fin 256) (l : Fin 1024) : (((cfg0.win 11).blk t).view.emb (ix2 r l) : S512x1024.Idx) = ix2 (flatOf t r) l := by
  obtain ⟨e0, e1⟩ := map11 t
  funext a
  apply Fin.ext
  match a with
  | ⟨0, _⟩ => show win0_11.index t (0 : Fin 2) * 256 + 1 * r.val = 256 * t.val + r.val; omega
  | ⟨1, _⟩ => show win0_11.index t (1 : Fin 2) * 1024 + 1 * l.val = l.val; omega

theorem covered11 (y : S512x1024.Idx) : ∃ t : Fin cfg0.N, (cfg0.win 11).flush t = true ∧ y ∈ ((cfg0.win 11).blk t).view.set := by
  have h0 : (y 0).val < 512 := (y 0).isLt
  have h1 : (y 1).val < 1024 := (y 1).isLt
  obtain ⟨t, ht⟩ := pt ((y 0).val / 256) (by omega)
  refine ⟨t, flush0_11 _, ?_⟩
  have h := ((cfg0.win 11).blk t).view.emb_mem_set (ix2 (⟨(y 0).val % 256, by omega⟩ : Fin 256) (⟨(y 1).val, h1⟩ : Fin 1024))
  rw [emb11] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map12 (t : Fin cfg0.N) : win0_12.index t (0 : Fin 2) = t.val ∧ win0_12.index t (1 : Fin 2) = 0 :=
  (by decide +kernel : ∀ t : Fin grid0.N, win0_12.index t (0 : Fin 2) = t.val ∧ win0_12.index t (1 : Fin 2) = 0) t

theorem emb12 (r : Fin 256) (l : Fin 1024) : (((cfg0.win 12).blk t).view.emb (ix2 r l) : S512x1024.Idx) = ix2 (flatOf t r) l := by
  obtain ⟨e0, e1⟩ := map12 t
  funext a
  apply Fin.ext
  match a with
  | ⟨0, _⟩ => show win0_12.index t (0 : Fin 2) * 256 + 1 * r.val = 256 * t.val + r.val; omega
  | ⟨1, _⟩ => show win0_12.index t (1 : Fin 2) * 1024 + 1 * l.val = l.val; omega

theorem covered12 (y : S512x1024.Idx) : ∃ t : Fin cfg0.N, (cfg0.win 12).flush t = true ∧ y ∈ ((cfg0.win 12).blk t).view.set := by
  have h0 : (y 0).val < 512 := (y 0).isLt
  have h1 : (y 1).val < 1024 := (y 1).isLt
  obtain ⟨t, ht⟩ := pt ((y 0).val / 256) (by omega)
  refine ⟨t, flush0_12 _, ?_⟩
  have h := ((cfg0.win 12).blk t).view.emb_mem_set (ix2 (⟨(y 0).val % 256, by omega⟩ : Fin 256) (⟨(y 1).val, h1⟩ : Fin 1024))
  rw [emb12] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map13 (t : Fin cfg0.N) : win0_13.index t (0 : Fin 2) = t.val ∧ win0_13.index t (1 : Fin 2) = 0 :=
  (by decide +kernel : ∀ t : Fin grid0.N, win0_13.index t (0 : Fin 2) = t.val ∧ win0_13.index t (1 : Fin 2) = 0) t

theorem emb13 (r : Fin 256) (l : Fin 1024) : (((cfg0.win 13).blk t).view.emb (ix2 r l) : S512x1024.Idx) = ix2 (flatOf t r) l := by
  obtain ⟨e0, e1⟩ := map13 t
  funext a
  apply Fin.ext
  match a with
  | ⟨0, _⟩ => show win0_13.index t (0 : Fin 2) * 256 + 1 * r.val = 256 * t.val + r.val; omega
  | ⟨1, _⟩ => show win0_13.index t (1 : Fin 2) * 1024 + 1 * l.val = l.val; omega

theorem covered13 (y : S512x1024.Idx) : ∃ t : Fin cfg0.N, (cfg0.win 13).flush t = true ∧ y ∈ ((cfg0.win 13).blk t).view.set := by
  have h0 : (y 0).val < 512 := (y 0).isLt
  have h1 : (y 1).val < 1024 := (y 1).isLt
  obtain ⟨t, ht⟩ := pt ((y 0).val / 256) (by omega)
  refine ⟨t, flush0_13 _, ?_⟩
  have h := ((cfg0.win 13).blk t).view.emb_mem_set (ix2 (⟨(y 0).val % 256, by omega⟩ : Fin 256) (⟨(y 1).val, h1⟩ : Fin 1024))
  rw [emb13] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map14 (t : Fin cfg0.N) : win0_14.index t (0 : Fin 2) = t.val ∧ win0_14.index t (1 : Fin 2) = 0 :=
  (by decide +kernel : ∀ t : Fin grid0.N, win0_14.index t (0 : Fin 2) = t.val ∧ win0_14.index t (1 : Fin 2) = 0) t

theorem emb14 (r : Fin 256) (l : Fin 1024) : (((cfg0.win 14).blk t).view.emb (ix2 r l) : S512x1024.Idx) = ix2 (flatOf t r) l := by
  obtain ⟨e0, e1⟩ := map14 t
  funext a
  apply Fin.ext
  match a with
  | ⟨0, _⟩ => show win0_14.index t (0 : Fin 2) * 256 + 1 * r.val = 256 * t.val + r.val; omega
  | ⟨1, _⟩ => show win0_14.index t (1 : Fin 2) * 1024 + 1 * l.val = l.val; omega

theorem covered14 (y : S512x1024.Idx) : ∃ t : Fin cfg0.N, (cfg0.win 14).flush t = true ∧ y ∈ ((cfg0.win 14).blk t).view.set := by
  have h0 : (y 0).val < 512 := (y 0).isLt
  have h1 : (y 1).val < 1024 := (y 1).isLt
  obtain ⟨t, ht⟩ := pt ((y 0).val / 256) (by omega)
  refine ⟨t, flush0_14 _, ?_⟩
  have h := ((cfg0.win 14).blk t).view.emb_mem_set (ix2 (⟨(y 0).val % 256, by omega⟩ : Fin 256) (⟨(y 1).val, h1⟩ : Fin 1024))
  rw [emb14] at h
  have ey : y = ix2 (flatOf t (⟨(y 0).val % 256, by omega⟩ : Fin 256)) (⟨(y 1).val, h1⟩ : Fin 1024) := by
    funext a
    apply Fin.ext
    match a with
    | ⟨0, _⟩ => show (y 0).val = 256 * t.val + (y 0).val % 256; omega
    | ⟨1, _⟩ => rfl
  rw [ey]
  exact h

theorem map6 (t : Fin cfg0.N) : win0_6.index t (0 : Fin 3) = 0 ∧ win0_6.index t (1 : Fin 3) = 0 ∧ win0_6.index t (2 : Fin 3) = t.val :=
  (by decide +kernel : ∀ t : Fin grid0.N, win0_6.index t (0 : Fin 3) = 0 ∧ win0_6.index t (1 : Fin 3) = 0 ∧ win0_6.index t (2 : Fin 3) = t.val) t

theorem emb6 (f : Fin 1024) (r : Fin 256) :
    (((cfg0.win 6).blk t).view.emb (ix3 (0 : Fin 1) f r) : S1x1024x512.Idx) = ix3 (0 : Fin 1) f (flatOf t r) := by
  obtain ⟨e0, e1, e2⟩ := map6 t
  funext a
  apply Fin.ext
  match a with
  | ⟨0, _⟩ => show win0_6.index t (0 : Fin 3) * 1 + 1 * 0 = 0; omega
  | ⟨1, _⟩ => show win0_6.index t (1 : Fin 3) * 1024 + 1 * f.val = f.val; omega
  | ⟨2, _⟩ => show win0_6.index t (2 : Fin 3) * 256 + 1 * r.val = 256 * (t.val) + r.val; omega

theorem covered6 (y : S1x1024x512.Idx) : ∃ t : Fin cfg0.N, (cfg0.win 6).flush t = true ∧ y ∈ ((cfg0.win 6).blk t).view.set := by
  have h0 : (y 0).val < 1 := (y 0).isLt
  have h1 : (y 1).val < 1024 := (y 1).isLt
  have h2 : (y 2).val < 512 := (y 2).isLt
  obtain ⟨t, ht⟩ := pt ((y 2).val / 256) (by omega)
  refine ⟨t, flush0_6 _, ?_⟩
  have h := ((cfg0.win 6).blk t).view.emb_mem_set
    (ix3 (0 : Fin 1) (⟨(y 1).val, h1⟩ : Fin 1024) (⟨(y 2).val % 256, by omega⟩ : Fin 256))
  rw [emb6] at h
  have ey : y = ix3 (0 : Fin 1) (⟨(y 1).val, h1⟩ : Fin 1024)
      (flatOf t (⟨(y 2).val % 256, by omega⟩ : Fin 256)) := by
    funext a
    apply Fin.ext
    match a with
    | ⟨0, _⟩ => show (y 0).val = 0; omega
    | ⟨1, _⟩ => rfl
    | ⟨2, _⟩ => show (y 2).val = 256 * (t.val) + (y 2).val % 256; omega
  rw [ey]
  exact h

theorem map8 (t : Fin cfg0.N) : win0_8.index t (0 : Fin 3) = 0 ∧ win0_8.index t (1 : Fin 3) = 0 ∧ win0_8.index t (2 : Fin 3) = t.val :=
  (by decide +kernel : ∀ t : Fin grid0.N, win0_8.index t (0 : Fin 3) = 0 ∧ win0_8.index t (1 : Fin 3) = 0 ∧ win0_8.index t (2 : Fin 3) = t.val) t

theorem emb8 (f : Fin 1024) (r : Fin 256) :
    (((cfg0.win 8).blk t).view.emb (ix3 (0 : Fin 1) f r) : S1x1024x512.Idx) = ix3 (0 : Fin 1) f (flatOf t r) := by
  obtain ⟨e0, e1, e2⟩ := map8 t
  funext a
  apply Fin.ext
  match a with
  | ⟨0, _⟩ => show win0_8.index t (0 : Fin 3) * 1 + 1 * 0 = 0; omega
  | ⟨1, _⟩ => show win0_8.index t (1 : Fin 3) * 1024 + 1 * f.val = f.val; omega
  | ⟨2, _⟩ => show win0_8.index t (2 : Fin 3) * 256 + 1 * r.val = 256 * (t.val) + r.val; omega

theorem covered8 (y : S1x1024x512.Idx) : ∃ t : Fin cfg0.N, (cfg0.win 8).flush t = true ∧ y ∈ ((cfg0.win 8).blk t).view.set := by
  have h0 : (y 0).val < 1 := (y 0).isLt
  have h1 : (y 1).val < 1024 := (y 1).isLt
  have h2 : (y 2).val < 512 := (y 2).isLt
  obtain ⟨t, ht⟩ := pt ((y 2).val / 256) (by omega)
  refine ⟨t, flush0_8 _, ?_⟩
  have h := ((cfg0.win 8).blk t).view.emb_mem_set
    (ix3 (0 : Fin 1) (⟨(y 1).val, h1⟩ : Fin 1024) (⟨(y 2).val % 256, by omega⟩ : Fin 256))
  rw [emb8] at h
  have ey : y = ix3 (0 : Fin 1) (⟨(y 1).val, h1⟩ : Fin 1024)
      (flatOf t (⟨(y 2).val % 256, by omega⟩ : Fin 256)) := by
    funext a
    apply Fin.ext
    match a with
    | ⟨0, _⟩ => show (y 0).val = 0; omega
    | ⟨1, _⟩ => rfl
    | ⟨2, _⟩ => show (y 2).val = 256 * (t.val) + (y 2).val % 256; omega
  rw [ey]
  exact h

theorem map7 (t : Fin cfg0.N) : win0_7.index t (0 : Fin 4) = 0 ∧ win0_7.index t (1 : Fin 4) = t.val ∧ win0_7.index t (2 : Fin 4) = 0
    ∧ win0_7.index t (3 : Fin 4) = 0 :=
  (by decide +kernel : ∀ t : Fin grid0.N, win0_7.index t (0 : Fin 4) = 0 ∧ win0_7.index t (1 : Fin 4) = t.val ∧ win0_7.index t (2 : Fin 4) = 0
    ∧ win0_7.index t (3 : Fin 4) = 0) t

theorem emb7 (f : Fin 1024) (r : Fin 256) :
    (((cfg0.win 7).blk t).view.emb (ix4 (0 : Fin 1) (0 : Fin 1) f r) : S1x2x1024x256.Idx) = ix4 (0 : Fin 1) (rowOf t) f r := by
  obtain ⟨e0, e1, e2, e3⟩ := map7 t
  funext a
  apply Fin.ext
  match a with
  | ⟨0, _⟩ => show win0_7.index t (0 : Fin 4) * 1 + 1 * 0 = 0; omega
  | ⟨1, _⟩ => show win0_7.index t (1 : Fin 4) * 1 + 1 * 0 = t.val; omega
  | ⟨2, _⟩ => show win0_7.index t (2 : Fin 4) * 1024 + 1 * f.val = f.val; omega
  | ⟨3, _⟩ => show win0_7.index t (3 : Fin 4) * 256 + 1 * r.val = r.val; omega

theorem covered7 (y : S1x2x1024x256.Idx) : ∃ t : Fin cfg0.N, (cfg0.win 7).flush t = true ∧ y ∈ ((cfg0.win 7).blk t).view.set := by
  have h0 : (y 0).val < 1 := (y 0).isLt
  have h1 : (y 1).val < 2 := (y 1).isLt
  have h2 : (y 2).val < 1024 := (y 2).isLt
  have h3 : (y 3).val < 256 := (y 3).isLt
  obtain ⟨t, ht⟩ := pt ((y 1).val) (by omega)
  refine ⟨t, flush0_7 _, ?_⟩
  have h := ((cfg0.win 7).blk t).view.emb_mem_set
    (ix4 (0 : Fin 1) (0 : Fin 1) (⟨(y 2).val, h2⟩ : Fin 1024) (⟨(y 3).val, h3⟩ : Fin 256))
  rw [emb7] at h
  have ey : y = ix4 (0 : Fin 1) (rowOf t)
      (⟨(y 2).val, h2⟩ : Fin 1024) (⟨(y 3).val, h3⟩ : Fin 256) := by
    funext a
    apply Fin.ext
    match a with
    | ⟨0, _⟩ => show (y 0).val = 0; omega
    | ⟨1, _⟩ => show (y 1).val = t.val; omega
    | ⟨2, _⟩ => rfl
    | ⟨3, _⟩ => rfl
  rw [ey]
  exact h

theorem map9 (t : Fin cfg0.N) : win0_9.index t (0 : Fin 4) = 0 ∧ win0_9.index t (1 : Fin 4) = t.val ∧ win0_9.index t (2 : Fin 4) = 0
    ∧ win0_9.index t (3 : Fin 4) = 0 :=
  (by decide +kernel : ∀ t : Fin grid0.N, win0_9.index t (0 : Fin 4) = 0 ∧ win0_9.index t (1 : Fin 4) = t.val ∧ win0_9.index t (2 : Fin 4) = 0
    ∧ win0_9.index t (3 : Fin 4) = 0) t

theorem emb9 (f : Fin 1024) (r : Fin 256) :
    (((cfg0.win 9).blk t).view.emb (ix4 (0 : Fin 1) (0 : Fin 1) f r) : S1x2x1024x256.Idx) = ix4 (0 : Fin 1) (rowOf t) f r := by
  obtain ⟨e0, e1, e2, e3⟩ := map9 t
  funext a
  apply Fin.ext
  match a with
  | ⟨0, _⟩ => show win0_9.index t (0 : Fin 4) * 1 + 1 * 0 = 0; omega
  | ⟨1, _⟩ => show win0_9.index t (1 : Fin 4) * 1 + 1 * 0 = t.val; omega
  | ⟨2, _⟩ => show win0_9.index t (2 : Fin 4) * 1024 + 1 * f.val = f.val; omega
  | ⟨3, _⟩ => show win0_9.index t (3 : Fin 4) * 256 + 1 * r.val = r.val; omega

theorem covered9 (y : S1x2x1024x256.Idx) : ∃ t : Fin cfg0.N, (cfg0.win 9).flush t = true ∧ y ∈ ((cfg0.win 9).blk t).view.set := by
  have h0 : (y 0).val < 1 := (y 0).isLt
  have h1 : (y 1).val < 2 := (y 1).isLt
  have h2 : (y 2).val < 1024 := (y 2).isLt
  have h3 : (y 3).val < 256 := (y 3).isLt
  obtain ⟨t, ht⟩ := pt ((y 1).val) (by omega)
  refine ⟨t, flush0_9 _, ?_⟩
  have h := ((cfg0.win 9).blk t).view.emb_mem_set
    (ix4 (0 : Fin 1) (0 : Fin 1) (⟨(y 2).val, h2⟩ : Fin 1024) (⟨(y 3).val, h3⟩ : Fin 256))
  rw [emb9] at h
  have ey : y = ix4 (0 : Fin 1) (rowOf t)
      (⟨(y 2).val, h2⟩ : Fin 1024) (⟨(y 3).val, h3⟩ : Fin 256) := by
    funext a
    apply Fin.ext
    match a with
    | ⟨0, _⟩ => show (y 0).val = 0; omega
    | ⟨1, _⟩ => show (y 1).val = t.val; omega
    | ⟨2, _⟩ => rfl
    | ⟨3, _⟩ => rfl
  rw [ey]
  exact h

/-- A block is its part of an array when it is so element by element. -/
theorem block2 (B : (⟨2, ![256, 1024]⟩ : Shape).Idx → EReal) (E : (⟨2, ![256, 1024]⟩ : Shape).Idx → (⟨2, ![512, 1024]⟩ : Shape).Idx)
    (f : Fin 512 → Fin 1024 → EReal) (hE : ∀ r l, E (ix2 r l) = ix2 (flatOf t r) l) (hB : ∀ r l, B (ix2 r l) = f (flatOf t r) l)
    (y : (⟨2, ![256, 1024]⟩ : Shape).Idx) : B y = arr2 f (E y) :=
  (congrArg B (eta2 y)).trans ((hB (y 0) (y 1)).trans (congrArg (arr2 f) ((congrArg E (eta2 y)).trans (hE (y 0) (y 1)))).symm)

theorem block3 (B : (⟨3, ![1, 1024, 256]⟩ : Shape).Idx → EReal) (E : (⟨3, ![1, 1024, 256]⟩ : Shape).Idx → (⟨3, ![1, 1024, 512]⟩ : Shape).Idx)
    (f : Fin 1 → Fin 1024 → Fin 512 → EReal) (hE : ∀ a r, E (ix3 (0 : Fin 1) a r) = ix3 (0 : Fin 1) a (flatOf t r))
    (hB : ∀ a r, B (ix3 (0 : Fin 1) a r) = f (0 : Fin 1) a (flatOf t r)) (y : (⟨3, ![1, 1024, 256]⟩ : Shape).Idx) : B y = arr3 f (E y) := by
  have ey : y = ix3 (0 : Fin 1) (y 1) (y 2) := by
    funext i
    match i with
    | ⟨0, _⟩ => exact Fin.ext (by have h : (y 0).val < 1 := (y 0).isLt; show (y 0).val = 0; omega)
    | ⟨1, _⟩ => rfl
    | ⟨2, _⟩ => rfl
  exact (congrArg B ey).trans ((hB (y 1) (y 2)).trans (congrArg (arr3 f) ((congrArg E ey).trans (hE (y 1) (y 2)))).symm)

theorem block4 (B : (⟨4, ![1, 1, 1024, 256]⟩ : Shape).Idx → EReal) (E : (⟨4, ![1, 1, 1024, 256]⟩ : Shape).Idx → (⟨4, ![1, 2, 1024, 256]⟩ : Shape).Idx)
    (f : Fin 1 → Fin 2 → Fin 1024 → Fin 256 → EReal) (hE : ∀ a r, E (ix4 (0 : Fin 1) (0 : Fin 1) a r) = ix4 (0 : Fin 1) (rowOf t) a r)
    (hB : ∀ a r, B (ix4 (0 : Fin 1) (0 : Fin 1) a r) = f (0 : Fin 1) (rowOf t) a r) (y : (⟨4, ![1, 1, 1024, 256]⟩ : Shape).Idx) : B y = arr4 f (E y) := by
  have ey : y = ix4 (0 : Fin 1) (0 : Fin 1) (y 2) (y 3) := by
    funext i
    match i with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  exact (congrArg B ey).trans ((hB (y 2) (y 3)).trans (congrArg (arr4 f) ((congrArg E ey).trans (hE (y 2) (y 3)))).symm)

/-- The gated block, as a function of a block's index. -/
def gatedAt (y : S256x1024.Idx) : EReal := gated (prods m c) (flatOf t (y 0)) (y 1)

theorem right (x : S256x512.Idx) :
    k0_pay15 (F := Ideal) (k0_pay13 (rowsAt m c t) (matAt m c t inb_S9x1024x1024_S1x1024x1024_5_0_0)) (k0_pay14 (rowsAt m c t) (matAt m c t inb_S9x1024x1024_S1x1024x1024_5_0_0)) x = gatedAt m c t ((Rect.unit (s := S256x1024) ![0, 512] S256x512.size inb_S256x1024_S256x512_0_512).emb x) := by
  have e0 : flatOf t (x 0) = flatOf t ((Rect.unit (s := S256x1024) ![0, 512] S256x512.size inb_S256x1024_S256x512_0_512).emb x 0) :=
    congrArg (flatOf t) (Fin.ext (by show (x 0).val = 0 + 1 * (x 0).val; omega))
  have key : ∀ (r : Fin 256) (l : Fin 512), k0_pay15 (F := Ideal) (k0_pay13 (rowsAt m c t) (matAt m c t inb_S9x1024x1024_S1x1024x1024_5_0_0)) (k0_pay14 (rowsAt m c t) (matAt m c t inb_S9x1024x1024_S1x1024x1024_5_0_0)) (ix2 r l)
      = gated (prods m c) (flatOf t r) (⟨512 + l.val, by omega⟩ : Fin 1024) := fun r l => by
    refine (glu1_apply _ _ r l).trans ?_
    rw [dot5_left, dot5_right]
    rfl

  refine (congrArg _ (eta2 (a := 256) (b := 512) x)).trans ((key (x 0) (x 1)).trans ?_)
  unfold gatedAt
  exact congrArg₂ (gated (prods m c)) e0 (Fin.ext (by show 512 + (x 1).val = 512 + 1 * (x 1).val; omega))

theorem left (x : S256x512.Idx) :
    k0_pay12 (F := Ideal) (rowsAt m c t) (matAt m c t inb_S9x1024x1024_S1x1024x1024_4_0_0) x = gatedAt m c t ((Rect.unit (s := S256x1024) ![0, 0] S256x512.size inb_S256x1024_S256x512_0_0).emb x) := by
  have e0 : flatOf t (x 0) = flatOf t ((Rect.unit (s := S256x1024) ![0, 0] S256x512.size inb_S256x1024_S256x512_0_0).emb x 0) :=
    congrArg (flatOf t) (Fin.ext (by show (x 0).val = 0 + 1 * (x 0).val; omega))
  have key : ∀ (r : Fin 256) (l : Fin 512), k0_pay12 (F := Ideal) (rowsAt m c t) (matAt m c t inb_S9x1024x1024_S1x1024x1024_4_0_0) (ix2 r l)
      = gated (prods m c) (flatOf t r) (⟨0 + l.val, by omega⟩ : Fin 1024) := fun r l => by
    refine (glu0_apply _ _ r l).trans ?_
    rw [dot4_left, dot4_right]
    unfold gated
    rw [show (⟨0 + l.val, by omega⟩ : Fin 1024) = ⟨l.val, by omega⟩ from Fin.ext (Nat.zero_add _)]
  refine (congrArg _ (eta2 (a := 256) (b := 512) x)).trans ((key (x 0) (x 1)).trans ?_)
  unfold gatedAt
  exact congrArg₂ (gated (prods m c)) e0 (Fin.ext (by show 0 + (x 1).val = 0 + 1 * (x 1).val; omega))

/-- The gated block, from its two halves. -/
theorem gated_apply (r : Fin 256) (l : Fin 1024) :
    View.canon (Val := Elt Ideal) [(⟨Rect.unit (s := S256x1024) ![0, 512] S256x512.size inb_S256x1024_S256x512_0_512,
          k0_pay15 (F := Ideal) (k0_pay13 (rowsAt m c t) (matAt m c t inb_S9x1024x1024_S1x1024x1024_5_0_0)) (k0_pay14 (rowsAt m c t) (matAt m c t inb_S9x1024x1024_S1x1024x1024_5_0_0))⟩ : View.Piece (Elt Ideal) S256x1024 .f32),
        ⟨Rect.unit (s := S256x1024) ![0, 0] S256x512.size inb_S256x1024_S256x512_0_0, k0_pay12 (F := Ideal) (rowsAt m c t) (matAt m c t inb_S9x1024x1024_S1x1024x1024_4_0_0)⟩] (ix2 r l)
      = gated (prods m c) (flatOf t r) l := by
  refine (View.canon_apply_of_pieces (Val := Elt Ideal) (S := S256x1024) (e := .f32) (gatedAt m c t) _ ?_ (ix2 r l) ?_).trans rfl
  · intro p hp
    simp only [List.mem_cons, List.not_mem_nil, or_false] at hp
    obtain rfl | rfl := hp
    · exact right m c t
    · exact left m c t
  · have hr := r.isLt
    have hl := l.isLt
    have inside : ∀ (n : ℕ) (inb), n ≤ l.val → l.val < n + 512 → ix2 r l ∈ (Rect.unit (s := S256x1024) ![0, n] S256x512.size inb).set := fun n inb h h' => by
      rw [Rect.mem_set_unit]
      intro a
      match a with
      | ⟨0, _⟩ => exact ⟨Nat.zero_le _, by show r.val < 0 + 256; omega⟩
      | ⟨1, _⟩ => exact ⟨h, h'⟩
    by_cases h1 : 512 ≤ l.val
    · exact ⟨_, .head _, inside 512 inb_S256x1024_S256x512_0_512 h1 (by omega)⟩
    · exact ⟨_, .tail _ (.head _), inside 0 inb_S256x1024_S256x512_0_0 (Nat.zero_le _) (by omega)⟩

theorem flushed5_eq : (dats m 0 c).flushed 5 t = ((cfg0.win 5).blk t).view.read (Elt Ideal) (arr2 (queries (prods m c)) : FVec Ideal S512x1024 .bf16) := by
  rw [flushed5_A, out_5]
  funext y
  exact block2 t _ (fun x => ((cfg0.win 5).blk t).view.emb x) (queries (prods m c)) (emb5 t) (fun r l => by
    refine (q_apply _ _ r l).trans ?_
    rw [dot0]
    rfl) y

theorem final5 : (dats m 0 c).arrAt 5 cfg0.N = (arr2 (queries (prods m c)) : FVec Ideal S512x1024 .bf16) :=
  (dats m 0 c).arrAt_eq_of_cover 5 (arr2 (queries (prods m c)) : FVec Ideal S512x1024 .bf16) (fun t _ => flushed5_eq m c t) covered5

theorem flushed6_eq : (dats m 0 c).flushed 6 t = ((cfg0.win 6).blk t).view.read (Elt Ideal) (arr3 (across (prods m c) 1) : FVec Ideal S1x1024x512 .f32) := by
  rw [flushed6_A, out_6]
  funext y
  exact block3 t _ (fun x => ((cfg0.win 6).blk t).view.emb x) (across (prods m c) 1) (emb6 t) (fun r l => by
    refine (kt_apply _ _ r l).trans ?_
    rw [dot1]) y

theorem final6 : (dats m 0 c).arrAt 6 cfg0.N = (arr3 (across (prods m c) 1) : FVec Ideal S1x1024x512 .f32) :=
  (dats m 0 c).arrAt_eq_of_cover 6 (arr3 (across (prods m c) 1) : FVec Ideal S1x1024x512 .f32) (fun t _ => flushed6_eq m c t) covered6

theorem flushed7_eq : (dats m 0 c).flushed 7 t = ((cfg0.win 7).blk t).view.read (Elt Ideal) (arr4 (blocked (prods m c) 1) : FVec Ideal S1x2x1024x256 .bf16) := by
  rw [flushed7_A, out_7]
  funext y
  exact block4 t _ (fun x => ((cfg0.win 7).blk t).view.emb x) (blocked (prods m c) 1) (emb7 t) (fun r l => by
    refine (ktb_apply _ _ r l).trans ?_
    rw [dot1]
    rfl) y

theorem final7 : (dats m 0 c).arrAt 7 cfg0.N = (arr4 (blocked (prods m c) 1) : FVec Ideal S1x2x1024x256 .bf16) :=
  (dats m 0 c).arrAt_eq_of_cover 7 (arr4 (blocked (prods m c) 1) : FVec Ideal S1x2x1024x256 .bf16) (fun t _ => flushed7_eq m c t) covered7

theorem flushed8_eq : (dats m 0 c).flushed 8 t = ((cfg0.win 8).blk t).view.read (Elt Ideal) (arr3 (across (prods m c) 2) : FVec Ideal S1x1024x512 .f32) := by
  rw [flushed8_A, out_8]
  funext y
  exact block3 t _ (fun x => ((cfg0.win 8).blk t).view.emb x) (across (prods m c) 2) (emb8 t) (fun r l => by
    refine (vt_apply _ _ r l).trans ?_
    rw [dot2]) y

theorem final8 : (dats m 0 c).arrAt 8 cfg0.N = (arr3 (across (prods m c) 2) : FVec Ideal S1x1024x512 .f32) :=
  (dats m 0 c).arrAt_eq_of_cover 8 (arr3 (across (prods m c) 2) : FVec Ideal S1x1024x512 .f32) (fun t _ => flushed8_eq m c t) covered8

theorem flushed9_eq : (dats m 0 c).flushed 9 t = ((cfg0.win 9).blk t).view.read (Elt Ideal) (arr4 (blocked (prods m c) 2) : FVec Ideal S1x2x1024x256 .bf16) := by
  rw [flushed9_A, out_9]
  funext y
  exact block4 t _ (fun x => ((cfg0.win 9).blk t).view.emb x) (blocked (prods m c) 2) (emb9 t) (fun r l => by
    refine (vtb_apply _ _ r l).trans ?_
    rw [dot2]
    rfl) y

theorem final9 : (dats m 0 c).arrAt 9 cfg0.N = (arr4 (blocked (prods m c) 2) : FVec Ideal S1x2x1024x256 .bf16) :=
  (dats m 0 c).arrAt_eq_of_cover 9 (arr4 (blocked (prods m c) 2) : FVec Ideal S1x2x1024x256 .bf16) (fun t _ => flushed9_eq m c t) covered9

theorem flushed10_eq : (dats m 0 c).flushed 10 t = ((cfg0.win 10).blk t).view.read (Elt Ideal) (arr2 (silu (prods m c) 3) : FVec Ideal S512x1024 .bf16) := by
  rw [flushed10_A, out_10]
  funext y
  exact block2 t _ (fun x => ((cfg0.win 10).blk t).view.emb x) (silu (prods m c) 3) (emb10 t) (fun r l => by
    refine (sga_apply _ _ r l).trans ?_
    rw [dot3]
    rfl) y

theorem final10 : (dats m 0 c).arrAt 10 cfg0.N = (arr2 (silu (prods m c) 3) : FVec Ideal S512x1024 .bf16) :=
  (dats m 0 c).arrAt_eq_of_cover 10 (arr2 (silu (prods m c) 3) : FVec Ideal S512x1024 .bf16) (fun t _ => flushed10_eq m c t) covered10

theorem flushed11_eq : (dats m 0 c).flushed 11 t = ((cfg0.win 11).blk t).view.read (Elt Ideal) (arr2 (gated (prods m c)) : FVec Ideal S512x1024 .f32) := by
  rw [flushed11_A, out_11]
  funext y
  exact block2 t _ (fun x => ((cfg0.win 11).blk t).view.emb x) (gated (prods m c)) (emb11 t) (fun r l => gated_apply m c t r l) y

theorem final11 : (dats m 0 c).arrAt 11 cfg0.N = (arr2 (gated (prods m c)) : FVec Ideal S512x1024 .f32) :=
  (dats m 0 c).arrAt_eq_of_cover 11 (arr2 (gated (prods m c)) : FVec Ideal S512x1024 .f32) (fun t _ => flushed11_eq m c t) covered11

theorem flushed12_eq : (dats m 0 c).flushed 12 t = ((cfg0.win 12).blk t).view.read (Elt Ideal) (arr2 (silu (prods m c) 6) : FVec Ideal S512x1024 .bf16) := by
  rw [flushed12_A, out_12]
  funext y
  exact block2 t _ (fun x => ((cfg0.win 12).blk t).view.emb x) (silu (prods m c) 6) (emb12 t) (fun r l => by
    refine (sgc_apply _ _ r l).trans ?_
    rw [dot6]
    rfl) y

theorem final12 : (dats m 0 c).arrAt 12 cfg0.N = (arr2 (silu (prods m c) 6) : FVec Ideal S512x1024 .bf16) :=
  (dats m 0 c).arrAt_eq_of_cover 12 (arr2 (silu (prods m c) 6) : FVec Ideal S512x1024 .bf16) (fun t _ => flushed12_eq m c t) covered12

theorem flushed13_eq : (dats m 0 c).flushed 13 t = ((cfg0.win 13).blk t).view.read (Elt Ideal) (arr2 (gate (prods m c) 7) : FVec Ideal S512x1024 .bf16) := by
  rw [flushed13_A, out_13]
  funext y
  exact block2 t _ (fun x => ((cfg0.win 13).blk t).view.emb x) (gate (prods m c) 7) (emb13 t) (fun r l => by
    refine (sma_apply _ _ r l).trans ?_
    rw [dot7]
    rfl) y

theorem final13 : (dats m 0 c).arrAt 13 cfg0.N = (arr2 (gate (prods m c) 7) : FVec Ideal S512x1024 .bf16) :=
  (dats m 0 c).arrAt_eq_of_cover 13 (arr2 (gate (prods m c) 7) : FVec Ideal S512x1024 .bf16) (fun t _ => flushed13_eq m c t) covered13

theorem flushed14_eq : (dats m 0 c).flushed 14 t = ((cfg0.win 14).blk t).view.read (Elt Ideal) (arr2 (gate (prods m c) 8) : FVec Ideal S512x1024 .bf16) := by
  rw [flushed14_A, out_14]
  funext y
  exact block2 t _ (fun x => ((cfg0.win 14).blk t).view.emb x) (gate (prods m c) 8) (emb14 t) (fun r l => by
    refine (smc_apply _ _ r l).trans ?_
    rw [dot8]
    rfl) y

theorem final14 : (dats m 0 c).arrAt 14 cfg0.N = (arr2 (gate (prods m c) 8) : FVec Ideal S512x1024 .bf16) :=
  (dats m 0 c).arrAt_eq_of_cover 14 (arr2 (gate (prods m c) 8) : FVec Ideal S512x1024 .bf16) (fun t _ => flushed14_eq m c t) covered14

end Cert.SampleIdeal.Value

end
-- ==== Proof.SampAlgebraic.lean ====
/-
  The projection kernel of the sample group and its reference compute the same ten arrays over the extended reals.
-/
module

public import proofs.«01_k».proof.Defs
public import proofs.«01_k».proof.Proof.Gen.SampledIdeal.Run
public import proofs.«01_k».proof.Proof.SampRef
public import proofs.«01_k».proof.Proof.SampArray

@[expose] public section

set_option maxRecDepth 16384

noncomputable section

namespace Cert.Proof

open Idealize.ShloMosaic Idealize.SL.Sem

set_option maxHeartbeats 4000000 in
/-- From equal arguments the projection kernel of the sample group and its reference end with equal results. -/
theorem algebraicSample : Cert.algebraic_SampleIdeal_SampledIdeal := fun m g m' g' _ hargs => by
  refine ⟨fun c => Proj.arr2 (Samp.queries (Cert.SampleIdeal.Value.prods m c)),
    fun c => Proj.arr3 (Samp.across (Cert.SampleIdeal.Value.prods m c) 1),
    fun c => Proj.arr4 (Samp.blocked (Cert.SampleIdeal.Value.prods m c) 1),
    fun c => Proj.arr3 (Samp.across (Cert.SampleIdeal.Value.prods m c) 2),
    fun c => Proj.arr4 (Samp.blocked (Cert.SampleIdeal.Value.prods m c) 2),
    fun c => Proj.arr2 (Samp.silu (Cert.SampleIdeal.Value.prods m c) 3),
    fun c => Proj.arr2 (Samp.gated (Cert.SampleIdeal.Value.prods m c)),
    fun c => Proj.arr2 (Samp.silu (Cert.SampleIdeal.Value.prods m c) 6),
    fun c => Proj.arr2 (Samp.gate (Cert.SampleIdeal.Value.prods m c) 7),
    fun c => Proj.arr2 (Samp.gate (Cert.SampleIdeal.Value.prods m c) 8), ?_, ?_⟩
  · refine (θ_run _ _ _).mono (fun r h c => ?_) (Cert.SampleIdeal.Value.run_blocks m g)
    obtain ⟨h0, h1, h2, h3, h4, h5, h6, h7, h8, h9, ha⟩ := h c
    exact ⟨h0.trans (Cert.SampleIdeal.Value.final5 m c), h1.trans (Cert.SampleIdeal.Value.final6 m c), h2.trans (Cert.SampleIdeal.Value.final7 m c), h3.trans (Cert.SampleIdeal.Value.final8 m c), h4.trans (Cert.SampleIdeal.Value.final9 m c), h5.trans (Cert.SampleIdeal.Value.final10 m c), h6.trans (Cert.SampleIdeal.Value.final11 m c), h7.trans (Cert.SampleIdeal.Value.final12 m c), h8.trans (Cert.SampleIdeal.Value.final13 m c), h9.trans (Cert.SampleIdeal.Value.final14 m c), ha⟩
  · refine (θ_run _ _ _).mono (fun r h c => ?_) (Cert.SampledIdeal.Value.run m' g')
    have e : Samp.lanes (m' ((c.tc : Thread Cert.SampledIdeal.nD Cert.SampledIdeal.τ).loc Cert.SampledIdeal.main_arg0)) (m' ((c.tc : Thread Cert.SampledIdeal.nD Cert.SampledIdeal.τ).loc Cert.SampledIdeal.main_arg1)) (m' ((c.tc : Thread Cert.SampledIdeal.nD Cert.SampledIdeal.τ).loc Cert.SampledIdeal.main_arg2)) (m' ((c.tc : Thread Cert.SampledIdeal.nD Cert.SampledIdeal.τ).loc Cert.SampledIdeal.main_arg3)) (m' ((c.tc : Thread Cert.SampledIdeal.nD Cert.SampledIdeal.τ).loc Cert.SampledIdeal.main_arg4)) = Cert.SampleIdeal.Value.prods m c := by
      obtain ⟨e0, e1, e2, e3, e4⟩ := hargs c
      rw [e0, e1, e2, e3, e4]
      rfl
    obtain ⟨h0, h1, h2, h3, h4, h5, h6, h7, h8, h9, ha⟩ := h c
    exact ⟨(h0.trans (Cert.SampledIdeal.Value.res0 _ _ _ _ _)).trans (congrArg (fun P => Proj.arr2 (Samp.queries P)) e),
      (h1.trans (Cert.SampledIdeal.Value.res1 _ _ _ _ _)).trans (congrArg (fun P => Proj.arr3 (Samp.across P 1)) e),
      (h2.trans (Cert.SampledIdeal.Value.res2 _ _ _ _ _)).trans (congrArg (fun P => Proj.arr4 (Samp.blocked P 1)) e),
      (h3.trans (Cert.SampledIdeal.Value.res3 _ _ _ _ _)).trans (congrArg (fun P => Proj.arr3 (Samp.across P 2)) e),
      (h4.trans (Cert.SampledIdeal.Value.res4 _ _ _ _ _)).trans (congrArg (fun P => Proj.arr4 (Samp.blocked P 2)) e),
      (h5.trans (Cert.SampledIdeal.Value.res5 _ _ _ _ _)).trans (congrArg (fun P => Proj.arr2 (Samp.silu P 3)) e),
      (h6.trans (Cert.SampledIdeal.Value.res6 _ _ _ _ _)).trans (congrArg (fun P => Proj.arr2 (Samp.gated P)) e),
      (h7.trans (Cert.SampledIdeal.Value.res7 _ _ _ _ _)).trans (congrArg (fun P => Proj.arr2 (Samp.silu P 6)) e),
      (h8.trans (Cert.SampledIdeal.Value.res8 _ _ _ _ _)).trans (congrArg (fun P => Proj.arr2 (Samp.gate P 7)) e),
      (h9.trans (Cert.SampledIdeal.Value.res9 _ _ _ _ _)).trans (congrArg (fun P => Proj.arr2 (Samp.gate P 8)) e), ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import proofs.«01_k».proof.Proof.Gen.KernelIdeal.Value
public import proofs.«01_k».proof.Proof.Gen.ReferenceIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.ProjectedIdeal
public import proofs.«01_k».proof.Proof.Gen.ProjectedIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampledIdeal
public import proofs.«01_k».proof.Proof.Gen.SampledIdeal.Run
public import Idealize.ShloMosaic.Init
public import proofs.«01_k».proof.Proof.Algebraic
public import proofs.«01_k».proof.Proof.ProjAlgebraic
public import proofs.«01_k».proof.Proof.SampAlgebraic

@[expose] public section

noncomputable section

namespace Cert.Proof

open Idealize.ShloMosaic Idealize.SL.Sem Cert.Kernel

/-- The kernel leaves its arguments and ends quiet; so does its idealization, and so does the reference; the idealization
    is the kernel's; and from equal finite arguments it ends with the reference's result. The same of the projections,
    of the prompt and of the sample group, from any equal arguments. -/
theorem claim : Cert.Claim := ⟨Cert.Kernel.Gen.facts, Cert.KernelIdeal.Gen.facts, Cert.ReferenceIdeal.Gen.facts,
  Cert.Projection.Gen.facts, Cert.ProjectionIdeal.Gen.facts, Cert.ProjectedIdeal.Gen.facts,
  Cert.Sample.Gen.facts, Cert.SampleIdeal.Gen.facts, Cert.SampledIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run m ρ),
  fun m ρ _ => (θ_run Cert.ReferenceIdeal.defs _ _).mono
    (fun r h => ⟨fun c => (h c).2, sem_eq_zero_of_no_sems (by decide) r.2⟩) (Cert.ReferenceIdeal.Value.run m ρ),
  fun m ρ _ => Cert.Projection.Gen.frame m ρ,
  fun m ρ _ => Cert.ProjectionIdeal.Gen.frame m ρ,
  fun m ρ _ => (θ_run Cert.ProjectedIdeal.defs _ _).mono
    (fun r h => ⟨fun c => (h c).2.2.2.2.2.2.2.2.2.2, sem_eq_zero_of_no_sems (by decide) r.2⟩) (Cert.ProjectedIdeal.Value.run m ρ),
  fun m ρ _ => Cert.Sample.Gen.frame m ρ,
  fun m ρ _ => Cert.SampleIdeal.Gen.frame m ρ,
  fun m ρ _ => (θ_run Cert.SampledIdeal.defs _ _).mono
    (fun r h => ⟨fun c => (h c).2.2.2.2.2.2.2.2.2.2, sem_eq_zero_of_no_sems (by decide) r.2⟩) (Cert.SampledIdeal.Value.run m ρ),
  IdealRules.named_const.statement Cert.KernelIdeal.κ "neg_log2e" .f32 0xBFB8AA3B#32 ((-((Real.log 2)⁻¹) : ℝ) : EReal) rfl,
  Cert.Proof.algebraic,
  trivial,
  Cert.Proof.algebraicProjection,
  trivial,
  Cert.Proof.algebraicSample⟩

end Cert.Proof

end
